-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v28)) (v4 : (c : Dev Cert.KernelIdeal.nD) → Buf (Elt Ideal) ((c.tc : Thread Cert.KernelIdeal.nD Cert.KernelIdeal.τ).loc Cert.KernelIdeal.main_v9_1)) (v5 : (c : Dev Cert.KernelIdeal.nD) → Buf (Elt Ideal) ((c.tc : Thread Cert.KernelIdeal.nD Cert.KernelIdeal.τ).loc Cert.KernelIdeal.main_v30)) (v6 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_v9_1) = v4 c
          ∧ r.2.mem ((c.tc : Thread Cert.KernelIdeal.nD Cert.KernelIdeal.τ).loc Cert.KernelIdeal.main_v30) = v5 c
          ∧ r.2.mem ((c.tc : Thread Cert.KernelIdeal.nD Cert.KernelIdeal.τ).loc Cert.KernelIdeal.main_v34) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v105) = v4 c
          ∧ r.2.mem ((c.tc : Thread Cert.ReferenceIdeal.nD Cert.ReferenceIdeal.τ).loc Cert.ReferenceIdeal.main_v11) = v5 c
          ∧ r.2.mem ((c.tc : Thread Cert.ReferenceIdeal.nD Cert.ReferenceIdeal.τ).loc Cert.ReferenceIdeal.main_v2) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x5x2304 : Shape := ⟨3, ![16, 5, 2304]⟩
abbrev S1152x128256 : Shape := ⟨2, ![1152, 128256]⟩
abbrev S18x128256 : Shape := ⟨2, ![18, 128256]⟩
abbrev S16x4x896 : Shape := ⟨3, ![16, 4, 896]⟩
abbrev S896x128256 : Shape := ⟨2, ![896, 128256]⟩
abbrev S128256 : Shape := ⟨1, ![128256]⟩
abbrev S16x4 : Shape := ⟨2, ![16, 4]⟩
abbrev S1 : Shape := ⟨1, ![1]⟩
abbrev S5x16x2304 : Shape := ⟨3, ![5, 16, 2304]⟩
abbrev S80x2304 : Shape := ⟨2, ![80, 2304]⟩
abbrev S4x16x896 : Shape := ⟨3, ![4, 16, 896]⟩
abbrev S64x896 : Shape := ⟨2, ![64, 896]⟩
abbrev S1x128256 : Shape := ⟨2, ![1, 128256]⟩
abbrev S80x128256 : Shape := ⟨2, ![80, 128256]⟩
abbrev S64x128256 : Shape := ⟨2, ![64, 128256]⟩
abbrev S80x128 : Shape := ⟨2, ![80, 128]⟩
abbrev S64x128 : Shape := ⟨2, ![64, 128]⟩
abbrev S1152x768 : Shape := ⟨2, ![1152, 768]⟩
abbrev S18x768 : Shape := ⟨2, ![18, 768]⟩
abbrev S896x768 : Shape := ⟨2, ![896, 768]⟩
abbrev S1x768 : Shape := ⟨2, ![1, 768]⟩
abbrev S80x768 : Shape := ⟨2, ![80, 768]⟩
abbrev S64x768 : Shape := ⟨2, ![64, 768]⟩
abbrev S64 : Shape := ⟨1, ![64]⟩
abbrev S64x1 : Shape := ⟨2, ![64, 1]⟩
abbrev S1x1 : Shape := ⟨2, ![1, 1]⟩
abbrev S1152x1x768 : Shape := ⟨3, ![1152, 1, 768]⟩
abbrev S1152x2x768 : Shape := ⟨3, ![1152, 2, 768]⟩
abbrev S2304x768 : Shape := ⟨2, ![2304, 768]⟩
abbrev S18x128x768 : Shape := ⟨3, ![18, 128, 768]⟩
abbrev S18x1x768 : Shape := ⟨3, ![18, 1, 768]⟩
abbrev S80 : Shape := ⟨1, ![80]⟩
abbrev S80x1 : Shape := ⟨2, ![80, 1]⟩
abbrev S4x16 : Shape := ⟨2, ![4, 16]⟩
abbrev S16x128256 : Shape := ⟨2, ![16, 128256]⟩
abbrev S16x768 : Shape := ⟨2, ![16, 768]⟩
abbrev S_ : Shape := ⟨0, ![]⟩
abbrev S4x16x128256 : Shape := ⟨3, ![4, 16, 128256]⟩
abbrev S16x4x128256 : Shape := ⟨3, ![16, 4, 128256]⟩

abbrev nBuf : Space → Nat
  | .hbm => 55
  | .vmem => 45
  | .smem => 1
  | _ => 0

abbrev bufTy : (tb : Table) → Fin (tcTables nBuf tb) → BufTy
  | .hbm, ⟨0, _⟩ => ⟨S16x5x2304, .bf16⟩
  | .hbm, ⟨1, _⟩ => ⟨S1152x128256, .i8⟩
  | .hbm, ⟨2, _⟩ => ⟨S18x128256, .f32⟩
  | .hbm, ⟨3, _⟩ => ⟨S16x4x896, .bf16⟩
  | .hbm, ⟨4, _⟩ => ⟨S896x128256, .fp8e4m3⟩
  | .hbm, ⟨5, _⟩ => ⟨S128256, .f32⟩
  | .hbm, ⟨6, _⟩ => ⟨S16x4, .i32⟩
  | .hbm, ⟨7, _⟩ => ⟨S16x4, .f32⟩
  | .hbm, ⟨8, _⟩ => ⟨S1, .i32⟩
  | .hbm, ⟨9, _⟩ => ⟨S5x16x2304, .bf16⟩
  | .hbm, ⟨10, _⟩ => ⟨S80x2304, .bf16⟩
  | .hbm, ⟨11, _⟩ => ⟨S4x16x896, .bf16⟩
  | .hbm, ⟨12, _⟩ => ⟨S64x896, .bf16⟩
  | .hbm, ⟨13, _⟩ => ⟨S1x128256, .f32⟩
  | .hbm, ⟨14, _⟩ => ⟨S80x128256, .f32⟩
  | .hbm, ⟨15, _⟩ => ⟨S64x128256, .f32⟩
  | .hbm, ⟨16, _⟩ => ⟨S80x128, .f32⟩
  | .hbm, ⟨17, _⟩ => ⟨S80x128, .f32⟩
  | .hbm, ⟨18, _⟩ => ⟨S64x128, .f32⟩
  | .hbm, ⟨19, _⟩ => ⟨S64x128, .f32⟩
  | .hbm, ⟨20, _⟩ => ⟨S64x896, .fp8e4m3⟩
  | .hbm, ⟨21, _⟩ => ⟨S64x128, .f32⟩
  | .hbm, ⟨22, _⟩ => ⟨S64x128, .f32⟩
  | .hbm, ⟨23, _⟩ => ⟨S4x16, .i32⟩
  | .hbm, ⟨24, _⟩ => ⟨S64x1, .i32⟩
  | .hbm, ⟨25, _⟩ => ⟨S64x128256, .bf16⟩
  | .hbm, ⟨26, _⟩ => ⟨S16x128256, .bf16⟩
  | .hbm, ⟨27, _⟩ => ⟨S64x128, .f32⟩
  | .hbm, ⟨28, _⟩ => ⟨S64x128, .f32⟩
  | .hbm, ⟨29, _⟩ => ⟨S64x1, .f32⟩
  | .hbm, ⟨30, _⟩ => ⟨S64, .f32⟩
  | .hbm, ⟨31, _⟩ => ⟨S4x16, .f32⟩
  | .hbm, ⟨32, _⟩ => ⟨S16x4, .f32⟩
  | .hbm, ⟨33, _⟩ => ⟨S64x1, .f32⟩
  | .hbm, ⟨34, _⟩ => ⟨S64, .f32⟩
  | .hbm, ⟨35, _⟩ => ⟨S4x16, .f32⟩
  | .hbm, ⟨36, _⟩ => ⟨S16x4, .f32⟩
  | .hbm, ⟨37, _⟩ => ⟨S16x4, .f32⟩
  | .hbm, ⟨38, _⟩ => ⟨S_, .f32⟩
  | .hbm, ⟨39, _⟩ => ⟨S16x4, .f32⟩
  | .hbm, ⟨40, _⟩ => ⟨S16x4, .f32⟩
  | .hbm, ⟨41, _⟩ => ⟨S4x16x128256, .bf16⟩
  | .hbm, ⟨42, _⟩ => ⟨S16x4x128256, .bf16⟩
  | .hbm, ⟨43, _⟩ => ⟨S64x1, .f32⟩
  | .hbm, ⟨44, _⟩ => ⟨S64, .f32⟩
  | .hbm, ⟨45, _⟩ => ⟨S4x16, .f32⟩
  | .hbm, ⟨46, _⟩ => ⟨S16x4, .f32⟩
  | .hbm, ⟨47, _⟩ => ⟨S16x4, .f32⟩
  | .hbm, ⟨48, _⟩ => ⟨S16x4, .f32⟩
  | .hbm, ⟨49, _⟩ => ⟨S4x16x896, .fp8e4m3⟩
  | .hbm, ⟨50, _⟩ => ⟨S16x4x896, .fp8e4m3⟩
  | .hbm, ⟨51, _⟩ => ⟨S64x1, .f32⟩
  | .hbm, ⟨52, _⟩ => ⟨S64, .f32⟩
  | .hbm, ⟨53, _⟩ => ⟨S4x16, .f32⟩
  | .hbm, ⟨54, _⟩ => ⟨S16x4, .f32⟩
  | .local _ .vmem, ⟨0, _⟩ => ⟨S80x2304, .bf16⟩
  | .local _ .vmem, ⟨1, _⟩ => ⟨S1152x768, .i8⟩
  | .local _ .vmem, ⟨2, _⟩ => ⟨S1152x768, .i8⟩
  | .local _ .vmem, ⟨3, _⟩ => ⟨S18x768, .f32⟩
  | .local _ .vmem, ⟨4, _⟩ => ⟨S18x768, .f32⟩
  | .local _ .vmem, ⟨5, _⟩ => ⟨S64x896, .bf16⟩
  | .local _ .vmem, ⟨6, _⟩ => ⟨S896x768, .fp8e4m3⟩
  | .local _ .vmem, ⟨7, _⟩ => ⟨S896x768, .fp8e4m3⟩
  | .local _ .vmem, ⟨8, _⟩ => ⟨S1x768, .f32⟩
  | .local _ .vmem, ⟨9, _⟩ => ⟨S1x768, .f32⟩
  | .local _ .vmem, ⟨10, _⟩ => ⟨S80x768, .f32⟩
  | .local _ .vmem, ⟨11, _⟩ => ⟨S80x768, .f32⟩
  | .local _ .vmem, ⟨12, _⟩ => ⟨S64x768, .f32⟩
  | .local _ .vmem, ⟨13, _⟩ => ⟨S64x768, .f32⟩
  | .local _ .vmem, ⟨14, _⟩ => ⟨S80x128, .f32⟩
  | .local _ .vmem, ⟨15, _⟩ => ⟨S80x128, .f32⟩
  | .local _ .vmem, ⟨16, _⟩ => ⟨S64x128, .f32⟩
  | .local _ .vmem, ⟨17, _⟩ => ⟨S64x128, .f32⟩
  | .local _ .vmem, ⟨18, _⟩ => ⟨S64x896, .fp8e4m3⟩
  | .local _ .vmem, ⟨19, _⟩ => ⟨S64x128, .f32⟩
  | .local _ .vmem, ⟨20, _⟩ => ⟨S64x768, .f32⟩
  | .local _ .vmem, ⟨21, _⟩ => ⟨S64x768, .f32⟩
  | .local _ .vmem, ⟨22, _⟩ => ⟨S64x768, .f32⟩
  | .local _ .vmem, ⟨23, _⟩ => ⟨S64x768, .f32⟩
  | .local _ .vmem, ⟨24, _⟩ => ⟨S80x128, .f32⟩
  | .local _ .vmem, ⟨25, _⟩ => ⟨S80x128, .f32⟩
  | .local _ .vmem, ⟨26, _⟩ => ⟨S64x128, .f32⟩
  | .local _ .vmem, ⟨27, _⟩ => ⟨S64x128, .f32⟩
  | .local _ .vmem, ⟨28, _⟩ => ⟨S64x128, .f32⟩
  | .local _ .vmem, ⟨29, _⟩ => ⟨S80x768, .f32⟩
  | .local _ .vmem, ⟨30, _⟩ => ⟨S80x768, .f32⟩
  | .local _ .vmem, ⟨31, _⟩ => ⟨S64x768, .f32⟩
  | .local _ .vmem, ⟨32, _⟩ => ⟨S64x768, .f32⟩
  | .local _ .vmem, ⟨33, _⟩ => ⟨S80x128, .f32⟩
  | .local _ .vmem, ⟨34, _⟩ => ⟨S80x128, .f32⟩
  | .local _ .vmem, ⟨35, _⟩ => ⟨S64x128, .f32⟩
  | .local _ .vmem, ⟨36, _⟩ => ⟨S64x128, .f32⟩
  | .local _ .vmem, ⟨37, _⟩ => ⟨S64x128, .f32⟩
  | .local _ .vmem, ⟨38, _⟩ => ⟨S64x1, .i32⟩
  | .local _ .vmem, ⟨39, _⟩ => ⟨S64x768, .bf16⟩
  | .local _ .vmem, ⟨40, _⟩ => ⟨S64x768, .bf16⟩
  | .local _ .vmem, ⟨41, _⟩ => ⟨S16x768, .bf16⟩
  | .local _ .vmem, ⟨42, _⟩ => ⟨S16x768, .bf16⟩
  | .local _ .vmem, ⟨43, _⟩ => ⟨S64x128, .f32⟩
  | .local _ .vmem, ⟨44, _⟩ => ⟨S64x128, .f32⟩
  | .local _ .smem, ⟨0, _⟩ => ⟨S1, .i32⟩
  | _, _ => ⟨S16x5x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev main_v9_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg8_1 : Ref sig .tc := ⟨.vmem, 40, rfl⟩
abbrev cc2_stg9_0 : Ref sig .tc := ⟨.vmem, 41, rfl⟩
abbrev cc2_stg9_1 : Ref sig .tc := ⟨.vmem, 42, rfl⟩
abbrev cc2_stg10_0 : Ref sig .tc := ⟨.vmem, 43, rfl⟩
abbrev cc2_stg11_0 : Ref sig .tc := ⟨.vmem, 44, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem8_1 : DmaSem sig := 41
abbrev cc2_sem9_0 : DmaSem sig := 42
abbrev cc2_sem9_1 : DmaSem sig := 43
abbrev cc2_sem10_0 : DmaSem sig := 44
abbrev cc2_sem11_0 : DmaSem sig := 45

abbrev nD : Nat := 1
abbrev τ : Topo := Topo.v7x

variable {F : FTy → Type} [FloatOps F]

abbrev grid0 : Pipeline.Grid := ⟨1, ![167], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S80x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1152x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S18x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S896x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S80x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S80x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S80x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x896 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := ⟨1, ![167], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S80x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S80x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![167], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S80x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S80x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S80x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S64x768 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S16x768 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S64x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]
-- ==== ReferenceIdeal.lean ====
abbrev S16x5x2304 : Shape := ⟨3, ![16, 5, 2304]⟩
abbrev S1152x128256 : Shape := ⟨2, ![1152, 128256]⟩
abbrev S18x128256 : Shape := ⟨2, ![18, 128256]⟩
abbrev S16x4x896 : Shape := ⟨3, ![16, 4, 896]⟩
abbrev S896x128256 : Shape := ⟨2, ![896, 128256]⟩
abbrev S128256 : Shape := ⟨1, ![128256]⟩
abbrev S16x4 : Shape := ⟨2, ![16, 4]⟩
abbrev S1 : Shape := ⟨1, ![1]⟩
abbrev S_ : Shape := ⟨0, ![]⟩
abbrev S1x1x1 : Shape := ⟨3, ![1, 1, 1]⟩
abbrev S64x896 : Shape := ⟨2, ![64, 896]⟩
abbrev S64x128256 : Shape := ⟨2, ![64, 128256]⟩
abbrev S16x4x128256 : Shape := ⟨3, ![16, 4, 128256]⟩
abbrev S1x1x128256 : Shape := ⟨3, ![1, 1, 128256]⟩
abbrev S18x64x128256 : Shape := ⟨3, ![18, 64, 128256]⟩
abbrev S18x1x128256 : Shape := ⟨3, ![18, 1, 128256]⟩
abbrev S16x5x1152 : Shape := ⟨3, ![16, 5, 1152]⟩
abbrev S16x5x128256 : Shape := ⟨3, ![16, 5, 128256]⟩
abbrev S16x4x1 : Shape := ⟨3, ![16, 4, 1]⟩
abbrev S16x5 : Shape := ⟨2, ![16, 5]⟩
abbrev S16x5x1 : Shape := ⟨3, ![16, 5, 1]⟩
abbrev S16x1x128256 : Shape := ⟨3, ![16, 1, 128256]⟩
abbrev S16x128256 : Shape := ⟨2, ![16, 128256]⟩

abbrev nBuf : Space → Nat
  | .hbm => 148
  | .vmem => 3
  | .smem => 0
  | _ => 0

abbrev hbmTy0_0 (i : Nat) : BufTy := match i % 128 with
  | 0 => ⟨S16x5x2304, .bf16⟩
  | 1 => ⟨S1152x128256, .i8⟩
  | 2 => ⟨S18x128256, .f32⟩
  | 3 => ⟨S16x4x896, .bf16⟩
  | 4 => ⟨S896x128256, .fp8e4m3⟩
  | 5 => ⟨S128256, .f32⟩
  | 6 => ⟨S16x4, .i32⟩
  | 7 => ⟨S16x4, .f32⟩
  | 8 => ⟨S1, .i32⟩
  | 9 => ⟨S16x4x896, .f32⟩
  | 10 => ⟨S16x4x896, .f32⟩
  | 11 => ⟨S_, .f32⟩
  | 12 => ⟨S16x4, .f32⟩
  | 13 => ⟨S1, .i32⟩
  | 14 => ⟨S1, .f32⟩
  | 15 => ⟨S_, .f32⟩
  | 16 => ⟨S1, .f32⟩
  | 17 => ⟨S1, .f32⟩
  | 18 => ⟨S1x1x1, .f32⟩
  | 19 => ⟨S16x4x896, .f32⟩
  | 20 => ⟨S16x4x896, .f32⟩
  | 21 => ⟨S_, .f32⟩
  | 22 => ⟨S_, .f32⟩
  | 23 => ⟨S_, .f32⟩
  | 24 => ⟨S16x4x896, .f32⟩
  | 25 => ⟨S16x4x896, .f32⟩
  | 26 => ⟨S_, .f32⟩
  | 27 => ⟨S16x4x896, .f32⟩
  | 28 => ⟨S16x4x896, .f32⟩
  | 29 => ⟨S16x4x896, .fp8e4m3⟩
  | 30 => ⟨S1, .f32⟩
  | 31 => ⟨S_, .f32⟩
  | 32 => ⟨S1, .f32⟩
  | 33 => ⟨S1, .f32⟩
  | 34 => ⟨S64x896, .fp8e4m3⟩
  | 35 => ⟨S64x128256, .f32⟩
  | 36 => ⟨S16x4x128256, .f32⟩
  | 37 => ⟨S1x1x1, .f32⟩
  | 38 => ⟨S16x4x128256, .f32⟩
  | 39 => ⟨S16x4x128256, .f32⟩
  | 40 => ⟨S1x1x128256, .f32⟩
  | 41 => ⟨S16x4x128256, .f32⟩
  | 42 => ⟨S16x4x128256, .f32⟩
  | 43 => ⟨S1152x128256, .i32⟩
  | 44 => ⟨S18x128256, .bf16⟩
  | 45 => ⟨S_, .i32⟩
  | 46 => ⟨S1152x128256, .i32⟩
  | 47 => ⟨S1152x128256, .i32⟩
  | 48 => ⟨S_, .i32⟩
  | 49 => ⟨S1152x128256, .i32⟩
  | 50 => ⟨S1152x128256, .i1⟩
  | 51 => ⟨S_, .i32⟩
  | 52 => ⟨S1152x128256, .i32⟩
  | 53 => ⟨S1152x128256, .i32⟩
  | 54 => ⟨S1152x128256, .i32⟩
  | 55 => ⟨S1152x128256, .bf16⟩
  | 56 => ⟨S18x64x128256, .bf16⟩
  | 57 => ⟨S18x1x128256, .bf16⟩
  | 58 => ⟨S18x64x128256, .bf16⟩
  | 59 => ⟨S18x64x128256, .bf16⟩
  | 60 => ⟨S1152x128256, .bf16⟩
  | 61 => ⟨S_, .i32⟩
  | 62 => ⟨S1152x128256, .i32⟩
  | 63 => ⟨S1152x128256, .i32⟩
  | 64 => ⟨S_, .i32⟩
  | 65 => ⟨S1152x128256, .i32⟩
  | 66 => ⟨S1152x128256, .i1⟩
  | 67 => ⟨S_, .i32⟩
  | 68 => ⟨S1152x128256, .i32⟩
  | 69 => ⟨S1152x128256, .i32⟩
  | 70 => ⟨S1152x128256, .i32⟩
  | 71 => ⟨S1152x128256, .bf16⟩
  | 72 => ⟨S18x64x128256, .bf16⟩
  | 73 => ⟨S18x1x128256, .bf16⟩
  | 74 => ⟨S18x64x128256, .bf16⟩
  | 75 => ⟨S18x64x128256, .bf16⟩
  | 76 => ⟨S1152x128256, .bf16⟩
  | 77 => ⟨S16x5x1152, .bf16⟩
  | 78 => ⟨S16x5x128256, .f32⟩
  | 79 => ⟨S16x5x1152, .bf16⟩
  | 80 => ⟨S16x5x128256, .f32⟩
  | 81 => ⟨S16x5x128256, .f32⟩
  | 82 => ⟨S_, .f32⟩
  | 83 => ⟨S16x4, .f32⟩
  | 84 => ⟨S_, .f32⟩
  | 85 => ⟨S16x4, .f32⟩
  | 86 => ⟨S16x4, .f32⟩
  | 87 => ⟨S16x4x1, .f32⟩
  | 88 => ⟨S16x4x128256, .f32⟩
  | 89 => ⟨S16x4x128256, .f32⟩
  | 90 => ⟨S16x4x128256, .f32⟩
  | 91 => ⟨S_, .f32⟩
  | 92 => ⟨S16x4, .f32⟩
  | 93 => ⟨S16x4x1, .f32⟩
  | 94 => ⟨S16x4x128256, .f32⟩
  | 95 => ⟨S16x4x128256, .f32⟩
  | 96 => ⟨S_, .f32⟩
  | 97 => ⟨S16x5, .f32⟩
  | 98 => ⟨S_, .f32⟩
  | 99 => ⟨S16x5, .f32⟩
  | 100 => ⟨S16x5, .f32⟩
  | 101 => ⟨S16x5x1, .f32⟩
  | 102 => ⟨S16x5x128256, .f32⟩
  | 103 => ⟨S16x5x128256, .f32⟩
  | 104 => ⟨S16x5x128256, .f32⟩
  | 105 => ⟨S_, .f32⟩
  | 106 => ⟨S16x5, .f32⟩
  | 107 => ⟨S16x5x1, .f32⟩
  | 108 => ⟨S16x5x128256, .f32⟩
  | 109 => ⟨S16x5x128256, .f32⟩
  | 110 => ⟨S16x4x128256, .f32⟩
  | 111 => ⟨S16x4x1, .i32⟩
  | 112 => ⟨S128256, .i32⟩
  | 113 => ⟨S1x1x128256, .i32⟩
  | 114 => ⟨S16x4x128256, .i32⟩
  | 115 => ⟨S16x4x128256, .i32⟩
  | 116 => ⟨S16x4x128256, .i1⟩
  | 117 => ⟨S_, .f32⟩
  | 118 => ⟨S_, .f32⟩
  | 119 => ⟨S16x4x128256, .f32⟩
  | 120 => ⟨S16x4x128256, .f32⟩
  | 121 => ⟨S_, .f32⟩
  | 122 => ⟨S16x4, .f32⟩
  | 123 => ⟨S_, .f32⟩
  | 124 => ⟨S_, .f32⟩
  | 125 => ⟨S16x4x128256, .f32⟩
  | 126 => ⟨S16x4x128256, .f32⟩
  | 127 => ⟨S_, .f32⟩
  | _ => ⟨S16x5x2304, .bf16⟩

abbrev hbmTy0_1 (i : Nat) : BufTy := match i % 128 with
  | 0 => ⟨S16x4, .f32⟩
  | 1 => ⟨S16x4, .f32⟩
  | 2 => ⟨S_, .f32⟩
  | 3 => ⟨S16x4, .f32⟩
  | 4 => ⟨S16x4, .f32⟩
  | 5 => ⟨S16x4, .f32⟩
  | 6 => ⟨S16x4x128256, .f32⟩
  | 7 => ⟨S_, .f32⟩
  | 8 => ⟨S16x4x128256, .f32⟩
  | 9 => ⟨S16x4x128256, .f32⟩
  | 10 => ⟨S_, .f32⟩
  | 11 => ⟨S16x4, .f32⟩
  | 12 => ⟨S16x4x1, .f32⟩
  | 13 => ⟨S16x4x128256, .f32⟩
  | 14 => ⟨S16x4x128256, .f32⟩
  | 15 => ⟨S16x4x128256, .bf16⟩
  | 16 => ⟨S16x4, .f32⟩
  | 17 => ⟨S16x1x128256, .f32⟩
  | 18 => ⟨S16x128256, .f32⟩
  | 19 => ⟨S16x128256, .bf16⟩
  | _ => ⟨S16x5x2304, .bf16⟩

abbrev hbmTy (i : Nat) : BufTy := match i / 128 with
  | 0 => hbmTy0_0 i
  | 1 => hbmTy0_1 i
  | _ => ⟨S16x5x2304, .bf16⟩

abbrev bufTy : (tb : Table) → Fin (tcTables nBuf tb) → BufTy
  | .hbm, ⟨i, _⟩ => hbmTy i
  | .local _ .vmem, ⟨0, _⟩ => ⟨S64x896, .fp8e4m3⟩
  | .local _ .vmem, ⟨1, _⟩ => ⟨S896x128256, .fp8e4m3⟩
  | .local _ .vmem, ⟨2, _⟩ => ⟨S64x128256, .f32⟩
  | _, _ => ⟨S16x5x2304, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_15 : Ref sig .tc := ⟨.hbm, 117, rfl⟩
abbrev main_call3_v0 : Ref sig .tc := ⟨.hbm, 118, rfl⟩
abbrev main_call3_v1 : Ref sig .tc := ⟨.hbm, 119, rfl⟩
abbrev main_v86 : Ref sig .tc := ⟨.hbm, 120, rfl⟩
abbrev main_cst_16 : Ref sig .tc := ⟨.hbm, 121, rfl⟩
abbrev main_v87 : Ref sig .tc := ⟨.hbm, 122, rfl⟩
abbrev main_cst_17 : Ref sig .tc := ⟨.hbm, 123, rfl⟩
abbrev main_call4_v0 : Ref sig .tc := ⟨.hbm, 124, rfl⟩
abbrev main_call4_v1 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_20 : Ref sig .tc := ⟨.hbm, 135, rfl⟩
abbrev main_v95 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S64x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S896x128256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Payloads.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem inb64 (a : Fin S64x1.rank) : S64x1.size a ≤ S64x128.size a := by revert a; decide
theorem inb80_64 (a : Fin S64x1.rank) : S64x1.size a ≤ S80x128.size a := by revert a; decide
theorem inb80 (a : Fin S80x1.rank) : S80x1.size a ≤ S80x128.size a := by revert a; decide

/-- The one word of the exponent's buffer. -/
def word0 (x0 : Vec F S1 .i32) : Elt F .i32 := x0 (fun a => ⟨0, by revert a; decide⟩)
/-- A tile of the target head's logits. -/
def lt0 (x1 : Vec F S80x2304 .bf16) (x2 : Vec F S1152x768 .i8) (x3 : Vec F S18x768 .f32) : Vec F S80x768 .f32 :=
  k0_pay12 (k0_pay10 x2 x3) (k0_pay11 x1) (constant S80x768 .f32 0x00000000#32)
/-- A tile of the draft head's logits, from the quantised activations. -/
def ld0 (e : Elt F .i32) (q : Vec F S64x896 .fp8e4m3) (x5 : Vec F S896x768 .fp8e4m3) (x6 : Vec F S1x768 .f32) : Vec F S64x768 .f32 :=
  k0_pay9 e q x5 x6
/-- The running maximum of the target head after a tile. -/
def mt0 (x1 : Vec F S80x2304 .bf16) (x2 : Vec F S1152x768 .i8) (x3 : Vec F S18x768 .f32) (o9 : Vec F S80x128 .f32) : Vec F S80x128 .f32 :=
  k0_pay14 (k0_pay10 x2 x3) (k0_pay11 x1) (constant S80x768 .f32 0x00000000#32) o9
/-- The running sum of exponentials of the target head after a tile. -/
def st0 (x1 : Vec F S80x2304 .bf16) (x2 : Vec F S1152x768 .i8) (x3 : Vec F S18x768 .f32) (o9 o10 : Vec F S80x128 .f32) : Vec F S80x128 .f32 :=
  k0_pay15 (k0_pay10 x2 x3) (k0_pay11 x1) (constant S80x768 .f32 0x00000000#32) o9 o10
/-- The running maximum of the draft head after a tile. -/
def md0 (l : Vec F S64x768 .f32) (o11 : Vec F S64x128 .f32) : Vec F S64x128 .f32 := k0_pay17 l o11
/-- The running sum of exponentials of the draft head after a tile. -/
def sd0 (l : Vec F S64x768 .f32) (o11 o12 : Vec F S64x128 .f32) : Vec F S64x128 .f32 :=
  k0_pay1 (k0_pay18 l o11) (k0_pay19 o12) (k0_pay20 l o11)

/-- The first column of a 64-row accumulator. -/
def col64 (x : Vec F S64x128 .f32) : Vec F S64x1 .f32 := fun y => x (fun a => Fin.castLE (inb64 a) (y a))
/-- The first column of the first 64 rows of an 80-row accumulator. -/
def col80_64 (x : Vec F S80x128 .f32) : Vec F S64x1 .f32 := fun y => x (fun a => Fin.castLE (inb80_64 a) (y a))
/-- The residual mass after a tile. -/
def z1 (x0 x1 : Vec F S64x768 .f32) (x2 x3 : Vec F S80x128 .f32) (x4 x5 o6 : Vec F S64x128 .f32) : Vec F S64x128 .f32 :=
  k1_pay2 x0 (col80_64 x2) (col80_64 x3) x1 (col64 x4) (col64 x5) o6

/-- The first column of an 80-row accumulator. -/
def col80 (x : Vec F S80x128 .f32) : Vec F S80x1 .f32 := fun y => x (fun a => Fin.castLE (inb80 a) (y a))
/-- A tile of the residual distribution. -/
def resid2 (x0 : Vec F S80x768 .f32) (x1 : Vec F S64x768 .f32) (x2 x3 : Vec F S80x128 .f32) (x4 x5 x6 : Vec F S64x128 .f32) : Vec F S64x768 .bf16 :=
  k2_pay10 x0 (col80 x2) (col80 x3) x1 (col64 x4) (col64 x5) (col64 x6)
/-- A tile of the bonus distribution. -/
def bonus2 (x0 : Vec F S80x768 .f32) (x2 x3 : Vec F S80x128 .f32) : Vec F S16x768 .bf16 := k2_pay8 x0 (col80 x2) (col80 x3)
/-- The target probability of the drafted token after a tile. -/
def ptx2 (n : BitVec 32) (x0 : Vec F S80x768 .f32) (x2 x3 : Vec F S80x128 .f32) (x7 : Vec F S64x1 .i32) (o : Vec F S64x128 .f32) : Vec F S64x128 .f32 :=
  k2_pay2 n (k2_pay9 x0 (col80 x2) (col80 x3)) x7 o
/-- The draft probability of the drafted token after a tile. -/
def pdx2 (n : BitVec 32) (x1 : Vec F S64x768 .f32) (x4 x5 : Vec F S64x128 .f32) (x7 : Vec F S64x1 .i32) (o : Vec F S64x128 .f32) : Vec F S64x128 .f32 :=
  k2_pay3 n (k2_pay7 x1 (col64 x4) (col64 x5)) x7 o

/-! ## Loads and stores of whole buffers read back -/

section
variable {κ : Kind} {sp : Space} {e : EltTy}

theorem readAt_l128 (v : View sig κ sp S64x128 e) (f : v.ty.Contents (Elt F)) (inb : ∀ a, (![0, 0] : Fin 2 → ℕ) a + (![64, 128] : Fin 2 → ℕ) a ≤ S64x128.size a) :
    v.readAt (Elt F) (Rect.unit (s := S64x128) ![0, 0] ![64, 128] inb).toLoadRect f = v.read (Elt F) f := View.readAt_full v f inb
theorem readAt_l1 (v : View sig κ sp S64x1 e) (f : v.ty.Contents (Elt F)) (inb : ∀ a, (![0, 0] : Fin 2 → ℕ) a + (![64, 1] : Fin 2 → ℕ) a ≤ S64x1.size a) :
    v.readAt (Elt F) (Rect.unit (s := S64x1) ![0, 0] ![64, 1] inb).toLoadRect f = v.read (Elt F) f := View.readAt_full v f inb
theorem readCov_l128 (v : View sig κ sp S64x128 e) (inb : ∀ a, (![0, 0] : Fin 2 → ℕ) a + (![64, 128] : Fin 2 → ℕ) a ≤ S64x128.size a)
    (inb' : ∀ a, (![0, 0] : Fin 2 → ℕ) a + S64x128.size a ≤ S64x128.size a) (w : S64x128.Idx → Elt F e) (L : List (View.Piece (Elt F) S64x128 e)) :
    v.readCov (⟨Rect.unit (s := S64x128) ![0, 0] S64x128.size inb', w⟩ :: L) (Rect.unit (s := S64x128) ![0, 0] ![64, 128] inb).toLoadRect = w :=
  View.readCov_full v inb inb' w L
/-- A load of the first column of a buffer. -/
theorem read_col64 (m : Memref sig κ sp S64x128 .f32) (h : m.IsWhole) (x : Vec F S64x128 .f32) (inb : ∀ a, (![0, 0] : Fin 2 → ℕ) a + S64x1.size a ≤ S64x128.size a) :
    m.view.readAt (Elt F) (Rect.unit (s := S64x128) ![0, 0] S64x1.size inb).toLoadRect (h.unread x) = col64 x := by
  funext y
  rw [View.readAt_eq_ld, h.read_unread]
  exact congrArg x (funext fun a => Fin.ext (by fin_cases a <;> (show 0 + 1 * _ = _; rw [Nat.zero_add, Nat.one_mul]; rfl)))
theorem read_col80_64 (m : Memref sig κ sp S80x128 .f32) (h : m.IsWhole) (x : Vec F S80x128 .f32) (inb : ∀ a, (![0, 0] : Fin 2 → ℕ) a + S64x1.size a ≤ S80x128.size a) :
    m.view.readAt (Elt F) (Rect.unit (s := S80x128) ![0, 0] S64x1.size inb).toLoadRect (h.unread x) = col80_64 x := by
  funext y
  rw [View.readAt_eq_ld, h.read_unread]
  exact congrArg x (funext fun a => Fin.ext (by fin_cases a <;> (show 0 + 1 * _ = _; rw [Nat.zero_add, Nat.one_mul]; rfl)))
theorem read_col80 (m : Memref sig κ sp S80x128 .f32) (h : m.IsWhole) (x : Vec F S80x128 .f32) (inb : ∀ a, (![0, 0] : Fin 2 → ℕ) a + S80x1.size a ≤ S80x128.size a) :
    m.view.readAt (Elt F) (Rect.unit (s := S80x128) ![0, 0] S80x1.size inb).toLoadRect (h.unread x) = col80 x := by
  funext y
  rw [View.readAt_eq_ld, h.read_unread]
  exact congrArg x (funext fun a => Fin.ext (by fin_cases a <;> (show 0 + 1 * _ = _; rw [Nat.zero_add, Nat.one_mul]; rfl)))
/-- The one word of the exponent's buffer, as the load finds it. -/
theorem read_word (m : Memref sig κ sp S1 .i32) (h : m.IsWhole) (x : Vec F S1 .i32) (inb : ∀ a, (![0] : Fin 1 → ℕ) a + S1.size a ≤ S1.size a)
    (y : (Rect.unit (s := S1) ![0] S1.size inb).toLoadRect.shape.Idx) :
    m.view.readAt (Elt F) (Rect.unit (s := S1) ![0] S1.size inb).toLoadRect (h.unread x) y = word0 x := by
  rw [View.readAt_full, h.read_unread]
  exact congrArg x (funext fun a => Fin.ext (by
    have h1 : (y a).val < 1 := lt_of_lt_of_eq (y a).isLt (by fin_cases a; rfl)
    show (y a).val = 0
    omega))
end

/-! The same with the sizes written out. -/
section
variable {κ : Kind} {sp : Space} {e : EltTy}
theorem readAt_S80x2304 (v : View sig κ sp S80x2304 e) (f : v.ty.Contents (Elt F)) (inb : ∀ a, (![0, 0] : Fin 2 → ℕ) a + (![80, 2304] : Fin 2 → ℕ) a ≤ S80x2304.size a) :
    v.readAt (Elt F) (Rect.unit (s := S80x2304) ![0, 0] ![80, 2304] inb).toLoadRect f = v.read (Elt F) f := View.readAt_full v f inb
theorem readAt_S1152x768 (v : View sig κ sp S1152x768 e) (f : v.ty.Contents (Elt F)) (inb : ∀ a, (![0, 0] : Fin 2 → ℕ) a + (![1152, 768] : Fin 2 → ℕ) a ≤ S1152x768.size a) :
    v.readAt (Elt F) (Rect.unit (s := S1152x768) ![0, 0] ![1152, 768] inb).toLoadRect f = v.read (Elt F) f := View.readAt_full v f inb
theorem readAt_S18x768 (v : View sig κ sp S18x768 e) (f : v.ty.Contents (Elt F)) (inb : ∀ a, (![0, 0] : Fin 2 → ℕ) a + (![18, 768] : Fin 2 → ℕ) a ≤ S18x768.size a) :
    v.readAt (Elt F) (Rect.unit (s := S18x768) ![0, 0] ![18, 768] inb).toLoadRect f = v.read (Elt F) f := View.readAt_full v f inb
theorem readAt_S64x896 (v : View sig κ sp S64x896 e) (f : v.ty.Contents (Elt F)) (inb : ∀ a, (![0, 0] : Fin 2 → ℕ) a + (![64, 896] : Fin 2 → ℕ) a ≤ S64x896.size a) :
    v.readAt (Elt F) (Rect.unit (s := S64x896) ![0, 0] ![64, 896] inb).toLoadRect f = v.read (Elt F) f := View.readAt_full v f inb
theorem readAt_S896x768 (v : View sig κ sp S896x768 e) (f : v.ty.Contents (Elt F)) (inb : ∀ a, (![0, 0] : Fin 2 → ℕ) a + (![896, 768] : Fin 2 → ℕ) a ≤ S896x768.size a) :
    v.readAt (Elt F) (Rect.unit (s := S896x768) ![0, 0] ![896, 768] inb).toLoadRect f = v.read (Elt F) f := View.readAt_full v f inb
theorem readAt_S1x768 (v : View sig κ sp S1x768 e) (f : v.ty.Contents (Elt F)) (inb : ∀ a, (![0, 0] : Fin 2 → ℕ) a + (![1, 768] : Fin 2 → ℕ) a ≤ S1x768.size a) :
    v.readAt (Elt F) (Rect.unit (s := S1x768) ![0, 0] ![1, 768] inb).toLoadRect f = v.read (Elt F) f := View.readAt_full v f inb
theorem readAt_S80x768 (v : View sig κ sp S80x768 e) (f : v.ty.Contents (Elt F)) (inb : ∀ a, (![0, 0] : Fin 2 → ℕ) a + (![80, 768] : Fin 2 → ℕ) a ≤ S80x768.size a) :
    v.readAt (Elt F) (Rect.unit (s := S80x768) ![0, 0] ![80, 768] inb).toLoadRect f = v.read (Elt F) f := View.readAt_full v f inb
theorem readAt_S64x768 (v : View sig κ sp S64x768 e) (f : v.ty.Contents (Elt F)) (inb : ∀ a, (![0, 0] : Fin 2 → ℕ) a + (![64, 768] : Fin 2 → ℕ) a ≤ S64x768.size a) :
    v.readAt (Elt F) (Rect.unit (s := S64x768) ![0, 0] ![64, 768] inb).toLoadRect f = v.read (Elt F) f := View.readAt_full v f inb
theorem readAt_S80x128 (v : View sig κ sp S80x128 e) (f : v.ty.Contents (Elt F)) (inb : ∀ a, (![0, 0] : Fin 2 → ℕ) a + (![80, 128] : Fin 2 → ℕ) a ≤ S80x128.size a) :
    v.readAt (Elt F) (Rect.unit (s := S80x128) ![0, 0] ![80, 128] inb).toLoadRect f = v.read (Elt F) f := View.readAt_full v f inb
theorem readAt_S16x768 (v : View sig κ sp S16x768 e) (f : v.ty.Contents (Elt F)) (inb : ∀ a, (![0, 0] : Fin 2 → ℕ) a + (![16, 768] : Fin 2 → ℕ) a ≤ S16x768.size a) :
    v.readAt (Elt F) (Rect.unit (s := S16x768) ![0, 0] ![16, 768] inb).toLoadRect f = v.read (Elt F) f := View.readAt_full v f inb
theorem readCov_S64x128_0 (v : View sig κ sp S64x128 e) (inb : ∀ a, (![0, 0] : Fin 2 → ℕ) a + (![64, 128] : Fin 2 → ℕ) a ≤ S64x128.size a)
    (inb' : ∀ a, (![0, 0] : Fin 2 → ℕ) a + (![64, 128] : Fin 2 → ℕ) a ≤ S64x128.size a) (w : (Rect.unit (s := S64x128) ![0, 0] ![64, 128] inb').shape.Idx → Elt F e) (L : List (View.Piece (Elt F) S64x128 e)) :
    v.readCov (⟨Rect.unit (s := S64x128) ![0, 0] ![64, 128] inb', w⟩ :: L) (Rect.unit (s := S64x128) ![0, 0] ![64, 128] inb).toLoadRect = w :=
  View.readCov_full v inb inb' w L
theorem readCov_S64x128_1 (v : View sig κ sp S64x128 e) (inb : ∀ a, (![0, 0] : Fin 2 → ℕ) a + (![64, 128] : Fin 2 → ℕ) a ≤ S64x128.size a)
    (inb' : ∀ a, (![0, 0] : Fin 2 → ℕ) a + (S64x128.size : Fin 2 → ℕ) a ≤ S64x128.size a) (w : (Rect.unit (s := S64x128) ![0, 0] S64x128.size inb').shape.Idx → Elt F e) (L : List (View.Piece (Elt F) S64x128 e)) :
    v.readCov (⟨Rect.unit (s := S64x128) ![0, 0] S64x128.size inb', w⟩ :: L) (Rect.unit (s := S64x128) ![0, 0] ![64, 128] inb).toLoadRect = w :=
  View.readCov_full v inb inb' w L
theorem readCov_S64x128_2 (v : View sig κ sp S64x128 e) (inb : ∀ a, (![0, 0] : Fin 2 → ℕ) a + (S64x128.size : Fin 2 → ℕ) a ≤ S64x128.size a)
    (inb' : ∀ a, (![0, 0] : Fin 2 → ℕ) a + (![64, 128] : Fin 2 → ℕ) a ≤ S64x128.size a) (w : (Rect.unit (s := S64x128) ![0, 0] ![64, 128] inb').shape.Idx → Elt F e) (L : List (View.Piece (Elt F) S64x128 e)) :
    v.readCov (⟨Rect.unit (s := S64x128) ![0, 0] ![64, 128] inb', w⟩ :: L) (Rect.unit (s := S64x128) ![0, 0] S64x128.size inb).toLoadRect = w :=
  View.readCov_full v inb inb' w L
theorem readCov_S80x128_0 (v : View sig κ sp S80x128 e) (inb : ∀ a, (![0, 0] : Fin 2 → ℕ) a + (![80, 128] : Fin 2 → ℕ) a ≤ S80x128.size a)
    (inb' : ∀ a, (![0, 0] : Fin 2 → ℕ) a + (![80, 128] : Fin 2 → ℕ) a ≤ S80x128.size a) (w : (Rect.unit (s := S80x128) ![0, 0] ![80, 128] inb').shape.Idx → Elt F e) (L : List (View.Piece (Elt F) S80x128 e)) :
    v.readCov (⟨Rect.unit (s := S80x128) ![0, 0] ![80, 128] inb', w⟩ :: L) (Rect.unit (s := S80x128) ![0, 0] ![80, 128] inb).toLoadRect = w :=
  View.readCov_full v inb inb' w L
theorem readCov_S80x128_1 (v : View sig κ sp S80x128 e) (inb : ∀ a, (![0, 0] : Fin 2 → ℕ) a + (![80, 128] : Fin 2 → ℕ) a ≤ S80x128.size a)
    (inb' : ∀ a, (![0, 0] : Fin 2 → ℕ) a + (S80x128.size : Fin 2 → ℕ) a ≤ S80x128.size a) (w : (Rect.unit (s := S80x128) ![0, 0] S80x128.size inb').shape.Idx → Elt F e) (L : List (View.Piece (Elt F) S80x128 e)) :
    v.readCov (⟨Rect.unit (s := S80x128) ![0, 0] S80x128.size inb', w⟩ :: L) (Rect.unit (s := S80x128) ![0, 0] ![80, 128] inb).toLoadRect = w :=
  View.readCov_full v inb inb' w L
theorem readCov_S80x128_2 (v : View sig κ sp S80x128 e) (inb : ∀ a, (![0, 0] : Fin 2 → ℕ) a + (S80x128.size : Fin 2 → ℕ) a ≤ S80x128.size a)
    (inb' : ∀ a, (![0, 0] : Fin 2 → ℕ) a + (![80, 128] : Fin 2 → ℕ) a ≤ S80x128.size a) (w : (Rect.unit (s := S80x128) ![0, 0] ![80, 128] inb').shape.Idx → Elt F e) (L : List (View.Piece (Elt F) S80x128 e)) :
    v.readCov (⟨Rect.unit (s := S80x128) ![0, 0] ![80, 128] inb', w⟩ :: L) (Rect.unit (s := S80x128) ![0, 0] S80x128.size inb).toLoadRect = w :=
  View.readCov_full v inb inb' w L
theorem readCov_S64x896_0 (v : View sig κ sp S64x896 e) (inb : ∀ a, (![0, 0] : Fin 2 → ℕ) a + (![64, 896] : Fin 2 → ℕ) a ≤ S64x896.size a)
    (inb' : ∀ a, (![0, 0] : Fin 2 → ℕ) a + (![64, 896] : Fin 2 → ℕ) a ≤ S64x896.size a) (w : (Rect.unit (s := S64x896) ![0, 0] ![64, 896] inb').shape.Idx → Elt F e) (L : List (View.Piece (Elt F) S64x896 e)) :
    v.readCov (⟨Rect.unit (s := S64x896) ![0, 0] ![64, 896] inb', w⟩ :: L) (Rect.unit (s := S64x896) ![0, 0] ![64, 896] inb).toLoadRect = w :=
  View.readCov_full v inb inb' w L
theorem readCov_S64x896_1 (v : View sig κ sp S64x896 e) (inb : ∀ a, (![0, 0] : Fin 2 → ℕ) a + (![64, 896] : Fin 2 → ℕ) a ≤ S64x896.size a)
    (inb' : ∀ a, (![0, 0] : Fin 2 → ℕ) a + (S64x896.size : Fin 2 → ℕ) a ≤ S64x896.size a) (w : (Rect.unit (s := S64x896) ![0, 0] S64x896.size inb').shape.Idx → Elt F e) (L : List (View.Piece (Elt F) S64x896 e)) :
    v.readCov (⟨Rect.unit (s := S64x896) ![0, 0] S64x896.size inb', w⟩ :: L) (Rect.unit (s := S64x896) ![0, 0] ![64, 896] inb).toLoadRect = w :=
  View.readCov_full v inb inb' w L
theorem readCov_S64x896_2 (v : View sig κ sp S64x896 e) (inb : ∀ a, (![0, 0] : Fin 2 → ℕ) a + (S64x896.size : Fin 2 → ℕ) a ≤ S64x896.size a)
    (inb' : ∀ a, (![0, 0] : Fin 2 → ℕ) a + (![64, 896] : Fin 2 → ℕ) a ≤ S64x896.size a) (w : (Rect.unit (s := S64x896) ![0, 0] ![64, 896] inb').shape.Idx → Elt F e) (L : List (View.Piece (Elt F) S64x896 e)) :
    v.readCov (⟨Rect.unit (s := S64x896) ![0, 0] ![64, 896] inb', w⟩ :: L) (Rect.unit (s := S64x896) ![0, 0] S64x896.size inb).toLoadRect = w :=
  View.readCov_full v inb inb' w L
theorem read_col64_lit (m : Memref sig κ sp S64x128 .f32) (h : m.IsWhole) (x : Vec F S64x128 .f32) (inb : ∀ a, (![0, 0] : Fin 2 → ℕ) a + (![64, 1] : Fin 2 → ℕ) a ≤ S64x128.size a) :
    m.view.readAt (Elt F) (Rect.unit (s := S64x128) ![0, 0] ![64, 1] inb).toLoadRect (h.unread x) = col64 x := read_col64 m h x inb
theorem read_col80_64_lit (m : Memref sig κ sp S80x128 .f32) (h : m.IsWhole) (x : Vec F S80x128 .f32) (inb : ∀ a, (![0, 0] : Fin 2 → ℕ) a + (![64, 1] : Fin 2 → ℕ) a ≤ S80x128.size a) :
    m.view.readAt (Elt F) (Rect.unit (s := S80x128) ![0, 0] ![64, 1] inb).toLoadRect (h.unread x) = col80_64 x := read_col80_64 m h x inb
theorem read_col80_lit (m : Memref sig κ sp S80x128 .f32) (h : m.IsWhole) (x : Vec F S80x128 .f32) (inb : ∀ a, (![0, 0] : Fin 2 → ℕ) a + (![80, 1] : Fin 2 → ℕ) a ≤ S80x128.size a) :
    m.view.readAt (Elt F) (Rect.unit (s := S80x128) ![0, 0] ![80, 1] inb).toLoadRect (h.unread x) = col80 x := read_col80 m h x inb
theorem read_word_lit (m : Memref sig κ sp S1 .i32) (h : m.IsWhole) (x : Vec F S1 .i32) (inb : ∀ a, (![0] : Fin 1 → ℕ) a + (![1] : Fin 1 → ℕ) a ≤ S1.size a)
    (y : (Rect.unit (s := S1) ![0] ![1] inb).toLoadRect.shape.Idx) :
    m.view.readAt (Elt F) (Rect.unit (s := S1) ![0] ![1] inb).toLoadRect (h.unread x) y = word0 x := read_word m h x inb y
end

/-- The condition of the body's conditional, from the grid coordinate. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 167 = 0 :=
  (fun t => by
    have ht : t.val < 167 := Nat.lt_of_lt_of_eq t.isLt N_0
    have e0 : (grid0.coords t 0).val = t.val / 1 % 167 := Pipeline.Grid.coords_val t 0 (by decide) rfl
    simp only [cond0, e0]
    word_cmp
   : ∀ t : Fin grid0.N, cond0 (grid0.coords t) ↔ t.val % 167 = 0)

/-- The condition of the body's conditional, from the grid coordinate. -/
abbrev cond1 (i : grid1.Coords) : Prop := (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val % 167 = 0 :=
  (fun t => by
    have ht : t.val < 167 := Nat.lt_of_lt_of_eq t.isLt N_1
    have e0 : (grid1.coords t 0).val = t.val / 1 % 167 := Pipeline.Grid.coords_val t 0 (by decide) rfl
    simp only [cond1, e0]
    word_cmp
   : ∀ t : Fin grid1.N, cond1 (grid1.coords t) ↔ t.val % 167 = 0)

/-- The condition of the body's conditional, from the grid coordinate. -/
abbrev cond2 (i : grid2.Coords) : Prop := (Scalar.cmpi .ne (Scalar.extui (Scalar.cmpi .eq (BitVec.ofNat 32 (i 0).val) 0#32)) 0#32) = 1#1
/-- It holds at the first point only. -/
theorem hcond2 : ∀ t : Fin cfg2.N, cond2 (grid2.coords t) ↔ t.val % 167 = 0 :=
  (fun t => by
    have ht : t.val < 167 := Nat.lt_of_lt_of_eq t.isLt N_2
    have e0 : (grid2.coords t 0).val = t.val / 1 % 167 := Pipeline.Grid.coords_val t 0 (by decide) rfl
    simp only [cond2, e0]
    word_cmp
   : ∀ t : Fin grid2.N, cond2 (grid2.coords t) ↔ t.val % 167 = 0)

end Cert.KernelIdeal.Hand

end
-- ==== Proof.Online.lean ====
module

public import Idealize.ShloMosaic.Lib.Pointwise
public import Idealize.ShloMosaic.Lib.ValueIdx

@[expose] public section

noncomputable section

/-! # The running softmax of a row cut into tiles

  A row of extended reals `f` of length 128256 is met in 167 tiles of 768. A running maximum and a running sum of
  exponentials are kept: at each tile the old sum is rescaled by the exponential of the maximum's change. After the last
  tile they are the row's maximum and the sum of the exponentials of the row less its maximum. Nothing is asked of the
  row: the identities hold where entries are infinite too. -/

namespace Cert.Soft

open Idealize.ShloMosaic

/-- The greatest entry of a row (−∞ if there is none). -/
def rowMax {n : ℕ} (f : Fin n → EReal) : EReal := Finset.univ.fold max ⊥ f
/-- The sum of the exponentials of a row less its maximum. -/
def rowSum {n : ℕ} (f : Fin n → EReal) : EReal := ∑ v, Ideal.exp (f v - rowMax f)
/-- The softmax of a row. -/
def prob {n : ℕ} (f : Fin n → EReal) (v : Fin n) : EReal := Ideal.div (Ideal.exp (f v - rowMax f)) (rowSum f)
/-- What the first distribution has over the second. -/
def resid {n : ℕ} (f g : Fin n → EReal) (v : Fin n) : EReal := max (prob f v - prob g v) 0
/-- Its mass. -/
def mass {n : ℕ} (f g : Fin n → EReal) : EReal := ∑ v, resid f g v

/-- The running maximum after tile `n`. -/
def runMax (g : ℕ → Fin 768 → EReal) : ℕ → EReal
  | 0 => max ⊥ (rowMax (g 0))
  | n + 1 => max (runMax g n) (rowMax (g (n + 1)))
/-- The running sum of exponentials after tile `n`. -/
def runSum (g : ℕ → Fin 768 → EReal) : ℕ → EReal
  | 0 => 0 * Ideal.exp (⊥ - runMax g 0) + ∑ j, Ideal.exp (g 0 j - runMax g 0)
  | n + 1 => runSum g n * Ideal.exp (runMax g n - runMax g (n + 1)) + ∑ j, Ideal.exp (g (n + 1) j - runMax g (n + 1))
/-- The running sum of tile sums. -/
def runAdd (g : ℕ → Fin 768 → EReal) : ℕ → EReal
  | 0 => 0 + ∑ j, g 0 j
  | n + 1 => runAdd g n + ∑ j, g (n + 1) j

theorem rowMax_eq_sup {n : ℕ} (f : Fin n → EReal) : rowMax f = Finset.univ.sup f := rfl
theorem le_rowMax {n : ℕ} (f : Fin n → EReal) (v : Fin n) : f v ≤ rowMax f := by
  rw [rowMax_eq_sup]; exact Finset.le_sup (Finset.mem_univ v)

theorem exp_nonneg (x : EReal) : 0 ≤ Ideal.exp x := by
  induction x with
  | bot => exact le_of_eq rfl
  | top => exact le_top
  | coe r => exact EReal.coe_nonneg.mpr (Real.exp_nonneg r)

/-- Rescaling an exponential from one maximum to a greater one. -/
theorem exp_step (l a b : EReal) (h : l ≤ a) (h' : a ≤ b) : Ideal.exp (l - a) * Ideal.exp (a - b) = Ideal.exp (l - b) := by
  have e0 : Ideal.exp ⊥ = 0 := rfl
  induction b with
  | top => rw [EReal.sub_top, EReal.sub_top, e0, mul_zero]
  | bot =>
    have ha : a = ⊥ := le_bot_iff.mp h'
    subst ha
    have hl : l = ⊥ := le_bot_iff.mp h
    subst hl
    rw [EReal.bot_sub, e0, mul_zero]
  | coe b =>
    induction a with
    | top => exact absurd h' (by simp)
    | bot =>
      have hl : l = ⊥ := le_bot_iff.mp h
      subst hl
      simp only [EReal.bot_sub, e0, mul_zero]
    | coe a =>
      induction l with
      | top => exact absurd h (by simp)
      | bot => simp only [EReal.bot_sub, e0, zero_mul]
      | coe l =>
        rw [← EReal.coe_sub, ← EReal.coe_sub, ← EReal.coe_sub]
        show ((Real.exp (l - a) : ℝ) : EReal) * ((Real.exp (a - b) : ℝ) : EReal) = ((Real.exp (l - b) : ℝ) : EReal)
        rw [← EReal.coe_mul, ← Real.exp_add]
        congr 2; ring

theorem sum_mul_of_nonneg {ι : Type*} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

theorem runMax_mono (g : ℕ → Fin 768 → EReal) (n : ℕ) : runMax g n ≤ runMax g (n + 1) := le_max_left _ _
theorem le_runMax (g : ℕ → Fin 768 → EReal) (n i : ℕ) (h : i ≤ n) (j : Fin 768) : g i j ≤ runMax g n := by
  induction n with
  | zero => obtain rfl : i = 0 := by omega
            exact (le_rowMax _ j).trans (le_max_right _ _)
  | succ n ih =>
    rcases Nat.lt_or_ge n i with hi | hi
    · obtain rfl : i = n + 1 := by omega
      exact (le_rowMax _ j).trans (le_max_right _ _)
    · exact (ih hi).trans (runMax_mono g n)
theorem runMax_le (g : ℕ → Fin 768 → EReal) (n : ℕ) (b : EReal) (h : ∀ i ≤ n, ∀ j, g i j ≤ b) : runMax g n ≤ b := by
  induction n with
  | zero => exact max_le bot_le (by rw [rowMax_eq_sup]; exact Finset.sup_le fun j _ => h 0 le_rfl j)
  | succ n ih =>
    exact max_le (ih fun i hi => h i (by omega)) (by rw [rowMax_eq_sup]; exact Finset.sup_le fun j _ => h _ le_rfl j)

/-- The running sum is the sum, over the tiles met, of the exponentials less the running maximum. -/
theorem runSum_eq (g : ℕ → Fin 768 → EReal) (n : ℕ) :
    runSum g n = ∑ i ∈ Finset.range (n + 1), ∑ j, Ideal.exp (g i j - runMax g n) := by
  induction n with
  | zero => simp [runSum]
  | succ n ih =>
    rw [runSum, ih, Finset.sum_range_succ _ (n + 1)]
    congr 1
    rw [sum_mul_of_nonneg _ _ (fun i => Finset.sum_nonneg fun j _ => exp_nonneg _)]
    refine Finset.sum_congr rfl fun i hi => ?_
    rw [sum_mul_of_nonneg _ _ (fun j => exp_nonneg _)]
    refine Finset.sum_congr rfl fun j _ => ?_
    exact exp_step _ _ _ (le_runMax g n i (by have := Finset.mem_range.mp hi; omega) j) (runMax_mono g n)
theorem runAdd_eq (g : ℕ → Fin 768 → EReal) (n : ℕ) : runAdd g n = ∑ i ∈ Finset.range (n + 1), ∑ j, g i j := by
  induction n with
  | zero => simp [runAdd]
  | succ n ih => rw [runAdd, ih, Finset.sum_range_succ _ (n + 1)]

/-- Entry `j` of tile `n`. -/
def pos (n : ℕ) (j : Fin 768) : Fin 128256 := if h : n < 167 then ⟨n * 768 + j.val, by have := j.isLt; omega⟩ else ⟨0, by decide⟩
theorem pos_of {n : ℕ} (h : n < 167) (j : Fin 768) : pos n j = ⟨n * 768 + j.val, by have := j.isLt; omega⟩ := dif_pos h
/-- Tile `n` of a row. -/
def tile (f : Fin 128256 → EReal) (n : ℕ) (j : Fin 768) : EReal := f (pos n j)

theorem exists_pos (v : Fin 128256) : ∃ i ≤ 166, ∃ j, pos i j = v := by
  have hv := v.isLt
  refine ⟨v.val / 768, by omega, ⟨v.val % 768, by omega⟩, ?_⟩
  rw [pos_of (by omega)]
  exact Fin.ext (by show v.val / 768 * 768 + v.val % 768 = v.val; omega)

/-- A sum over the row, tile by tile. -/
theorem sum_tiles (f : Fin 128256 → EReal) : ∑ i ∈ Finset.range 167, ∑ j, tile f i j = ∑ v, f v := by
  rw [Finset.sum_range fun i => ∑ j, tile f i j]
  rw [← Fintype.sum_prod_type' (f := fun (i : Fin 167) (j : Fin 768) => tile f i j)]
  refine Fintype.sum_equiv (finProdFinEquiv (m := 167) (n := 768)) _ _ fun p => ?_
  unfold tile
  rw [pos_of p.1.isLt]
  congr 1
  exact Fin.ext (by show p.1.val * 768 + p.2.val = p.2.val + 768 * p.1.val; omega)

/-- After the last tile the running maximum is the row's maximum, -/
theorem runMax_tiles (f : Fin 128256 → EReal) : runMax (tile f) 166 = rowMax f := by
  apply le_antisymm
  · exact runMax_le _ _ _ fun i _ j => le_rowMax f _
  · rw [rowMax_eq_sup]
    refine Finset.sup_le fun v _ => ?_
    obtain ⟨i, hi, j, rfl⟩ := exists_pos v
    exact le_runMax (tile f) 166 i hi j
/-- the running sum its sum of exponentials, -/
theorem runSum_tiles (f : Fin 128256 → EReal) : runSum (tile f) 166 = rowSum f := by
  rw [runSum_eq, runMax_tiles]
  exact sum_tiles fun v => Ideal.exp (f v - rowMax f)
/-- and a running sum of tile sums the row's sum. -/
theorem runAdd_tiles (f : Fin 128256 → EReal) : runAdd (tile f) 166 = ∑ v, f v := by
  rw [runAdd_eq]; exact sum_tiles f

end Cert.Soft
end
-- ==== Proof.PayIdeal.lean ====
module

public import proofs.«01_k».proof.Proof.Payloads
public import proofs.«01_k».proof.Proof.Online

@[expose] public section

set_option maxRecDepth 16384

noncomputable section

/-! # What the kernel's bodies compute over the extended reals, element by element -/

namespace Cert.KernelIdeal.Hand

open Idealize.ShloMosaic Cert.Soft
open Cert.KernelIdeal.Gen

theorem neg_inf : Ideal.ofBits .f32 0xFF800000#32 = ⊥ := by
  simp [Ideal.ofBits, Ideal.ieee]

/-- The signed four-bit number in the low (`p = 0`) or high nibble of a byte, as the kernel unpacks it. -/
def nib (b : BitVec 8) (p : ℕ) : EReal :=
  Scalar.sitofp (F := Ideal) .bf16 (BitVec.setWidth 4 (if p < 1 then BitVec.setWidth 32 b else IntOp.shrsi ArithUnit.vector (BitVec.setWidth 32 b) 4#32))

theorem k0_pay10_apply (x2 : Vec Ideal S1152x768 .i8) (x3 : Vec Ideal S18x768 .f32) (k : Fin 2304) (j : Fin 768) :
    k0_pay10 x2 x3 (ix2 k j) = nib (x2 (ix2 ⟨k.val / 2, by omega⟩ j)) (k.val % 2) * x3 (ix2 ⟨k.val / 128, by omega⟩ j) := by
  unfold k0_pay10 nib
  pointwise
  split <;> rfl
theorem lt0_apply (x1 : Vec Ideal S80x2304 .bf16) (x2 : Vec Ideal S1152x768 .i8) (x3 : Vec Ideal S18x768 .f32) (r : Fin 80) (j : Fin 768) :
    lt0 x1 x2 x3 (ix2 r j) = ∑ k : Fin 2304, (x1 (ix2 r k) : EReal)
      * (nib (x2 (ix2 ⟨k.val / 2, by omega⟩ j)) (k.val % 2) * x3 (ix2 ⟨k.val / 128, by omega⟩ j)) := by
  have e : ∀ k, k0_pay10 (F := Ideal) x2 x3 (ix2 k j) = _ := fun k => k0_pay10_apply x2 x3 k j
  unfold lt0 k0_pay12 k0_pay11
  generalize k0_pay10 (F := Ideal) x2 x3 = w at e ⊢
  refine Eq.trans ?_ (Finset.sum_congr rfl fun k _ => congrArg (x1 (ix2 r k) * ·) (e k))
  pointwise

theorem mt0_apply (x1 : Vec Ideal S80x2304 .bf16) (x2 : Vec Ideal S1152x768 .i8) (x3 : Vec Ideal S18x768 .f32) (o : Vec Ideal S80x128 .f32) (r : Fin 80) (l : Fin 128) :
    mt0 x1 x2 x3 o (ix2 r l) = max (o (ix2 r l) : EReal) (rowMax fun j : Fin 768 => lt0 x1 x2 x3 (ix2 r j)) := by
  unfold mt0 lt0 k0_pay14 k0_pay13 rowMax
  generalize k0_pay12 (F := Ideal) _ _ _ = y
  pointwise
  rw [neg_inf]
theorem st0_apply (x1 : Vec Ideal S80x2304 .bf16) (x2 : Vec Ideal S1152x768 .i8) (x3 : Vec Ideal S18x768 .f32) (o s : Vec Ideal S80x128 .f32) (r : Fin 80) (l : Fin 128) :
    st0 x1 x2 x3 o s (ix2 r l) = (s (ix2 r l) : EReal) * Ideal.exp ((o (ix2 r l) : EReal) - mt0 x1 x2 x3 o (ix2 r l))
      + ∑ j : Fin 768, Ideal.exp ((lt0 x1 x2 x3 (ix2 r j) : EReal) - mt0 x1 x2 x3 o (ix2 r 0)) := by
  unfold st0 k0_pay15 mt0 lt0 k0_pay13
  generalize k0_pay14 (F := Ideal) _ _ _ _ = m
  generalize k0_pay12 (F := Ideal) _ _ _ = y
  pointwise
theorem md0_apply (y : Vec Ideal S64x768 .f32) (o : Vec Ideal S64x128 .f32) (r : Fin 64) (l : Fin 128) :
    md0 y o (ix2 r l) = max (o (ix2 r l) : EReal) (rowMax fun j : Fin 768 => y (ix2 r j)) := by
  unfold md0 k0_pay17 k0_pay16 rowMax
  pointwise
  rw [neg_inf]
theorem sd0_apply (y : Vec Ideal S64x768 .f32) (o s : Vec Ideal S64x128 .f32) (r : Fin 64) (l : Fin 128) :
    sd0 y o s (ix2 r l) = (s (ix2 r l) : EReal) * Ideal.exp ((o (ix2 r l) : EReal) - md0 y o (ix2 r l))
      + ∑ j : Fin 768, Ideal.exp ((y (ix2 r j) : EReal) - md0 y o (ix2 r 0)) := by
  unfold sd0 k0_pay1 k0_pay18 k0_pay19 k0_pay20 md0 k0_pay16
  generalize k0_pay17 (F := Ideal) _ _ = m
  pointwise

/-- A code of the draft activations: times a power of two, clipped to the format's range. -/
def code (e : BitVec 32) (h : EReal) : EReal :=
  min (Ideal.ofBits .f32 0x43E00000#32) (max (Ideal.ofBits .f32 0xC3E00000#32) (h * FloatOps.exp2 (F := Ideal) (φ := .f32) (Scalar.sitofp .f32 (Scalar.subi 0#32 e))))
theorem k0_pay4_apply (e : Elt Ideal .i32) (h : Vec Ideal S64x896 .bf16) (r : Fin 64) (j : Fin 896) :
    k0_pay4 e h (ix2 r j) = code e (h (ix2 r j)) := by
  unfold k0_pay4 k0_pay2 code
  pointwise
  try rfl
theorem k0_pay3_apply (h : Vec Ideal S64x896 .bf16) (r : Fin 64) (l : Fin 128) :
    k0_pay3 h (ix2 r l) = rowMax fun j : Fin 896 => max (h (ix2 r j) : EReal) (-h (ix2 r j)) := by
  unfold k0_pay3 k0_pay2 rowMax
  pointwise
  rw [neg_inf]
  rfl
theorem ld0_apply (e : Elt Ideal .i32) (q : Vec Ideal S64x896 .fp8e4m3) (x5 : Vec Ideal S896x768 .fp8e4m3) (x6 : Vec Ideal S1x768 .f32) (r : Fin 64) (j : Fin 768) :
    ld0 e q x5 x6 (ix2 r j) = (∑ k : Fin 896, (q (ix2 r k) : EReal) * x5 (ix2 k j)) * FloatOps.exp2 (F := Ideal) (φ := .f32) (Scalar.sitofp .f32 e) * x6 (ix2 0 j) := by
  unfold ld0 k0_pay9
  pointwise
  try rfl

theorem z1_apply (x0 x1 : Vec Ideal S64x768 .f32) (x2 x3 : Vec Ideal S80x128 .f32) (x4 x5 o : Vec Ideal S64x128 .f32) (r : Fin 64) (l : Fin 128) :
    z1 x0 x1 x2 x3 x4 x5 o (ix2 r l) = (o (ix2 r l) : EReal) + ∑ j : Fin 768,
      max (Ideal.div (Ideal.exp ((x0 (ix2 r j) : EReal) - x2 (ix2 (Fin.castLE (by decide) r) 0))) (x3 (ix2 (Fin.castLE (by decide) r) 0))
        - Ideal.div (Ideal.exp ((x1 (ix2 r j) : EReal) - x4 (ix2 r 0))) (x5 (ix2 r 0))) 0 := by
  unfold z1 k1_pay2
  have h2 : ∀ x : Vec Ideal S80x128 .f32, ∀ r : Fin 64, col80_64 x (ix2 r 0) = x (ix2 (Fin.castLE (by decide) r) 0) := fun x r =>
    congrArg x (funext fun a => by fin_cases a <;> rfl)
  have h4 : ∀ x : Vec Ideal S64x128 .f32, ∀ r : Fin 64, col64 x (ix2 r 0) = x (ix2 r 0) := fun x r =>
    congrArg x (funext fun a => by fin_cases a <;> rfl)
  simp only [← h2, ← h4]
  pointwise
theorem pay6_apply (x0 : Vec Ideal S80x768 .f32) (x2 x3 : Vec Ideal S80x128 .f32) (r : Fin 80) (j : Fin 768) :
    k2_pay6 x0 (col80 x2) (col80 x3) (ix2 r j) = Ideal.div (Ideal.exp ((x0 (ix2 r j) : EReal) - x2 (ix2 r 0))) (x3 (ix2 r 0)) := by
  have h2 : ∀ x : Vec Ideal S80x128 .f32, ∀ r : Fin 80, col80 x (ix2 r 0) = x (ix2 r 0) := fun x r =>
    congrArg x (funext fun a => by fin_cases a <;> rfl)
  simp only [← h2]
  unfold k2_pay6
  pointwise
theorem pay7_apply (x1 : Vec Ideal S64x768 .f32) (x4 x5 : Vec Ideal S64x128 .f32) (r : Fin 64) (j : Fin 768) :
    k2_pay7 x1 (col64 x4) (col64 x5) (ix2 r j) = Ideal.div (Ideal.exp ((x1 (ix2 r j) : EReal) - x4 (ix2 r 0))) (x5 (ix2 r 0)) := by
  have h4 : ∀ x : Vec Ideal S64x128 .f32, ∀ r : Fin 64, col64 x (ix2 r 0) = x (ix2 r 0) := fun x r =>
    congrArg x (funext fun a => by fin_cases a <;> rfl)
  simp only [← h4]
  unfold k2_pay7
  pointwise
theorem bonus2_apply (x0 : Vec Ideal S80x768 .f32) (x2 x3 : Vec Ideal S80x128 .f32) (r : Fin 16) (j : Fin 768) :
    bonus2 x0 x2 x3 (ix2 r j) = k2_pay6 x0 (col80 x2) (col80 x3) (ix2 ⟨64 + r.val, by omega⟩ j) := by
  unfold bonus2 k2_pay8
  generalize k2_pay6 (F := Ideal) _ _ _ = y
  pointwise
theorem pay9_apply (x0 : Vec Ideal S80x768 .f32) (x2 x3 : Vec Ideal S80x128 .f32) (r : Fin 64) (j : Fin 768) :
    k2_pay9 x0 (col80 x2) (col80 x3) (ix2 r j) = k2_pay6 x0 (col80 x2) (col80 x3) (ix2 (Fin.castLE (by decide) r) j) := by
  unfold k2_pay9
  generalize k2_pay6 (F := Ideal) _ _ _ = y
  pointwise
  rfl
theorem resid2_apply (x0 : Vec Ideal S80x768 .f32) (x1 : Vec Ideal S64x768 .f32) (x2 x3 : Vec Ideal S80x128 .f32) (x4 x5 x6 : Vec Ideal S64x128 .f32) (r : Fin 64) (j : Fin 768) :
    resid2 x0 x1 x2 x3 x4 x5 x6 (ix2 r j) = Ideal.div (max ((k2_pay6 x0 (col80 x2) (col80 x3) (ix2 (Fin.castLE (by decide) r) j) : EReal)
      - k2_pay7 x1 (col64 x4) (col64 x5) (ix2 r j)) 0) (x6 (ix2 r 0)) := by
  have h4 : ∀ x : Vec Ideal S64x128 .f32, ∀ r : Fin 64, col64 x (ix2 r 0) = x (ix2 r 0) := fun x r =>
    congrArg x (funext fun a => by fin_cases a <;> rfl)
  simp only [← pay9_apply, ← h4 x6]
  unfold resid2 k2_pay10
  generalize k2_pay9 (F := Ideal) _ _ _ = y
  generalize k2_pay7 (F := Ideal) _ _ _ = z
  pointwise
/-- Whether entry `j` of tile `n` is the drafted token. -/
def hit (n : BitVec 32) (j : Fin 768) (tok : BitVec 32) : BitVec 1 := IntOp.cmpi .eq (IntOp.addi (BitVec.ofNat 32 j.val) (Scalar.muli n 768#32)) tok
theorem ptx2_apply (n : BitVec 32) (x0 : Vec Ideal S80x768 .f32) (x2 x3 : Vec Ideal S80x128 .f32) (x7 : Vec Ideal S64x1 .i32) (o : Vec Ideal S64x128 .f32) (r : Fin 64) (l : Fin 128) :
    ptx2 n x0 x2 x3 x7 o (ix2 r l) = (o (ix2 r l) : EReal) + ∑ j : Fin 768,
      Scalar.select (hit n j (x7 (ix2 r 0))) (k2_pay6 x0 (col80 x2) (col80 x3) (ix2 (Fin.castLE (by decide) r) j) : EReal) 0 := by
  simp only [← pay9_apply]
  unfold ptx2 k2_pay2 k2_pay1 hit
  generalize k2_pay9 (F := Ideal) _ _ _ = y
  pointwise
  try rfl
theorem pdx2_apply (n : BitVec 32) (x1 : Vec Ideal S64x768 .f32) (x4 x5 : Vec Ideal S64x128 .f32) (x7 : Vec Ideal S64x1 .i32) (o : Vec Ideal S64x128 .f32) (r : Fin 64) (l : Fin 128) :
    pdx2 n x1 x4 x5 x7 o (ix2 r l) = (o (ix2 r l) : EReal) + ∑ j : Fin 768,
      Scalar.select (hit n j (x7 (ix2 r 0))) (k2_pay7 x1 (col64 x4) (col64 x5) (ix2 r j) : EReal) 0 := by
  unfold pdx2 k2_pay3 k2_pay1 hit
  generalize k2_pay7 (F := Ideal) _ _ _ = y
  pointwise
  try rfl

end Cert.KernelIdeal.Hand
end
-- ==== Proof.Spec.lean ====
module

public import proofs.«01_k».proof.Proof.PayIdeal

@[expose] public section

set_option maxRecDepth 16384

noncomputable section

/-! # What is computed

The two heads' logits as rows over the vocabulary, and the seven results of a row. -/

namespace Cert.Soft

open Idealize.ShloMosaic Cert.KernelIdeal.Hand

/-- A row of the target's logits: the activations times the four-bit weights with a scale to every 128 of the contracted axis. -/
def logitT (x : Fin 2304 → EReal) (w : Fin 1152 → Fin 128256 → BitVec 8) (s : Fin 18 → Fin 128256 → EReal) (v : Fin 128256) : EReal :=
  ∑ k : Fin 2304, x k * (nib (w ⟨k.val / 2, by omega⟩ v) (k.val % 2) * s ⟨k.val / 128, by omega⟩ v)
/-- A row of the draft's logits: the codes of the activations times the weights, the two scales put back. -/
def logitD (e : BitVec 32) (h : Fin 896 → EReal) (w : Fin 896 → Fin 128256 → EReal) (s : Fin 128256 → EReal) (v : Fin 128256) : EReal :=
  (∑ k : Fin 896, code e (h k) * w k v) * FloatOps.exp2 (F := Ideal) (φ := .f32) (Scalar.sitofp .f32 e) * s v
/-- Whether a position of the vocabulary is a token. -/
def isTok (tok : BitVec 32) (v : Fin 128256) : BitVec 1 := IntOp.cmpi .eq (BitVec.ofNat 32 v.val) tok
/-- A row with all but the token's entry made zero. -/
def pick (tok : BitVec 32) (f : Fin 128256 → EReal) (v : Fin 128256) : EReal := Scalar.select (isTok tok v) (f v) 0
/-- The drafted token's acceptance ratio. -/
def ratio (p q : EReal) : EReal := min (Ideal.ofBits .f32 0x3F800000#32) (Ideal.div p q)

/-- The residual distribution of two rows. -/
def residual (T D : Fin 128256 → EReal) (v : Fin 128256) : EReal := Ideal.div (resid T D v) (mass T D)
/-- The logarithm of its mass. -/
def logMass (T D : Fin 128256 → EReal) : EReal := FloatOps.hostUnary (F := Ideal) (φ := .f32) .log (mass T D)
/-- The ratio of the token's probabilities. -/
def accept (tok : BitVec 32) (T D : Fin 128256 → EReal) : EReal := ratio (∑ v, pick tok (prob T) v) (∑ v, pick tok (prob D) v)
/-- The largest magnitude of a row of activations. -/
def amax (h : Fin 896 → EReal) : EReal := rowMax fun j => max (h j) (-h j)

end Cert.Soft
end
-- ==== Proof.Run0A.lean ====
module

public import proofs.«01_k».proof.Proof.Payloads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- What the body leaves in the first point: its inputs as they were, its outputs at the named values. -/
theorem run0_A (c : Dev nD) (i : grid0.Coords) (arg1 : Memref sig .tc .smem S1 .i32) (harg1 : arg1.IsWhole) (arg2 : Memref sig .tc .vmem S80x2304 .bf16) (harg2 : arg2.IsWhole) (arg3 : Memref sig .tc .vmem S1152x768 .i8) (harg3 : arg3.IsWhole) (arg4 : Memref sig .tc .vmem S18x768 .f32) (harg4 : arg4.IsWhole) (arg5 : Memref sig .tc .vmem S64x896 .bf16) (harg5 : arg5.IsWhole) (arg6 : Memref sig .tc .vmem S896x768 .fp8e4m3) (harg6 : arg6.IsWhole) (arg7 : Memref sig .tc .vmem S1x768 .f32) (harg7 : arg7.IsWhole) (arg8 : Memref sig .tc .vmem S80x768 .f32) (harg8 : arg8.IsWhole) (arg9 : Memref sig .tc .vmem S64x768 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x896 .fp8e4m3) (harg14 : arg14.IsWhole) (arg15 : Memref sig .tc .vmem S64x128 .f32) (harg15 : arg15.IsWhole) (hc0 : cond0 i)
    (x0 : Vec F S1 .i32) (x1 : Vec F S80x2304 .bf16) (x2 : Vec F S1152x768 .i8) (x3 : Vec F S18x768 .f32) (x4 : Vec F S64x896 .bf16) (x5 : Vec F S896x768 .fp8e4m3) (x6 : Vec F S1x768 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (lt0 x1 x2 x3) ∗ owns (c : Thread nD τ) arg9 fullShare (ld0 (word0 x0) (k0_pay4 (word0 x0) x4) x5 x6) ∗ owns (c : Thread nD τ) arg10 fullShare (mt0 x1 x2 x3 k0_pay5) ∗ owns (c : Thread nD τ) arg11 fullShare (st0 x1 x2 x3 k0_pay5 k0_pay7) ∗ owns (c : Thread nD τ) arg12 fullShare (md0 (ld0 (word0 x0) (k0_pay4 (word0 x0) x4) x5 x6) k0_pay6) ∗ owns (c : Thread nD τ) arg13 fullShare (sd0 (ld0 (word0 x0) (k0_pay4 (word0 x0) x4) x5 x6) k0_pay6 k0_pay8) ∗ owns (c : Thread nD τ) arg14 fullShare (k0_pay4 (word0 x0) x4) ∗ owns (c : Thread nD τ) arg15 fullShare (k0_pay3 x4)) -∗ K ⟨⟩))
      ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_heads_eq_skeleton]; unfold cc0_heads_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H8]
  · iexists _; isplitr; swap; · iexact H8
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H9]
  · iexists _; isplitr; swap; · iexact H9
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H10]
  · iexists _; isplitr; swap; · iexact H10
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H11]
  · iexists _; isplitr; swap; · iexact H11
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H12]
  · iexists _; isplitr; swap; · iexact H12
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H13]
  · iexists _; isplitr; swap; · iexact H13
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  iexists _; isplitr; swap; · iexact H14
  ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl

end Cert.KernelIdeal.Hand

end
-- ==== Proof.Run0B.lean ====
module

public import proofs.«01_k».proof.Proof.Payloads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- What the body leaves in a later point: its inputs as they were, its outputs at the named values. -/
theorem run0_B (c : Dev nD) (i : grid0.Coords) (arg1 : Memref sig .tc .smem S1 .i32) (harg1 : arg1.IsWhole) (arg2 : Memref sig .tc .vmem S80x2304 .bf16) (harg2 : arg2.IsWhole) (arg3 : Memref sig .tc .vmem S1152x768 .i8) (harg3 : arg3.IsWhole) (arg4 : Memref sig .tc .vmem S18x768 .f32) (harg4 : arg4.IsWhole) (arg5 : Memref sig .tc .vmem S64x896 .bf16) (harg5 : arg5.IsWhole) (arg6 : Memref sig .tc .vmem S896x768 .fp8e4m3) (harg6 : arg6.IsWhole) (arg7 : Memref sig .tc .vmem S1x768 .f32) (harg7 : arg7.IsWhole) (arg8 : Memref sig .tc .vmem S80x768 .f32) (harg8 : arg8.IsWhole) (arg9 : Memref sig .tc .vmem S64x768 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x896 .fp8e4m3) (harg14 : arg14.IsWhole) (arg15 : Memref sig .tc .vmem S64x128 .f32) (harg15 : arg15.IsWhole) (hc0 : ¬cond0 i)
    (x0 : Vec F S1 .i32) (x1 : Vec F S80x2304 .bf16) (x2 : Vec F S1152x768 .i8) (x3 : Vec F S18x768 .f32) (x4 : Vec F S64x896 .bf16) (x5 : Vec F S896x768 .fp8e4m3) (x6 : Vec F S1x768 .f32) (o9 : Vec F S80x128 .f32) (o10 : Vec F S80x128 .f32) (o11 : Vec F S64x128 .f32) (o12 : Vec F S64x128 .f32) (o13 : Vec F S64x896 .fp8e4m3) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare o9 ∗ owns (c : Thread nD τ) arg11 fullShare o10 ∗ owns (c : Thread nD τ) arg12 fullShare o11 ∗ owns (c : Thread nD τ) arg13 fullShare o12 ∗ owns (c : Thread nD τ) arg14 fullShare o13
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (lt0 x1 x2 x3) ∗ owns (c : Thread nD τ) arg9 fullShare (ld0 (word0 x0) o13 x5 x6) ∗ owns (c : Thread nD τ) arg10 fullShare (mt0 x1 x2 x3 o9) ∗ owns (c : Thread nD τ) arg11 fullShare (st0 x1 x2 x3 o9 o10) ∗ owns (c : Thread nD τ) arg12 fullShare (md0 (ld0 (word0 x0) o13 x5 x6) o11) ∗ owns (c : Thread nD τ) arg13 fullShare (sd0 (ld0 (word0 x0) o13 x5 x6) o11 o12) ∗ owns (c : Thread nD τ) arg14 fullShare (o13)) -∗ K ⟨⟩))
      ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_heads_eq_skeleton]; unfold cc0_heads_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hf11; obtain rfl := harg13.eq_unread hf12; obtain rfl := harg14.eq_unread hf13
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H8]
  · iexists _; isplitr; swap; · iexact H8
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H9]
  · iexists _; isplitr; swap; · iexact H9
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H10]
  · iexists _; isplitr; swap; · iexact H10
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H11]
  · iexists _; isplitr; swap; · iexact H11
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H12]
  · iexists _; isplitr; swap; · iexact H12
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  iexists _; isplitr; swap; · iexact H13
  ipureintro; exact harg14.read_unread _

end Cert.KernelIdeal.Hand

end
-- ==== Proof.Valuations.lean ====
module

public import proofs.«01_k».proof.Proof.Payloads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A buffer of the TensorCore at a valuation. -/
abbrev VB (V : Dev nD → Valuation τ sig (Elt F)) (c : Dev nD) (b : Ref sig .tc) : Buf (Elt F) ((c : Thread nD τ).loc b) := V c (Proc.devRef .tc b)

end Cert.KernelIdeal.Hand

end
-- ==== Proof.Reg0.lean ====
module

public import proofs.«01_k».proof.Proof.Run0A
public import proofs.«01_k».proof.Proof.Run0B
public import proofs.«01_k».proof.Proof.Valuations
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! Region 0 entered at the buffers' contents `V`. -/
variable (V : Dev nD → Valuation τ sig (Elt F))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (VB V c (Pipeline.arrRef spec0 w))

theorem before0_0_of {c : Dev nD} (dat : Dat τ (Elt F) Unit ℕ (UR sig nD τ) ℕ cfg0 c) (hA : dat.A 0 = VB V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = VB V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = VB V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = VB V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = VB V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = VB V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = VB V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The first point. -/
abbrev first0 : Fin cfg0.N := ⟨0, lt_of_lt_of_eq (by decide : 0 < 167) (show cfg0.N = 167 from N_0).symm⟩

/-- The codes of the draft activations, made at the first point and kept. -/
def codesAt (c : Dev nD) : Vec F S64x896 .fp8e4m3 := k0_pay4 (word0 (iblk0 V c 0 first0)) (iblk0 V c 4 first0)
/-- The rows' largest magnitudes, made at the first point and kept. -/
def amaxAt (c : Dev nD) : Vec F S64x128 .f32 := k0_pay3 (iblk0 V c 4 first0)
/-- What the body leaves at point `t`: a tile of the target logits. -/
def ltTile (c : Dev nD) (t : Fin cfg0.N) : Vec F S80x768 .f32 := lt0 (iblk0 V c 1 t) (iblk0 V c 2 t) (iblk0 V c 3 t)
/-- What the body leaves at point `t`: a tile of the draft logits. -/
def ldTile (c : Dev nD) (t : Fin cfg0.N) : Vec F S64x768 .f32 := ld0 (word0 (iblk0 V c 0 t)) (codesAt V c) (iblk0 V c 5 t) (iblk0 V c 6 t)
/-- What output window 9 holds after the point of position `n`. -/
def mtAt (c : Dev nD) : (n : ℕ) → n < cfg0.N → Vec F S80x128 .f32
  | 0, hn => mt0 (iblk0 V c 1 ⟨0, hn⟩) (iblk0 V c 2 ⟨0, hn⟩) (iblk0 V c 3 ⟨0, hn⟩) k0_pay5
  | n + 1, hn => mt0 (iblk0 V c 1 ⟨n + 1, hn⟩) (iblk0 V c 2 ⟨n + 1, hn⟩) (iblk0 V c 3 ⟨n + 1, hn⟩) (mtAt c n (Nat.lt_of_succ_lt hn))
theorem mtAt_A (c : Dev nD) (t : Fin cfg0.N) (h0 : t.val % 167 = 0) : mtAt V c t.val t.isLt = mt0 (iblk0 V c 1 t) (iblk0 V c 2 t) (iblk0 V c 3 t) k0_pay5 := by
  have hN : t.val < 167 := lt_of_lt_of_eq t.isLt (show cfg0.N = 167 from N_0)
  obtain ⟨n, hn⟩ := t
  cases n with
  | zero => exact rfl
  | succ n => exact absurd h0 (by dsimp only at hN ⊢; omega)
theorem mtAt_B (c : Dev nD) (t : Fin cfg0.N) (h0 : ¬t.val % 167 = 0) :
    mtAt V c t.val t.isLt = mt0 (iblk0 V c 1 t) (iblk0 V c 2 t) (iblk0 V c 3 t) (mtAt V c (t.val - 1) (Nat.lt_of_le_of_lt (Nat.sub_le _ _) t.isLt)) := by
  obtain ⟨n, hn⟩ := t
  cases n with
  | zero => exact absurd (Nat.zero_mod _) h0
  | succ n => exact rfl
/-- What output window 10 holds after the point of position `n`. -/
def stAt (c : Dev nD) : (n : ℕ) → n < cfg0.N → Vec F S80x128 .f32
  | 0, hn => st0 (iblk0 V c 1 ⟨0, hn⟩) (iblk0 V c 2 ⟨0, hn⟩) (iblk0 V c 3 ⟨0, hn⟩) k0_pay5 k0_pay7
  | n + 1, hn => st0 (iblk0 V c 1 ⟨n + 1, hn⟩) (iblk0 V c 2 ⟨n + 1, hn⟩) (iblk0 V c 3 ⟨n + 1, hn⟩) (mtAt V c n (Nat.lt_of_succ_lt hn)) (stAt c n (Nat.lt_of_succ_lt hn))
theorem stAt_A (c : Dev nD) (t : Fin cfg0.N) (h0 : t.val % 167 = 0) : stAt V c t.val t.isLt = st0 (iblk0 V c 1 t) (iblk0 V c 2 t) (iblk0 V c 3 t) k0_pay5 k0_pay7 := by
  have hN : t.val < 167 := lt_of_lt_of_eq t.isLt (show cfg0.N = 167 from N_0)
  obtain ⟨n, hn⟩ := t
  cases n with
  | zero => exact rfl
  | succ n => exact absurd h0 (by dsimp only at hN ⊢; omega)
theorem stAt_B (c : Dev nD) (t : Fin cfg0.N) (h0 : ¬t.val % 167 = 0) :
    stAt V c t.val t.isLt = st0 (iblk0 V c 1 t) (iblk0 V c 2 t) (iblk0 V c 3 t) (mtAt V c (t.val - 1) (Nat.lt_of_le_of_lt (Nat.sub_le _ _) t.isLt)) (stAt V c (t.val - 1) (Nat.lt_of_le_of_lt (Nat.sub_le _ _) t.isLt)) := by
  obtain ⟨n, hn⟩ := t
  cases n with
  | zero => exact absurd (Nat.zero_mod _) h0
  | succ n => exact rfl
/-- What output window 11 holds after the point of position `n`. -/
def mdAt (c : Dev nD) : (n : ℕ) → n < cfg0.N → Vec F S64x128 .f32
  | 0, hn => md0 (ldTile V c ⟨0, hn⟩) k0_pay6
  | n + 1, hn => md0 (ldTile V c ⟨n + 1, hn⟩) (mdAt c n (Nat.lt_of_succ_lt hn))
theorem mdAt_A (c : Dev nD) (t : Fin cfg0.N) (h0 : t.val % 167 = 0) : mdAt V c t.val t.isLt = md0 (ldTile V c t) k0_pay6 := by
  have hN : t.val < 167 := lt_of_lt_of_eq t.isLt (show cfg0.N = 167 from N_0)
  obtain ⟨n, hn⟩ := t
  cases n with
  | zero => exact rfl
  | succ n => exact absurd h0 (by dsimp only at hN ⊢; omega)
theorem mdAt_B (c : Dev nD) (t : Fin cfg0.N) (h0 : ¬t.val % 167 = 0) :
    mdAt V c t.val t.isLt = md0 (ldTile V c t) (mdAt V c (t.val - 1) (Nat.lt_of_le_of_lt (Nat.sub_le _ _) t.isLt)) := by
  obtain ⟨n, hn⟩ := t
  cases n with
  | zero => exact absurd (Nat.zero_mod _) h0
  | succ n => exact rfl
/-- What output window 12 holds after the point of position `n`. -/
def sdAt (c : Dev nD) : (n : ℕ) → n < cfg0.N → Vec F S64x128 .f32
  | 0, hn => sd0 (ldTile V c ⟨0, hn⟩) k0_pay6 k0_pay8
  | n + 1, hn => sd0 (ldTile V c ⟨n + 1, hn⟩) (mdAt V c n (Nat.lt_of_succ_lt hn)) (sdAt c n (Nat.lt_of_succ_lt hn))
theorem sdAt_A (c : Dev nD) (t : Fin cfg0.N) (h0 : t.val % 167 = 0) : sdAt V c t.val t.isLt = sd0 (ldTile V c t) k0_pay6 k0_pay8 := by
  have hN : t.val < 167 := lt_of_lt_of_eq t.isLt (show cfg0.N = 167 from N_0)
  obtain ⟨n, hn⟩ := t
  cases n with
  | zero => exact rfl
  | succ n => exact absurd h0 (by dsimp only at hN ⊢; omega)
theorem sdAt_B (c : Dev nD) (t : Fin cfg0.N) (h0 : ¬t.val % 167 = 0) :
    sdAt V c t.val t.isLt = sd0 (ldTile V c t) (mdAt V c (t.val - 1) (Nat.lt_of_le_of_lt (Nat.sub_le _ _) t.isLt)) (sdAt V c (t.val - 1) (Nat.lt_of_le_of_lt (Nat.sub_le _ _) t.isLt)) := by
  obtain ⟨n, hn⟩ := t
  cases n with
  | zero => exact absurd (Nat.zero_mod _) h0
  | succ n => exact rfl

/-- The region's proof data: the arrays as the region finds them, what the body leaves in each window's buffer, nothing owed. -/
def dats0 (c : Dev nD) : Dat τ (Elt F) Unit ℕ (UR sig nD τ) ℕ cfg0 c where
  A w := VB V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => ltTile V c t
    | ⟨8, _⟩ => ldTile V c t
    | ⟨9, _⟩ => mtAt V c t.val t.isLt
    | ⟨10, _⟩ => stAt V c t.val t.isLt
    | ⟨11, _⟩ => mdAt V c t.val t.isLt
    | ⟨12, _⟩ => sdAt V c t.val t.isLt
    | ⟨13, _⟩ => codesAt V c
    | ⟨14, _⟩ => amaxAt V c
  Φ _ := Pipeline.ΦA spec0 c
  q _ := fullShare
  owed _ := 0
theorem A_eq0 (c : Dev nD) (w : Fin cfg0.W) : (dats0 V c).A w = VB V c (Pipeline.arrRef spec0 w) := by dsimp only [dats0]
theorem after0_0 (c : Dev nD) (t : Fin cfg0.N) : (dats0 V c).after 0 t = iblk0 V c 0 t := by dsimp only [dats0]
theorem after0_1 (c : Dev nD) (t : Fin cfg0.N) : (dats0 V c).after 1 t = iblk0 V c 1 t := by dsimp only [dats0]
theorem after0_2 (c : Dev nD) (t : Fin cfg0.N) : (dats0 V c).after 2 t = iblk0 V c 2 t := by dsimp only [dats0]
theorem after0_3 (c : Dev nD) (t : Fin cfg0.N) : (dats0 V c).after 3 t = iblk0 V c 3 t := by dsimp only [dats0]
theorem after0_4 (c : Dev nD) (t : Fin cfg0.N) : (dats0 V c).after 4 t = iblk0 V c 4 t := by dsimp only [dats0]
theorem after0_5 (c : Dev nD) (t : Fin cfg0.N) : (dats0 V c).after 5 t = iblk0 V c 5 t := by dsimp only [dats0]
theorem after0_6 (c : Dev nD) (t : Fin cfg0.N) : (dats0 V c).after 6 t = iblk0 V c 6 t := by dsimp only [dats0]
theorem after0_7 (c : Dev nD) (t : Fin cfg0.N) : (dats0 V c).after 7 t = ltTile V c t := by dsimp only [dats0]
theorem after0_8 (c : Dev nD) (t : Fin cfg0.N) : (dats0 V c).after 8 t = ldTile V c t := by dsimp only [dats0]
theorem after0_9 (c : Dev nD) (t : Fin cfg0.N) : (dats0 V c).after 9 t = mtAt V c t.val t.isLt := by dsimp only [dats0]
theorem after0_10 (c : Dev nD) (t : Fin cfg0.N) : (dats0 V c).after 10 t = stAt V c t.val t.isLt := by dsimp only [dats0]
theorem after0_11 (c : Dev nD) (t : Fin cfg0.N) : (dats0 V c).after 11 t = mdAt V c t.val t.isLt := by dsimp only [dats0]
theorem after0_12 (c : Dev nD) (t : Fin cfg0.N) : (dats0 V c).after 12 t = sdAt V c t.val t.isLt := by dsimp only [dats0]
theorem after0_13 (c : Dev nD) (t : Fin cfg0.N) : (dats0 V c).after 13 t = codesAt V c := by dsimp only [dats0]
theorem after0_14 (c : Dev nD) (t : Fin cfg0.N) : (dats0 V c).after 14 t = amaxAt V c := by dsimp only [dats0]
theorem before0_0 (c : Dev nD) (t : Fin cfg0.N) (d) : (dats0 V c).before 0 t d = iblk0 V c 0 t :=
  before0_0_of V (dats0 V c) (A_eq0 V c 0) (after0_0 V c) t d
theorem before0_1 (c : Dev nD) (t : Fin cfg0.N) (d) : (dats0 V c).before 1 t d = iblk0 V c 1 t :=
  before0_1_of V (dats0 V c) (A_eq0 V c 1) (after0_1 V c) t d
theorem before0_2 (c : Dev nD) (t : Fin cfg0.N) (d) : (dats0 V c).before 2 t d = iblk0 V c 2 t :=
  before0_2_of V (dats0 V c) (A_eq0 V c 2) (after0_2 V c) t d
theorem before0_3 (c : Dev nD) (t : Fin cfg0.N) (d) : (dats0 V c).before 3 t d = iblk0 V c 3 t :=
  before0_3_of V (dats0 V c) (A_eq0 V c 3) (after0_3 V c) t d
theorem before0_4 (c : Dev nD) (t : Fin cfg0.N) (d) : (dats0 V c).before 4 t d = iblk0 V c 4 t :=
  before0_4_of V (dats0 V c) (A_eq0 V c 4) (after0_4 V c) t d
theorem before0_5 (c : Dev nD) (t : Fin cfg0.N) (d) : (dats0 V c).before 5 t d = iblk0 V c 5 t :=
  before0_5_of V (dats0 V c) (A_eq0 V c 5) (after0_5 V c) t d
theorem before0_6 (c : Dev nD) (t : Fin cfg0.N) (d) : (dats0 V c).before 6 t d = iblk0 V c 6 t :=
  before0_6_of V (dats0 V c) (A_eq0 V c 6) (after0_6 V c) t d
/-- Window 13 is written at the first point only. -/
theorem idle0_13 (t : Fin cfg0.N) : cfg0.idle 13 (cfg0.grid.coords t) = true ↔ ¬t.val % 167 = 0 := by
  show (!(k0_cond1 (grid0.coords t) == 1#1)) = true ↔ _
  rw [← hcond0 t, Bool.not_eq_true', beq_eq_false_iff_ne]
  exact Iff.rfl
theorem fresh0_13 : ∀ n (_ : n ≠ 0) (_ : n < 167), cfg0.fresh 13 n = false
  | 0, h, _ => absurd rfl h
  | n + 1, _, hn => by
    rw [Pipeline.Cfg.fresh_succ cfg0 13 n (lt_of_lt_of_eq (by omega : n < 167) (show cfg0.N = 167 from N_0).symm)]
    rw [Bool.or_eq_false_iff, Bool.and_eq_false_iff]
    refine ⟨Bool.eq_false_iff.mpr fun h => by have := (flush0_13 _).mp h; dsimp only at this; omega, ?_⟩
    by_cases h0 : n = 0
    · exact .inl (Bool.eq_false_iff.mpr fun h => by have := (idle0_13 _).mp h; dsimp only at this; omega)
    · exact .inr (fresh0_13 n h0 (by omega))
theorem before0_13_B (c : Dev nD) (t : Fin cfg0.N) (h0 : ¬t.val % 167 = 0) (d) : (dats0 V c).before 13 t d = codesAt V c := by
  have hN : t.val < 167 := lt_of_lt_of_eq t.isLt (show cfg0.N = 167 from N_0)
  rw [Dat.before_out_traj (dats0 V c) 13 rfl (fun _ _ => rfl) (fun _ _ _ _ => by dsimp only [dats0]) t.val t rfl d,
    fresh0_13 t.val (by omega) hN, if_neg Bool.false_ne_true]
  dsimp only [dats0]
/-- What the point leaves in window 13, as the obligation states it: where the point does not write, what was found. -/
theorem leave0_13 (c : Dev nD) (t : Fin cfg0.N) :
    owns (c : Thread nD τ) (win0_13.stage (cfg0.slots t 13)) fullShare ((dats0 V c).after 13 t) ⊢
      (match cfg0.idle 13 (cfg0.grid.coords t) with
        | true =>
          match (cfg0.win 13).flush t with
          | false => iprop(∃ d, owns (c : Thread nD τ) ((cfg0.win 13).stage (cfg0.slots t 13)) fullShare ((dats0 V c).before 13 t d))
          | true => owns (c : Thread nD τ) ((cfg0.win 13).stage (cfg0.slots t 13)) fullShare ((dats0 V c).after 13 t)
        | false => owns (c : Thread nD τ) ((cfg0.win 13).stage (cfg0.slots t 13)) fullShare ((dats0 V c).after 13 t) : sProp 𝕄) := by
  cases hi : cfg0.idle 13 (cfg0.grid.coords t)
  · exact .rfl
  · cases hf : (cfg0.win 13).flush t
    · simp only [before0_13_B V c t ((idle0_13 t).mp hi), after0_13]
      iintro H
      iexists (dats0 V c).after 13 t
      iexact H
    · exact .rfl
/-- Window 14 is written at the first point only. -/
theorem idle0_14 (t : Fin cfg0.N) : cfg0.idle 14 (cfg0.grid.coords t) = true ↔ ¬t.val % 167 = 0 := by
  show (!(k0_cond1 (grid0.coords t) == 1#1)) = true ↔ _
  rw [← hcond0 t, Bool.not_eq_true', beq_eq_false_iff_ne]
  exact Iff.rfl
theorem fresh0_14 : ∀ n (_ : n ≠ 0) (_ : n < 167), cfg0.fresh 14 n = false
  | 0, h, _ => absurd rfl h
  | n + 1, _, hn => by
    rw [Pipeline.Cfg.fresh_succ cfg0 14 n (lt_of_lt_of_eq (by omega : n < 167) (show cfg0.N = 167 from N_0).symm)]
    rw [Bool.or_eq_false_iff, Bool.and_eq_false_iff]
    refine ⟨Bool.eq_false_iff.mpr fun h => by have := (flush0_14 _).mp h; dsimp only at this; omega, ?_⟩
    by_cases h0 : n = 0
    · exact .inl (Bool.eq_false_iff.mpr fun h => by have := (idle0_14 _).mp h; dsimp only at this; omega)
    · exact .inr (fresh0_14 n h0 (by omega))
theorem before0_14_B (c : Dev nD) (t : Fin cfg0.N) (h0 : ¬t.val % 167 = 0) (d) : (dats0 V c).before 14 t d = amaxAt V c := by
  have hN : t.val < 167 := lt_of_lt_of_eq t.isLt (show cfg0.N = 167 from N_0)
  rw [Dat.before_out_traj (dats0 V c) 14 rfl (fun _ _ => rfl) (fun _ _ _ _ => by dsimp only [dats0]) t.val t rfl d,
    fresh0_14 t.val (by omega) hN, if_neg Bool.false_ne_true]
  dsimp only [dats0]
/-- What the point leaves in window 14, as the obligation states it: where the point does not write, what was found. -/
theorem leave0_14 (c : Dev nD) (t : Fin cfg0.N) :
    owns (c : Thread nD τ) (win0_14.stage (cfg0.slots t 14)) fullShare ((dats0 V c).after 14 t) ⊢
      (match cfg0.idle 14 (cfg0.grid.coords t) with
        | true =>
          match (cfg0.win 14).flush t with
          | false => iprop(∃ d, owns (c : Thread nD τ) ((cfg0.win 14).stage (cfg0.slots t 14)) fullShare ((dats0 V c).before 14 t d))
          | true => owns (c : Thread nD τ) ((cfg0.win 14).stage (cfg0.slots t 14)) fullShare ((dats0 V c).after 14 t)
        | false => owns (c : Thread nD τ) ((cfg0.win 14).stage (cfg0.slots t 14)) fullShare ((dats0 V c).after 14 t) : sProp 𝕄) := by
  cases hi : cfg0.idle 14 (cfg0.grid.coords t)
  · exact .rfl
  · cases hf : (cfg0.win 14).flush t
    · simp only [before0_14_B V c t ((idle0_14 t).mp hi), after0_14]
      iintro H
      iexists (dats0 V c).after 14 t
      iexact H
    · exact .rfl
theorem before0_9_B (c : Dev nD) (t : Fin cfg0.N) (h0 : ¬t.val % 167 = 0) (d) : (dats0 V c).before 9 t d = mtAt V c (t.val - 1) (Nat.lt_of_le_of_lt (Nat.sub_le _ _) t.isLt) := by
  have hN : t.val < 167 := lt_of_lt_of_eq t.isLt (show cfg0.N = 167 from N_0)
  rw [Dat.before_out_kept _ 9 rfl t (by omega) (Bool.eq_false_iff.mpr fun h => by have := (flush0_9 _).mp h; dsimp only at this; omega)
    (fun _ => rfl) (fun _ _ => rfl)]
  dsimp only [dats0]
theorem before0_10_B (c : Dev nD) (t : Fin cfg0.N) (h0 : ¬t.val % 167 = 0) (d) : (dats0 V c).before 10 t d = stAt V c (t.val - 1) (Nat.lt_of_le_of_lt (Nat.sub_le _ _) t.isLt) := by
  have hN : t.val < 167 := lt_of_lt_of_eq t.isLt (show cfg0.N = 167 from N_0)
  rw [Dat.before_out_kept _ 10 rfl t (by omega) (Bool.eq_false_iff.mpr fun h => by have := (flush0_10 _).mp h; dsimp only at this; omega)
    (fun _ => rfl) (fun _ _ => rfl)]
  dsimp only [dats0]
theorem before0_11_B (c : Dev nD) (t : Fin cfg0.N) (h0 : ¬t.val % 167 = 0) (d) : (dats0 V c).before 11 t d = mdAt V c (t.val - 1) (Nat.lt_of_le_of_lt (Nat.sub_le _ _) t.isLt) := by
  have hN : t.val < 167 := lt_of_lt_of_eq t.isLt (show cfg0.N = 167 from N_0)
  rw [Dat.before_out_kept _ 11 rfl t (by omega) (Bool.eq_false_iff.mpr fun h => by have := (flush0_11 _).mp h; dsimp only at this; omega)
    (fun _ => rfl) (fun _ _ => rfl)]
  dsimp only [dats0]
theorem before0_12_B (c : Dev nD) (t : Fin cfg0.N) (h0 : ¬t.val % 167 = 0) (d) : (dats0 V c).before 12 t d = sdAt V c (t.val - 1) (Nat.lt_of_le_of_lt (Nat.sub_le _ _) t.isLt) := by
  have hN : t.val < 167 := lt_of_lt_of_eq t.isLt (show cfg0.N = 167 from N_0)
  rw [Dat.before_out_kept _ 12 rfl t (by omega) (Bool.eq_false_iff.mpr fun h => by have := (flush0_12 _).mp h; dsimp only at this; omega)
    (fun _ => rfl) (fun _ _ => rfl)]
  dsimp only [dats0]

/-- What the body is called with at point `t`, -/
def bodyPre0 (c : Dev nD) (t : Fin cfg0.N) : sProp 𝕄 :=
  iprop((dats0 V c).Φ t.castSucc ∗ (dats0 V c).owesAt () t.castSucc
    ∗ (∃ d, owns (c : Thread nD τ) (win0_0.stage (cfg0.slots t 0)) fullShare ((dats0 V c).before 0 t d))
    ∗ (∃ d, owns (c : Thread nD τ) (win0_1.stage (cfg0.slots t 1)) fullShare ((dats0 V c).before 1 t d))
    ∗ (∃ d, owns (c : Thread nD τ) (win0_2.stage (cfg0.slots t 2)) fullShare ((dats0 V c).before 2 t d))
    ∗ (∃ d, owns (c : Thread nD τ) (win0_3.stage (cfg0.slots t 3)) fullShare ((dats0 V c).before 3 t d))
    ∗ (∃ d, owns (c : Thread nD τ) (win0_4.stage (cfg0.slots t 4)) fullShare ((dats0 V c).before 4 t d))
    ∗ (∃ d, owns (c : Thread nD τ) (win0_5.stage (cfg0.slots t 5)) fullShare ((dats0 V c).before 5 t d))
    ∗ (∃ d, owns (c : Thread nD τ) (win0_6.stage (cfg0.slots t 6)) fullShare ((dats0 V c).before 6 t d))
    ∗ (∃ d, owns (c : Thread nD τ) (win0_7.stage (cfg0.slots t 7)) fullShare ((dats0 V c).before 7 t d))
    ∗ (∃ d, owns (c : Thread nD τ) (win0_8.stage (cfg0.slots t 8)) fullShare ((dats0 V c).before 8 t d))
    ∗ (∃ d, owns (c : Thread nD τ) (win0_9.stage (cfg0.slots t 9)) fullShare ((dats0 V c).before 9 t d))
    ∗ (∃ d, owns (c : Thread nD τ) (win0_10.stage (cfg0.slots t 10)) fullShare ((dats0 V c).before 10 t d))
    ∗ (∃ d, owns (c : Thread nD τ) (win0_11.stage (cfg0.slots t 11)) fullShare ((dats0 V c).before 11 t d))
    ∗ (∃ d, owns (c : Thread nD τ) (win0_12.stage (cfg0.slots t 12)) fullShare ((dats0 V c).before 12 t d))
    ∗ (∃ d, owns (c : Thread nD τ) (win0_13.stage (cfg0.slots t 13)) fullShare ((dats0 V c).before 13 t d))
    ∗ (∃ d, owns (c : Thread nD τ) (win0_14.stage (cfg0.slots t 14)) fullShare ((dats0 V c).before 14 t d)))
/-- and what it returns. -/
def bodyPost0 (c : Dev nD) (t : Fin cfg0.N) : sProp 𝕄 :=
  iprop((dats0 V c).Φ t.succ ∗ (dats0 V c).owesAt () t.succ
    ∗ owns (c : Thread nD τ) (win0_0.stage (cfg0.slots t 0)) fullShare ((dats0 V c).after 0 t)
    ∗ owns (c : Thread nD τ) (win0_1.stage (cfg0.slots t 1)) fullShare ((dats0 V c).after 1 t)
    ∗ owns (c : Thread nD τ) (win0_2.stage (cfg0.slots t 2)) fullShare ((dats0 V c).after 2 t)
    ∗ owns (c : Thread nD τ) (win0_3.stage (cfg0.slots t 3)) fullShare ((dats0 V c).after 3 t)
    ∗ owns (c : Thread nD τ) (win0_4.stage (cfg0.slots t 4)) fullShare ((dats0 V c).after 4 t)
    ∗ owns (c : Thread nD τ) (win0_5.stage (cfg0.slots t 5)) fullShare ((dats0 V c).after 5 t)
    ∗ owns (c : Thread nD τ) (win0_6.stage (cfg0.slots t 6)) fullShare ((dats0 V c).after 6 t)
    ∗ owns (c : Thread nD τ) (win0_7.stage (cfg0.slots t 7)) fullShare ((dats0 V c).after 7 t)
    ∗ owns (c : Thread nD τ) (win0_8.stage (cfg0.slots t 8)) fullShare ((dats0 V c).after 8 t)
    ∗ owns (c : Thread nD τ) (win0_9.stage (cfg0.slots t 9)) fullShare ((dats0 V c).after 9 t)
    ∗ owns (c : Thread nD τ) (win0_10.stage (cfg0.slots t 10)) fullShare ((dats0 V c).after 10 t)
    ∗ owns (c : Thread nD τ) (win0_11.stage (cfg0.slots t 11)) fullShare ((dats0 V c).after 11 t)
    ∗ owns (c : Thread nD τ) (win0_12.stage (cfg0.slots t 12)) fullShare ((dats0 V c).after 12 t)
    ∗ owns (c : Thread nD τ) (win0_13.stage (cfg0.slots t 13)) fullShare ((dats0 V c).after 13 t)
    ∗ owns (c : Thread nD τ) (win0_14.stage (cfg0.slots t 14)) fullShare ((dats0 V c).after 14 t))

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dats0 V c).Φ t.succ = (dats0 V c).Φ t.castSucc from rfl,
    show (dats0 V c).owesAt () t.succ = (dats0 V c).owesAt () t.castSucc from rfl,
    after0_0, after0_1, after0_2, after0_3, after0_4, after0_5, after0_6, after0_7, after0_8, after0_9, after0_10, after0_11, after0_12, after0_13, after0_14]
  have hN : t.val < 167 := lt_of_lt_of_eq t.isLt (show cfg0.N = 167 from N_0)
  by_cases h0 : t.val % 167 = 0
  · obtain rfl : t = first0 := Fin.ext (by show t.val = 0; omega)
    rw [mtAt_A V c _ h0]
    rw [stAt_A V c _ h0]
    rw [mdAt_A V c _ h0]
    rw [sdAt_A V c _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run0_A c (grid0.coords first0) (win0_0.stage (cfg0.slots first0 0)) (hstage0_0 ((cfg0.slots first0 0).cast nbuf0_0)) (win0_1.stage (cfg0.slots first0 1)) (hstage0_1 ((cfg0.slots first0 1).cast nbuf0_1)) (win0_2.stage (cfg0.slots first0 2)) (hstage0_2 ((cfg0.slots first0 2).cast nbuf0_2)) (win0_3.stage (cfg0.slots first0 3)) (hstage0_3 ((cfg0.slots first0 3).cast nbuf0_3)) (win0_4.stage (cfg0.slots first0 4)) (hstage0_4 ((cfg0.slots first0 4).cast nbuf0_4)) (win0_5.stage (cfg0.slots first0 5)) (hstage0_5 ((cfg0.slots first0 5).cast nbuf0_5)) (win0_6.stage (cfg0.slots first0 6)) (hstage0_6 ((cfg0.slots first0 6).cast nbuf0_6)) (win0_7.stage (cfg0.slots first0 7)) (hstage0_7 ((cfg0.slots first0 7).cast nbuf0_7)) (win0_8.stage (cfg0.slots first0 8)) (hstage0_8 ((cfg0.slots first0 8).cast nbuf0_8)) (win0_9.stage (cfg0.slots first0 9)) (hstage0_9 ((cfg0.slots first0 9).cast nbuf0_9)) (win0_10.stage (cfg0.slots first0 10)) (hstage0_10 ((cfg0.slots first0 10).cast nbuf0_10)) (win0_11.stage (cfg0.slots first0 11)) (hstage0_11 ((cfg0.slots first0 11).cast nbuf0_11)) (win0_12.stage (cfg0.slots first0 12)) (hstage0_12 ((cfg0.slots first0 12).cast nbuf0_12)) (win0_13.stage (cfg0.slots first0 13)) (hstage0_13 ((cfg0.slots first0 13).cast nbuf0_13)) (win0_14.stage (cfg0.slots first0 14)) (hstage0_14 ((cfg0.slots first0 14).cast nbuf0_14)) ((hcond0 first0).mpr h0) (iblk0 V c 0 first0) (iblk0 V c 1 first0) (iblk0 V c 2 first0) (iblk0 V c 3 first0) (iblk0 V c 4 first0) (iblk0 V c 5 first0) (iblk0 V c 6 first0)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · skip
    rw [mtAt_B V c t h0]
    rw [stAt_B V c t h0]
    rw [mdAt_B V c t h0]
    rw [sdAt_B V c t h0]
    simp only [before0_9_B V c t h0, before0_10_B V c t h0, before0_11_B V c t h0, before0_12_B V c t h0, before0_13_B V c t h0, before0_14_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (fun h => h0 ((hcond0 t).mp h)) (iblk0 V c 0 t) (iblk0 V c 1 t) (iblk0 V c 2 t) (iblk0 V c 3 t) (iblk0 V c 4 t) (iblk0 V c 5 t) (iblk0 V c 6 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
end Cert.KernelIdeal.Hand

end
-- ==== Proof.Obl0.lean ====
module

public import proofs.«01_k».proof.Proof.Reg0

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : Dev nD → Valuation τ sig (Elt F))

theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dats0 (F := F) V c) (defs₀ (F := F)) Variants.none () Set.univ := fun t => by
  rw [bigSep_W0, bigSep_W0, defs₀_row0]
  refine triple_restated (sound_body0 V c t) rfl .rfl fun _ => ?_
  unfold bodyPost0
  iintro ⟨HΦ, Ho, H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iapply (leave0_13 V c t); iexact H13
  iapply (leave0_14 V c t); iexact H14

end Cert.KernelIdeal.Hand

end
-- ==== Proof.Run1A.lean ====
module

public import proofs.«01_k».proof.Proof.Payloads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- What the body leaves in the first point: its inputs as they were, its outputs at the named values. -/
theorem run1_A (c : Dev nD) (i : grid1.Coords) (arg1 : Memref sig .tc .vmem S64x768 .f32) (harg1 : arg1.IsWhole) (arg2 : Memref sig .tc .vmem S64x768 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (hc0 : cond1 i)
    (x0 : Vec F S64x768 .f32) (x1 : Vec F S64x768 .f32) (x2 : Vec F S80x128 .f32) (x3 : Vec F S80x128 .f32) (x4 : Vec F S64x128 .f32) (x5 : Vec F S64x128 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (z1 x0 x1 x2 x3 x4 x5 k1_pay1)) -∗ K ⟨⟩))
      ⊢ wp frame (wpE (defs₀ (F := F)) Variants.none c none) E (cc1_zsum i arg1 harg1 arg2 harg2 arg3 harg3 arg4 harg4 arg5 harg5 arg6 harg6 arg7 harg7) K := by
  simp only [cc1_zsum_eq_skeleton]; unfold cc1_zsum_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  iexists _; isplitr; swap; · iexact H6
  ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl

end Cert.KernelIdeal.Hand

end
-- ==== Proof.Run1B.lean ====
module

public import proofs.«01_k».proof.Proof.Payloads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- What the body leaves in a later point: its inputs as they were, its outputs at the named values. -/
theorem run1_B (c : Dev nD) (i : grid1.Coords) (arg1 : Memref sig .tc .vmem S64x768 .f32) (harg1 : arg1.IsWhole) (arg2 : Memref sig .tc .vmem S64x768 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (hc0 : ¬cond1 i)
    (x0 : Vec F S64x768 .f32) (x1 : Vec F S64x768 .f32) (x2 : Vec F S80x128 .f32) (x3 : Vec F S80x128 .f32) (x4 : Vec F S64x128 .f32) (x5 : Vec F S64x128 .f32) (o6 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare o6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (z1 x0 x1 x2 x3 x4 x5 o6)) -∗ K ⟨⟩))
      ⊢ wp frame (wpE (defs₀ (F := F)) Variants.none c none) E (cc1_zsum i arg1 harg1 arg2 harg2 arg3 harg3 arg4 harg4 arg5 harg5 arg6 harg6 arg7 harg7) K := by
  simp only [cc1_zsum_eq_skeleton]; unfold cc1_zsum_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  iexists _; isplitr; swap; · iexact H6
  ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl

end Cert.KernelIdeal.Hand

end
-- ==== Proof.Reg1.lean ====
module

public import proofs.«01_k».proof.Proof.Run1A
public import proofs.«01_k».proof.Proof.Run1B
public import proofs.«01_k».proof.Proof.Valuations

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! Region 1 entered at the buffers' contents `V`. -/
variable (V : Dev nD → Valuation τ sig (Elt F))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (VB V c (Pipeline.arrRef spec1 w))

/-- Window 0's block does not divide its array's rows, yet no block that the grid reaches is cut. -/
def dflt1_0 : (cfg1.win 0).block.Idx → Elt F (cfg1.win 0).elt := fun _ => Classical.choice inferInstance
/-- What window 0's buffer holds when the body runs. -/
def X1_0 (c : Dev nD) (t : Fin cfg1.N) : (cfg1.win 0).block.Idx → Elt F (cfg1.win 0).elt :=
  (cfg1.win 0).fill (cfg1.grid.coords t) dflt1_0 (iblk1 V c 0 t)
theorem xsize1_0 : ∀ t : Fin cfg1.N, ∀ a, (cfg1.win 0).xsize (cfg1.grid.coords t) a = (cfg1.win 0).size a := by decide +kernel
theorem moved1_0 (t : Fin cfg1.N) (j : (cfg1.win 0).block.Idx) : (cfg1.win 0).moved (cfg1.grid.coords t) j = true :=
  ((cfg1.win 0).moved_iff _ j).mpr fun a => by rw [xsize1_0 t a]; exact (j a).isLt
theorem fill1_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1_0 t j), dif_pos (moved1_0 t j)]
theorem before1_0_of {c : Dev nD} (dat : Dat τ (Elt F) Unit ℕ (UR sig nD τ) ℕ cfg1 c) (hA : dat.A 0 = VB V c (Pipeline.arrRef spec1 0))
    (hafter : ∀ t, dat.after 0 t = X1_0 V c t) (t : Fin cfg1.N) (d) : dat.before 0 t d = X1_0 V c t :=
  (dat.before_in_eq_fetched 0 rfl (fun _ => rfl)
      (fun t t' h => funext fun a => congrArg (fun n => Pipeline.Clip.of n ((cfg1.win 0).size a) (S80x128256.size a)) (congrFun h a))
      (fun t => by rw [hafter]; unfold X1_0; rw [Pipeline.Window.cut_fill]; unfold Dat.blockOf iblk1; rw [hA]; try rfl) t d).trans
    (by unfold Dat.fetched X1_0; rw [fill1_0 t d dflt1_0]; unfold Dat.blockOf iblk1; rw [hA]; try rfl)

theorem before1_1_of {c : Dev nD} (dat : Dat τ (Elt F) Unit ℕ (UR sig nD τ) ℕ cfg1 c) (hA : dat.A 1 = VB V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = VB V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = VB V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = VB V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = VB V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The first point. -/
abbrev first1 : Fin cfg1.N := ⟨0, lt_of_lt_of_eq (by decide : 0 < 167) (show cfg1.N = 167 from N_1).symm⟩

/-- What output window 6 holds after the point of position `n`. -/
def zAt (c : Dev nD) : (n : ℕ) → n < cfg1.N → Vec F S64x128 .f32
  | 0, hn => z1 (X1_0 V c ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) k1_pay1
  | n + 1, hn => z1 (X1_0 V c ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (zAt c n (Nat.lt_of_succ_lt hn))
theorem zAt_A (c : Dev nD) (t : Fin cfg1.N) (h0 : t.val % 167 = 0) : zAt V c t.val t.isLt = z1 (X1_0 V c t) (iblk1 V c 1 t) (iblk1 V c 2 t) (iblk1 V c 3 t) (iblk1 V c 4 t) (iblk1 V c 5 t) k1_pay1 := by
  have hN : t.val < 167 := lt_of_lt_of_eq t.isLt (show cfg1.N = 167 from N_1)
  obtain ⟨n, hn⟩ := t
  cases n with
  | zero => exact rfl
  | succ n => exact absurd h0 (by dsimp only at hN ⊢; omega)
theorem zAt_B (c : Dev nD) (t : Fin cfg1.N) (h0 : ¬t.val % 167 = 0) :
    zAt V c t.val t.isLt = z1 (X1_0 V c t) (iblk1 V c 1 t) (iblk1 V c 2 t) (iblk1 V c 3 t) (iblk1 V c 4 t) (iblk1 V c 5 t) (zAt V c (t.val - 1) (Nat.lt_of_le_of_lt (Nat.sub_le _ _) t.isLt)) := by
  obtain ⟨n, hn⟩ := t
  cases n with
  | zero => exact absurd (Nat.zero_mod _) h0
  | succ n => exact rfl

/-- The region's proof data: the arrays as the region finds them, what the body leaves in each window's buffer, nothing owed. -/
def dats1 (c : Dev nD) : Dat τ (Elt F) Unit ℕ (UR sig nD τ) ℕ cfg1 c where
  A w := VB V c (Pipeline.arrRef spec1 w)
  after w t := match w with
    | ⟨0, _⟩ => X1_0 V c t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => zAt V c t.val t.isLt
  Φ _ := Pipeline.ΦA spec1 c
  q _ := fullShare
  owed _ := 0
theorem A_eq1 (c : Dev nD) (w : Fin cfg1.W) : (dats1 V c).A w = VB V c (Pipeline.arrRef spec1 w) := by dsimp only [dats1]
theorem after1_0 (c : Dev nD) (t : Fin cfg1.N) : (dats1 V c).after 0 t = X1_0 V c t := by dsimp only [dats1]
theorem after1_1 (c : Dev nD) (t : Fin cfg1.N) : (dats1 V c).after 1 t = iblk1 V c 1 t := by dsimp only [dats1]
theorem after1_2 (c : Dev nD) (t : Fin cfg1.N) : (dats1 V c).after 2 t = iblk1 V c 2 t := by dsimp only [dats1]
theorem after1_3 (c : Dev nD) (t : Fin cfg1.N) : (dats1 V c).after 3 t = iblk1 V c 3 t := by dsimp only [dats1]
theorem after1_4 (c : Dev nD) (t : Fin cfg1.N) : (dats1 V c).after 4 t = iblk1 V c 4 t := by dsimp only [dats1]
theorem after1_5 (c : Dev nD) (t : Fin cfg1.N) : (dats1 V c).after 5 t = iblk1 V c 5 t := by dsimp only [dats1]
theorem after1_6 (c : Dev nD) (t : Fin cfg1.N) : (dats1 V c).after 6 t = zAt V c t.val t.isLt := by dsimp only [dats1]
theorem before1_0 (c : Dev nD) (t : Fin cfg1.N) (d) : (dats1 V c).before 0 t d = X1_0 V c t :=
  before1_0_of V (dats1 V c) (A_eq1 V c 0) (after1_0 V c) t d
theorem before1_1 (c : Dev nD) (t : Fin cfg1.N) (d) : (dats1 V c).before 1 t d = iblk1 V c 1 t :=
  before1_1_of V (dats1 V c) (A_eq1 V c 1) (after1_1 V c) t d
theorem before1_2 (c : Dev nD) (t : Fin cfg1.N) (d) : (dats1 V c).before 2 t d = iblk1 V c 2 t :=
  before1_2_of V (dats1 V c) (A_eq1 V c 2) (after1_2 V c) t d
theorem before1_3 (c : Dev nD) (t : Fin cfg1.N) (d) : (dats1 V c).before 3 t d = iblk1 V c 3 t :=
  before1_3_of V (dats1 V c) (A_eq1 V c 3) (after1_3 V c) t d
theorem before1_4 (c : Dev nD) (t : Fin cfg1.N) (d) : (dats1 V c).before 4 t d = iblk1 V c 4 t :=
  before1_4_of V (dats1 V c) (A_eq1 V c 4) (after1_4 V c) t d
theorem before1_5 (c : Dev nD) (t : Fin cfg1.N) (d) : (dats1 V c).before 5 t d = iblk1 V c 5 t :=
  before1_5_of V (dats1 V c) (A_eq1 V c 5) (after1_5 V c) t d
theorem before1_6_B (c : Dev nD) (t : Fin cfg1.N) (h0 : ¬t.val % 167 = 0) (d) : (dats1 V c).before 6 t d = zAt V c (t.val - 1) (Nat.lt_of_le_of_lt (Nat.sub_le _ _) t.isLt) := by
  have hN : t.val < 167 := lt_of_lt_of_eq t.isLt (show cfg1.N = 167 from N_1)
  rw [Dat.before_out_kept _ 6 rfl t (by omega) (Bool.eq_false_iff.mpr fun h => by have := (flush1_6 _).mp h; dsimp only at this; omega)
    (fun _ => rfl) (fun _ _ => rfl)]
  dsimp only [dats1]

/-- What the body is called with at point `t`, -/
def bodyPre1 (c : Dev nD) (t : Fin cfg1.N) : sProp 𝕄 :=
  iprop((dats1 V c).Φ t.castSucc ∗ (dats1 V c).owesAt () t.castSucc
    ∗ (∃ d, owns (c : Thread nD τ) (win1_0.stage (cfg1.slots t 0)) fullShare ((dats1 V c).before 0 t d))
    ∗ (∃ d, owns (c : Thread nD τ) (win1_1.stage (cfg1.slots t 1)) fullShare ((dats1 V c).before 1 t d))
    ∗ (∃ d, owns (c : Thread nD τ) (win1_2.stage (cfg1.slots t 2)) fullShare ((dats1 V c).before 2 t d))
    ∗ (∃ d, owns (c : Thread nD τ) (win1_3.stage (cfg1.slots t 3)) fullShare ((dats1 V c).before 3 t d))
    ∗ (∃ d, owns (c : Thread nD τ) (win1_4.stage (cfg1.slots t 4)) fullShare ((dats1 V c).before 4 t d))
    ∗ (∃ d, owns (c : Thread nD τ) (win1_5.stage (cfg1.slots t 5)) fullShare ((dats1 V c).before 5 t d))
    ∗ (∃ d, owns (c : Thread nD τ) (win1_6.stage (cfg1.slots t 6)) fullShare ((dats1 V c).before 6 t d)))
/-- and what it returns. -/
def bodyPost1 (c : Dev nD) (t : Fin cfg1.N) : sProp 𝕄 :=
  iprop((dats1 V c).Φ t.succ ∗ (dats1 V c).owesAt () t.succ
    ∗ owns (c : Thread nD τ) (win1_0.stage (cfg1.slots t 0)) fullShare ((dats1 V c).after 0 t)
    ∗ owns (c : Thread nD τ) (win1_1.stage (cfg1.slots t 1)) fullShare ((dats1 V c).after 1 t)
    ∗ owns (c : Thread nD τ) (win1_2.stage (cfg1.slots t 2)) fullShare ((dats1 V c).after 2 t)
    ∗ owns (c : Thread nD τ) (win1_3.stage (cfg1.slots t 3)) fullShare ((dats1 V c).after 3 t)
    ∗ owns (c : Thread nD τ) (win1_4.stage (cfg1.slots t 4)) fullShare ((dats1 V c).after 4 t)
    ∗ owns (c : Thread nD τ) (win1_5.stage (cfg1.slots t 5)) fullShare ((dats1 V c).after 5 t)
    ∗ owns (c : Thread nD τ) (win1_6.stage (cfg1.slots t 6)) fullShare ((dats1 V c).after 6 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dats1 V c).Φ t.succ = (dats1 V c).Φ t.castSucc from rfl,
    show (dats1 V c).owesAt () t.succ = (dats1 V c).owesAt () t.castSucc from rfl,
    after1_0, after1_1, after1_2, after1_3, after1_4, after1_5, after1_6]
  have hN : t.val < 167 := lt_of_lt_of_eq t.isLt (show cfg1.N = 167 from N_1)
  by_cases h0 : t.val % 167 = 0
  · skip
    rw [zAt_A V c _ h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run1_A c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) ((hcond1 t).mpr h0) (X1_0 V c t) (iblk1 V c 1 t) (iblk1 V c 2 t) (iblk1 V c 3 t) (iblk1 V c 4 t) (iblk1 V c 5 t)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · skip
    rw [zAt_B V c t h0]
    simp only [before1_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run1_B c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (fun h => h0 ((hcond1 t).mp h)) (X1_0 V c t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dats1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.Run2A.lean ====
module

public import proofs.«01_k».proof.Proof.Payloads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- What the body leaves in the first point: its inputs as they were, its outputs at the named values. -/
theorem run2_A (c : Dev nD) (i : grid2.Coords) (arg1 : Memref sig .tc .vmem S80x768 .f32) (harg1 : arg1.IsWhole) (arg2 : Memref sig .tc .vmem S64x768 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x1 .i32) (harg8 : arg8.IsWhole) (arg9 : Memref sig .tc .vmem S64x768 .bf16) (harg9 : arg9.IsWhole) (arg10 : Memref sig .tc .vmem S16x768 .bf16) (harg10 : arg10.IsWhole) (arg11 : Memref sig .tc .vmem S64x128 .f32) (harg11 : arg11.IsWhole) (arg12 : Memref sig .tc .vmem S64x128 .f32) (harg12 : arg12.IsWhole) (hc0 : cond2 i)
    (x0 : Vec F S80x768 .f32) (x1 : Vec F S64x768 .f32) (x2 : Vec F S80x128 .f32) (x3 : Vec F S80x128 .f32) (x4 : Vec F S64x128 .f32) (x5 : Vec F S64x128 .f32) (x6 : Vec F S64x128 .f32) (x7 : Vec F S64x1 .i32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (resid2 x0 x1 x2 x3 x4 x5 x6) ∗ owns (c : Thread nD τ) arg10 fullShare (bonus2 x0 x2 x3) ∗ owns (c : Thread nD τ) arg11 fullShare (ptx2 (BitVec.ofNat 32 (i 0).val) x0 x2 x3 x7 k2_pay4) ∗ owns (c : Thread nD τ) arg12 fullShare (pdx2 (BitVec.ofNat 32 (i 0).val) x1 x4 x5 x7 k2_pay5)) -∗ K ⟨⟩))
      ⊢ wp frame (wpE (defs₀ (F := F)) Variants.none c none) E (cc2_outs i arg1 harg1 arg2 harg2 arg3 harg3 arg4 harg4 arg5 harg5 arg6 harg6 arg7 harg7 arg8 harg8 arg9 harg9 arg10 harg10 arg11 harg11 arg12 harg12) K := by
  simp only [cc2_outs_eq_skeleton]; unfold cc2_outs_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H9]
  · iexists _; isplitr; swap; · iexact H9
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H10]
  · iexists _; isplitr; swap; · iexact H10
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  iexists _; isplitr; swap; · iexact H11
  ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl

end Cert.KernelIdeal.Hand

end
-- ==== Proof.Run2B.lean ====
module

public import proofs.«01_k».proof.Proof.Payloads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- What the body leaves in a later point: its inputs as they were, its outputs at the named values. -/
theorem run2_B (c : Dev nD) (i : grid2.Coords) (arg1 : Memref sig .tc .vmem S80x768 .f32) (harg1 : arg1.IsWhole) (arg2 : Memref sig .tc .vmem S64x768 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x1 .i32) (harg8 : arg8.IsWhole) (arg9 : Memref sig .tc .vmem S64x768 .bf16) (harg9 : arg9.IsWhole) (arg10 : Memref sig .tc .vmem S16x768 .bf16) (harg10 : arg10.IsWhole) (arg11 : Memref sig .tc .vmem S64x128 .f32) (harg11 : arg11.IsWhole) (arg12 : Memref sig .tc .vmem S64x128 .f32) (harg12 : arg12.IsWhole) (hc0 : ¬cond2 i)
    (x0 : Vec F S80x768 .f32) (x1 : Vec F S64x768 .f32) (x2 : Vec F S80x128 .f32) (x3 : Vec F S80x128 .f32) (x4 : Vec F S64x128 .f32) (x5 : Vec F S64x128 .f32) (x6 : Vec F S64x128 .f32) (x7 : Vec F S64x1 .i32) (o10 : Vec F S64x128 .f32) (o11 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare o10 ∗ owns (c : Thread nD τ) arg12 fullShare o11
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (resid2 x0 x1 x2 x3 x4 x5 x6) ∗ owns (c : Thread nD τ) arg10 fullShare (bonus2 x0 x2 x3) ∗ owns (c : Thread nD τ) arg11 fullShare (ptx2 (BitVec.ofNat 32 (i 0).val) x0 x2 x3 x7 o10) ∗ owns (c : Thread nD τ) arg12 fullShare (pdx2 (BitVec.ofNat 32 (i 0).val) x1 x4 x5 x7 o11)) -∗ K ⟨⟩))
      ⊢ wp frame (wpE (defs₀ (F := F)) Variants.none c none) E (cc2_outs i arg1 harg1 arg2 harg2 arg3 harg3 arg4 harg4 arg5 harg5 arg6 harg6 arg7 harg7 arg8 harg8 arg9 harg9 arg10 harg10 arg11 harg11 arg12 harg12) K := by
  simp only [cc2_outs_eq_skeleton]; unfold cc2_outs_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H9]
  · iexists _; isplitr; swap; · iexact H9
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H10]
  · iexists _; isplitr; swap; · iexact H10
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  iexists _; isplitr; swap; · iexact H11
  ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl

end Cert.KernelIdeal.Hand

end
-- ==== Proof.Reg2.lean ====
module

public import proofs.«01_k».proof.Proof.Run2A
public import proofs.«01_k».proof.Proof.Run2B
public import proofs.«01_k».proof.Proof.Valuations

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! Region 2 entered at the buffers' contents `V`. -/
variable (V : Dev nD → Valuation τ sig (Elt F))

/-- Window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (VB V c (Pipeline.arrRef spec2 w))

theorem before2_0_of {c : Dev nD} (dat : Dat τ (Elt F) Unit ℕ (UR sig nD τ) ℕ cfg2 c) (hA : dat.A 0 = VB V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = VB V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = VB V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = VB V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = VB V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = VB V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = VB V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = VB V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The first point. -/
abbrev first2 : Fin cfg2.N := ⟨0, lt_of_lt_of_eq (by decide : 0 < 167) (show cfg2.N = 167 from N_2).symm⟩

/-- What the body leaves at point `t`: a tile of the residual distribution. -/
def residTile (c : Dev nD) (t : Fin cfg2.N) : Vec F S64x768 .bf16 := resid2 (iblk2 V c 0 t) (iblk2 V c 1 t) (iblk2 V c 2 t) (iblk2 V c 3 t) (iblk2 V c 4 t) (iblk2 V c 5 t) (iblk2 V c 6 t)
/-- What the body leaves at point `t`: a tile of the bonus distribution. -/
def bonusTile (c : Dev nD) (t : Fin cfg2.N) : Vec F S16x768 .bf16 := bonus2 (iblk2 V c 0 t) (iblk2 V c 2 t) (iblk2 V c 3 t)
/-- What output window 10 holds after the point of position `n`. -/
def ptxAt (c : Dev nD) : (n : ℕ) → n < cfg2.N → Vec F S64x128 .f32
  | 0, hn => ptx2 (BitVec.ofNat 32 (grid2.coords ⟨0, hn⟩ 0).val) (iblk2 V c 0 ⟨0, hn⟩) (iblk2 V c 2 ⟨0, hn⟩) (iblk2 V c 3 ⟨0, hn⟩) (iblk2 V c 7 ⟨0, hn⟩) k2_pay4
  | n + 1, hn => ptx2 (BitVec.ofNat 32 (grid2.coords ⟨n + 1, hn⟩ 0).val) (iblk2 V c 0 ⟨n + 1, hn⟩) (iblk2 V c 2 ⟨n + 1, hn⟩) (iblk2 V c 3 ⟨n + 1, hn⟩) (iblk2 V c 7 ⟨n + 1, hn⟩) (ptxAt c n (Nat.lt_of_succ_lt hn))
theorem ptxAt_A (c : Dev nD) (t : Fin cfg2.N) (h0 : t.val % 167 = 0) : ptxAt V c t.val t.isLt = ptx2 (BitVec.ofNat 32 (grid2.coords t 0).val) (iblk2 V c 0 t) (iblk2 V c 2 t) (iblk2 V c 3 t) (iblk2 V c 7 t) k2_pay4 := by
  have hN : t.val < 167 := lt_of_lt_of_eq t.isLt (show cfg2.N = 167 from N_2)
  obtain ⟨n, hn⟩ := t
  cases n with
  | zero => exact rfl
  | succ n => exact absurd h0 (by dsimp only at hN ⊢; omega)
theorem ptxAt_B (c : Dev nD) (t : Fin cfg2.N) (h0 : ¬t.val % 167 = 0) :
    ptxAt V c t.val t.isLt = ptx2 (BitVec.ofNat 32 (grid2.coords t 0).val) (iblk2 V c 0 t) (iblk2 V c 2 t) (iblk2 V c 3 t) (iblk2 V c 7 t) (ptxAt V c (t.val - 1) (Nat.lt_of_le_of_lt (Nat.sub_le _ _) t.isLt)) := by
  obtain ⟨n, hn⟩ := t
  cases n with
  | zero => exact absurd (Nat.zero_mod _) h0
  | succ n => exact rfl
/-- What output window 11 holds after the point of position `n`. -/
def pdxAt (c : Dev nD) : (n : ℕ) → n < cfg2.N → Vec F S64x128 .f32
  | 0, hn => pdx2 (BitVec.ofNat 32 (grid2.coords ⟨0, hn⟩ 0).val) (iblk2 V c 1 ⟨0, hn⟩) (iblk2 V c 4 ⟨0, hn⟩) (iblk2 V c 5 ⟨0, hn⟩) (iblk2 V c 7 ⟨0, hn⟩) k2_pay5
  | n + 1, hn => pdx2 (BitVec.ofNat 32 (grid2.coords ⟨n + 1, hn⟩ 0).val) (iblk2 V c 1 ⟨n + 1, hn⟩) (iblk2 V c 4 ⟨n + 1, hn⟩) (iblk2 V c 5 ⟨n + 1, hn⟩) (iblk2 V c 7 ⟨n + 1, hn⟩) (pdxAt c n (Nat.lt_of_succ_lt hn))
theorem pdxAt_A (c : Dev nD) (t : Fin cfg2.N) (h0 : t.val % 167 = 0) : pdxAt V c t.val t.isLt = pdx2 (BitVec.ofNat 32 (grid2.coords t 0).val) (iblk2 V c 1 t) (iblk2 V c 4 t) (iblk2 V c 5 t) (iblk2 V c 7 t) k2_pay5 := by
  have hN : t.val < 167 := lt_of_lt_of_eq t.isLt (show cfg2.N = 167 from N_2)
  obtain ⟨n, hn⟩ := t
  cases n with
  | zero => exact rfl
  | succ n => exact absurd h0 (by dsimp only at hN ⊢; omega)
theorem pdxAt_B (c : Dev nD) (t : Fin cfg2.N) (h0 : ¬t.val % 167 = 0) :
    pdxAt V c t.val t.isLt = pdx2 (BitVec.ofNat 32 (grid2.coords t 0).val) (iblk2 V c 1 t) (iblk2 V c 4 t) (iblk2 V c 5 t) (iblk2 V c 7 t) (pdxAt V c (t.val - 1) (Nat.lt_of_le_of_lt (Nat.sub_le _ _) t.isLt)) := by
  obtain ⟨n, hn⟩ := t
  cases n with
  | zero => exact absurd (Nat.zero_mod _) h0
  | succ n => exact rfl

/-- The region's proof data: the arrays as the region finds them, what the body leaves in each window's buffer, nothing owed. -/
def dats2 (c : Dev nD) : Dat τ (Elt F) Unit ℕ (UR sig nD τ) ℕ cfg2 c where
  A w := VB V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => residTile V c t
    | ⟨9, _⟩ => bonusTile V c t
    | ⟨10, _⟩ => ptxAt V c t.val t.isLt
    | ⟨11, _⟩ => pdxAt V c t.val t.isLt
  Φ _ := Pipeline.ΦA spec2 c
  q _ := fullShare
  owed _ := 0
theorem A_eq2 (c : Dev nD) (w : Fin cfg2.W) : (dats2 V c).A w = VB V c (Pipeline.arrRef spec2 w) := by dsimp only [dats2]
theorem after2_0 (c : Dev nD) (t : Fin cfg2.N) : (dats2 V c).after 0 t = iblk2 V c 0 t := by dsimp only [dats2]
theorem after2_1 (c : Dev nD) (t : Fin cfg2.N) : (dats2 V c).after 1 t = iblk2 V c 1 t := by dsimp only [dats2]
theorem after2_2 (c : Dev nD) (t : Fin cfg2.N) : (dats2 V c).after 2 t = iblk2 V c 2 t := by dsimp only [dats2]
theorem after2_3 (c : Dev nD) (t : Fin cfg2.N) : (dats2 V c).after 3 t = iblk2 V c 3 t := by dsimp only [dats2]
theorem after2_4 (c : Dev nD) (t : Fin cfg2.N) : (dats2 V c).after 4 t = iblk2 V c 4 t := by dsimp only [dats2]
theorem after2_5 (c : Dev nD) (t : Fin cfg2.N) : (dats2 V c).after 5 t = iblk2 V c 5 t := by dsimp only [dats2]
theorem after2_6 (c : Dev nD) (t : Fin cfg2.N) : (dats2 V c).after 6 t = iblk2 V c 6 t := by dsimp only [dats2]
theorem after2_7 (c : Dev nD) (t : Fin cfg2.N) : (dats2 V c).after 7 t = iblk2 V c 7 t := by dsimp only [dats2]
theorem after2_8 (c : Dev nD) (t : Fin cfg2.N) : (dats2 V c).after 8 t = residTile V c t := by dsimp only [dats2]
theorem after2_9 (c : Dev nD) (t : Fin cfg2.N) : (dats2 V c).after 9 t = bonusTile V c t := by dsimp only [dats2]
theorem after2_10 (c : Dev nD) (t : Fin cfg2.N) : (dats2 V c).after 10 t = ptxAt V c t.val t.isLt := by dsimp only [dats2]
theorem after2_11 (c : Dev nD) (t : Fin cfg2.N) : (dats2 V c).after 11 t = pdxAt V c t.val t.isLt := by dsimp only [dats2]
theorem before2_0 (c : Dev nD) (t : Fin cfg2.N) (d) : (dats2 V c).before 0 t d = iblk2 V c 0 t :=
  before2_0_of V (dats2 V c) (A_eq2 V c 0) (after2_0 V c) t d
theorem before2_1 (c : Dev nD) (t : Fin cfg2.N) (d) : (dats2 V c).before 1 t d = iblk2 V c 1 t :=
  before2_1_of V (dats2 V c) (A_eq2 V c 1) (after2_1 V c) t d
theorem before2_2 (c : Dev nD) (t : Fin cfg2.N) (d) : (dats2 V c).before 2 t d = iblk2 V c 2 t :=
  before2_2_of V (dats2 V c) (A_eq2 V c 2) (after2_2 V c) t d
theorem before2_3 (c : Dev nD) (t : Fin cfg2.N) (d) : (dats2 V c).before 3 t d = iblk2 V c 3 t :=
  before2_3_of V (dats2 V c) (A_eq2 V c 3) (after2_3 V c) t d
theorem before2_4 (c : Dev nD) (t : Fin cfg2.N) (d) : (dats2 V c).before 4 t d = iblk2 V c 4 t :=
  before2_4_of V (dats2 V c) (A_eq2 V c 4) (after2_4 V c) t d
theorem before2_5 (c : Dev nD) (t : Fin cfg2.N) (d) : (dats2 V c).before 5 t d = iblk2 V c 5 t :=
  before2_5_of V (dats2 V c) (A_eq2 V c 5) (after2_5 V c) t d
theorem before2_6 (c : Dev nD) (t : Fin cfg2.N) (d) : (dats2 V c).before 6 t d = iblk2 V c 6 t :=
  before2_6_of V (dats2 V c) (A_eq2 V c 6) (after2_6 V c) t d
theorem before2_7 (c : Dev nD) (t : Fin cfg2.N) (d) : (dats2 V c).before 7 t d = iblk2 V c 7 t :=
  before2_7_of V (dats2 V c) (A_eq2 V c 7) (after2_7 V c) t d
theorem before2_10_B (c : Dev nD) (t : Fin cfg2.N) (h0 : ¬t.val % 167 = 0) (d) : (dats2 V c).before 10 t d = ptxAt V c (t.val - 1) (Nat.lt_of_le_of_lt (Nat.sub_le _ _) t.isLt) := by
  have hN : t.val < 167 := lt_of_lt_of_eq t.isLt (show cfg2.N = 167 from N_2)
  rw [Dat.before_out_kept _ 10 rfl t (by omega) (Bool.eq_false_iff.mpr fun h => by have := (flush2_10 _).mp h; dsimp only at this; omega)
    (fun _ => rfl) (fun _ _ => rfl)]
  dsimp only [dats2]
theorem before2_11_B (c : Dev nD) (t : Fin cfg2.N) (h0 : ¬t.val % 167 = 0) (d) : (dats2 V c).before 11 t d = pdxAt V c (t.val - 1) (Nat.lt_of_le_of_lt (Nat.sub_le _ _) t.isLt) := by
  have hN : t.val < 167 := lt_of_lt_of_eq t.isLt (show cfg2.N = 167 from N_2)
  rw [Dat.before_out_kept _ 11 rfl t (by omega) (Bool.eq_false_iff.mpr fun h => by have := (flush2_11 _).mp h; dsimp only at this; omega)
    (fun _ => rfl) (fun _ _ => rfl)]
  dsimp only [dats2]

/-- What the body is called with at point `t`, -/
def bodyPre2 (c : Dev nD) (t : Fin cfg2.N) : sProp 𝕄 :=
  iprop((dats2 V c).Φ t.castSucc ∗ (dats2 V c).owesAt () t.castSucc
    ∗ (∃ d, owns (c : Thread nD τ) (win2_0.stage (cfg2.slots t 0)) fullShare ((dats2 V c).before 0 t d))
    ∗ (∃ d, owns (c : Thread nD τ) (win2_1.stage (cfg2.slots t 1)) fullShare ((dats2 V c).before 1 t d))
    ∗ (∃ d, owns (c : Thread nD τ) (win2_2.stage (cfg2.slots t 2)) fullShare ((dats2 V c).before 2 t d))
    ∗ (∃ d, owns (c : Thread nD τ) (win2_3.stage (cfg2.slots t 3)) fullShare ((dats2 V c).before 3 t d))
    ∗ (∃ d, owns (c : Thread nD τ) (win2_4.stage (cfg2.slots t 4)) fullShare ((dats2 V c).before 4 t d))
    ∗ (∃ d, owns (c : Thread nD τ) (win2_5.stage (cfg2.slots t 5)) fullShare ((dats2 V c).before 5 t d))
    ∗ (∃ d, owns (c : Thread nD τ) (win2_6.stage (cfg2.slots t 6)) fullShare ((dats2 V c).before 6 t d))
    ∗ (∃ d, owns (c : Thread nD τ) (win2_7.stage (cfg2.slots t 7)) fullShare ((dats2 V c).before 7 t d))
    ∗ (∃ d, owns (c : Thread nD τ) (win2_8.stage (cfg2.slots t 8)) fullShare ((dats2 V c).before 8 t d))
    ∗ (∃ d, owns (c : Thread nD τ) (win2_9.stage (cfg2.slots t 9)) fullShare ((dats2 V c).before 9 t d))
    ∗ (∃ d, owns (c : Thread nD τ) (win2_10.stage (cfg2.slots t 10)) fullShare ((dats2 V c).before 10 t d))
    ∗ (∃ d, owns (c : Thread nD τ) (win2_11.stage (cfg2.slots t 11)) fullShare ((dats2 V c).before 11 t d)))
/-- and what it returns. -/
def bodyPost2 (c : Dev nD) (t : Fin cfg2.N) : sProp 𝕄 :=
  iprop((dats2 V c).Φ t.succ ∗ (dats2 V c).owesAt () t.succ
    ∗ owns (c : Thread nD τ) (win2_0.stage (cfg2.slots t 0)) fullShare ((dats2 V c).after 0 t)
    ∗ owns (c : Thread nD τ) (win2_1.stage (cfg2.slots t 1)) fullShare ((dats2 V c).after 1 t)
    ∗ owns (c : Thread nD τ) (win2_2.stage (cfg2.slots t 2)) fullShare ((dats2 V c).after 2 t)
    ∗ owns (c : Thread nD τ) (win2_3.stage (cfg2.slots t 3)) fullShare ((dats2 V c).after 3 t)
    ∗ owns (c : Thread nD τ) (win2_4.stage (cfg2.slots t 4)) fullShare ((dats2 V c).after 4 t)
    ∗ owns (c : Thread nD τ) (win2_5.stage (cfg2.slots t 5)) fullShare ((dats2 V c).after 5 t)
    ∗ owns (c : Thread nD τ) (win2_6.stage (cfg2.slots t 6)) fullShare ((dats2 V c).after 6 t)
    ∗ owns (c : Thread nD τ) (win2_7.stage (cfg2.slots t 7)) fullShare ((dats2 V c).after 7 t)
    ∗ owns (c : Thread nD τ) (win2_8.stage (cfg2.slots t 8)) fullShare ((dats2 V c).after 8 t)
    ∗ owns (c : Thread nD τ) (win2_9.stage (cfg2.slots t 9)) fullShare ((dats2 V c).after 9 t)
    ∗ owns (c : Thread nD τ) (win2_10.stage (cfg2.slots t 10)) fullShare ((dats2 V c).after 10 t)
    ∗ owns (c : Thread nD τ) (win2_11.stage (cfg2.slots t 11)) fullShare ((dats2 V c).after 11 t))

set_option maxHeartbeats 1600000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dats2 V c).Φ t.succ = (dats2 V c).Φ t.castSucc from rfl,
    show (dats2 V c).owesAt () t.succ = (dats2 V c).owesAt () t.castSucc from rfl,
    after2_0, after2_1, after2_2, after2_3, after2_4, after2_5, after2_6, after2_7, after2_8, after2_9, after2_10, after2_11]
  have hN : t.val < 167 := lt_of_lt_of_eq t.isLt (show cfg2.N = 167 from N_2)
  by_cases h0 : t.val % 167 = 0
  · skip
    rw [ptxAt_A V c _ h0]
    rw [pdxAt_A V c _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) ((hcond2 t).mpr h0) (iblk2 V c 0 t) (iblk2 V c 1 t) (iblk2 V c 2 t) (iblk2 V c 3 t) (iblk2 V c 4 t) (iblk2 V c 5 t) (iblk2 V c 6 t) (iblk2 V c 7 t)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · skip
    rw [ptxAt_B V c t h0]
    rw [pdxAt_B V c t h0]
    simp only [before2_10_B V c t h0, before2_11_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (fun h => h0 ((hcond2 t).mp h)) (iblk2 V c 0 t) (iblk2 V c 1 t) (iblk2 V c 2 t) (iblk2 V c 3 t) (iblk2 V c 4 t) (iblk2 V c 5 t) (iblk2 V c 6 t) (iblk2 V c 7 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row2 (t : Fin cfg2.N) :
    defs₀ (F := F) .tc cfg2.body (cfg2.bodyArgs t (cfg2.slots t)) = bodyAt2 t := by
  unfold defs₀; rw [Defs.onTc_tc]

/-- The body obligation, at every point. -/
theorem body_obligation2 (c : Dev nD) : BodyObligation (dats2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.Segs.lean ====
module

public import proofs.«01_k».proof.Proof.Obl0
public import proofs.«01_k».proof.Proof.Reg1
public import proofs.«01_k».proof.Proof.Reg2
public import proofs.«01_k».proof.Proof.Gen.KernelIdeal.Regions
public import Idealize.ShloMosaic.Lib.Pipeline.RegionArraysS
public import Idealize.ShloMosaic.Lib.Pipeline.FrameTail

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! The buffers between the program's steps: at launch, after the first host stretch, after the heads' region, after the mass's
region, after the second host stretch, after the outputs' region, after the last host stretch. -/
def U0 (c : Dev nD) : Valuation τ sig (Elt F) := fun b => m (c, b)
def U1 (c : Dev nD) : Valuation τ sig (Elt F) := StableHlo.after hostOps0 (U0 m c)
def U2 (c : Dev nD) : Valuation τ sig (Elt F) := Pipeline.afterRegion (dats0 (U1 m) c) (U1 m c)
def U3 (c : Dev nD) : Valuation τ sig (Elt F) := Pipeline.afterRegion (dats1 (U2 m) c) (U2 m c)
def U4 (c : Dev nD) : Valuation τ sig (Elt F) := StableHlo.after hostOps2 (U3 m c)
def U5 (c : Dev nD) : Valuation τ sig (Elt F) := Pipeline.afterRegion (dats2 (U4 m) c) (U4 m c)
def U6 (c : Dev nD) : Valuation τ sig (Elt F) := StableHlo.after hostOps3 (U5 m c)

/-- The three regions' proof data. -/
def pdats : (p : Fin 3) → (c : Dev nD) → Dat τ (Elt F) Unit ℕ (UR sig nD τ) ℕ (cfgs p) c
  | 0 => dats0 (U1 m)
  | 1 => dats1 (U2 m)
  | 2 => dats2 (U4 m)

/-! What each step leaves unchanged. -/
theorem U1_of (c : Dev nD) (r : Ref sig .tc) (h : r ∉ hostOps0_W) : U1 m c r = U0 m c r :=
  StableHlo.after_of_writes_sub hostOps0 _ hostOps0_writes h
theorem U4_of (c : Dev nD) (r : Ref sig .tc) (h : r ∉ hostOps2_W) : U4 m c r = U3 m c r :=
  StableHlo.after_of_writes_sub hostOps2 _ hostOps2_writes h
theorem U6_of (c : Dev nD) (r : Ref sig .tc) (h : r ∉ hostOps3_W) : U6 m c r = U5 m c r :=
  StableHlo.after_of_writes_sub hostOps3 _ hostOps3_writes h

theorem inj0 : Function.Injective (Pipeline.arrRef spec0) := launch0.win.arr_inj
theorem U2_of (c : Dev nD) (r : Ref sig .tc) (h : r ∉ ([main_v5_0, main_v5_1, main_v5_2, main_v5_3, main_v5_4, main_v5_5, main_v5_6, main_v5_7] : List (Ref sig .tc))) : U2 m c r = U1 m c r :=
  Pipeline.afterRegion_keeps (dats0 (U1 m) c) (U1 m c) inj0 (fun w => A_eq0 (U1 m) c w) r fun w e => by
    subst e
    revert h
    revert w
    decide
theorem U2_arr (c : Dev nD) (w : Fin cfg0.W) : U2 m c (Pipeline.arrRef spec0 w) = (dats0 (U1 m) c).arrAt w cfg0.N :=
  Pipeline.afterRegion_arr (dats0 (U1 m) c) (U1 m c) inj0 w

theorem inj1 : Function.Injective (Pipeline.arrRef spec1) := launch1.win.arr_inj
theorem U3_of (c : Dev nD) (r : Ref sig .tc) (h : r ∉ ([main_v6] : List (Ref sig .tc))) : U3 m c r = U2 m c r :=
  Pipeline.afterRegion_keeps (dats1 (U2 m) c) (U2 m c) inj1 (fun w => A_eq1 (U2 m) c w) r fun w e => by
    subst e
    revert h
    revert w
    decide
theorem U3_arr (c : Dev nD) (w : Fin cfg1.W) : U3 m c (Pipeline.arrRef spec1 w) = (dats1 (U2 m) c).arrAt w cfg1.N :=
  Pipeline.afterRegion_arr (dats1 (U2 m) c) (U2 m c) inj1 w

theorem inj2 : Function.Injective (Pipeline.arrRef spec2) := launch2.win.arr_inj
theorem U5_of (c : Dev nD) (r : Ref sig .tc) (h : r ∉ ([main_v9_0, main_v9_1, main_v9_2, main_v9_3] : List (Ref sig .tc))) : U5 m c r = U4 m c r :=
  Pipeline.afterRegion_keeps (dats2 (U4 m) c) (U4 m c) inj2 (fun w => A_eq2 (U4 m) c w) r fun w e => by
    subst e
    revert h
    revert w
    decide
theorem U5_arr (c : Dev nD) (w : Fin cfg2.W) : U5 m c (Pipeline.arrRef spec2 w) = (dats2 (U4 m) c).arrAt w cfg2.N :=
  Pipeline.afterRegion_arr (dats2 (U4 m) c) (U4 m c) inj2 w

theorem U6_main_arg0 (c : Dev nD) : U6 m c main_arg0 = m ((c : Thread nD τ).loc main_arg0) :=
  (U6_of m c main_arg0 (by decide)).trans <| (U5_of m c main_arg0 (by decide)).trans <| (U4_of m c main_arg0 (by decide)).trans <| (U3_of m c main_arg0 (by decide)).trans <| (U2_of m c main_arg0 (by decide)).trans <| (U1_of m c main_arg0 (by decide)).trans rfl
theorem U6_main_arg1 (c : Dev nD) : U6 m c main_arg1 = m ((c : Thread nD τ).loc main_arg1) :=
  (U6_of m c main_arg1 (by decide)).trans <| (U5_of m c main_arg1 (by decide)).trans <| (U4_of m c main_arg1 (by decide)).trans <| (U3_of m c main_arg1 (by decide)).trans <| (U2_of m c main_arg1 (by decide)).trans <| (U1_of m c main_arg1 (by decide)).trans rfl
theorem U6_main_arg2 (c : Dev nD) : U6 m c main_arg2 = m ((c : Thread nD τ).loc main_arg2) :=
  (U6_of m c main_arg2 (by decide)).trans <| (U5_of m c main_arg2 (by decide)).trans <| (U4_of m c main_arg2 (by decide)).trans <| (U3_of m c main_arg2 (by decide)).trans <| (U2_of m c main_arg2 (by decide)).trans <| (U1_of m c main_arg2 (by decide)).trans rfl
theorem U6_main_arg3 (c : Dev nD) : U6 m c main_arg3 = m ((c : Thread nD τ).loc main_arg3) :=
  (U6_of m c main_arg3 (by decide)).trans <| (U5_of m c main_arg3 (by decide)).trans <| (U4_of m c main_arg3 (by decide)).trans <| (U3_of m c main_arg3 (by decide)).trans <| (U2_of m c main_arg3 (by decide)).trans <| (U1_of m c main_arg3 (by decide)).trans rfl
theorem U6_main_arg4 (c : Dev nD) : U6 m c main_arg4 = m ((c : Thread nD τ).loc main_arg4) :=
  (U6_of m c main_arg4 (by decide)).trans <| (U5_of m c main_arg4 (by decide)).trans <| (U4_of m c main_arg4 (by decide)).trans <| (U3_of m c main_arg4 (by decide)).trans <| (U2_of m c main_arg4 (by decide)).trans <| (U1_of m c main_arg4 (by decide)).trans rfl
theorem U6_main_arg5 (c : Dev nD) : U6 m c main_arg5 = m ((c : Thread nD τ).loc main_arg5) :=
  (U6_of m c main_arg5 (by decide)).trans <| (U5_of m c main_arg5 (by decide)).trans <| (U4_of m c main_arg5 (by decide)).trans <| (U3_of m c main_arg5 (by decide)).trans <| (U2_of m c main_arg5 (by decide)).trans <| (U1_of m c main_arg5 (by decide)).trans rfl
theorem U6_main_arg6 (c : Dev nD) : U6 m c main_arg6 = m ((c : Thread nD τ).loc main_arg6) :=
  (U6_of m c main_arg6 (by decide)).trans <| (U5_of m c main_arg6 (by decide)).trans <| (U4_of m c main_arg6 (by decide)).trans <| (U3_of m c main_arg6 (by decide)).trans <| (U2_of m c main_arg6 (by decide)).trans <| (U1_of m c main_arg6 (by decide)).trans rfl
theorem U6_main_arg7 (c : Dev nD) : U6 m c main_arg7 = m ((c : Thread nD τ).loc main_arg7) :=
  (U6_of m c main_arg7 (by decide)).trans <| (U5_of m c main_arg7 (by decide)).trans <| (U4_of m c main_arg7 (by decide)).trans <| (U3_of m c main_arg7 (by decide)).trans <| (U2_of m c main_arg7 (by decide)).trans <| (U1_of m c main_arg7 (by decide)).trans rfl
theorem U6_main_arg8 (c : Dev nD) : U6 m c main_arg8 = m ((c : Thread nD τ).loc main_arg8) :=
  (U6_of m c main_arg8 (by decide)).trans <| (U5_of m c main_arg8 (by decide)).trans <| (U4_of m c main_arg8 (by decide)).trans <| (U3_of m c main_arg8 (by decide)).trans <| (U2_of m c main_arg8 (by decide)).trans <| (U1_of m c main_arg8 (by decide)).trans rfl

/-! The program's steps as the segments of a run. -/

/-- The level of the cells' only tag. -/
def lvL : GSem nD τ sig → Finset Unit := fun g => if g.1.2 = .tc then {()} else ∅
def lvV : GSem nD τ sig → Unit → ℕ := fun _ _ => 0

theorem lvCut (p : Fin 3) : Pipeline.LevelCut (pcfgs (F := F)) adm () lvL lvV p (fun _ => 0) (fun _ => 0) where
  hι _ _ _ := by unfold lvL; rw [if_pos rfl]; exact Finset.mem_singleton_self _
  hιb _ _ _ := le_refl _
  hD _ _ _ h := absurd h (lt_irrefl 0)

/-- What rides along beside the buffers: nothing owed, and the generator's register. -/
def rest (c : Dev nD) : sProp 𝕄 := iprop((∃ Wd, owes (c : Thread nD τ) (0 : CellTallies nD τ sig Unit) Wd) ∗ (∃ r, prngReg c r) ∗ emp)

def hseg0 : HostSeg (Ix := Unit) (Name := ℕ) (U := UR sig nD τ) (Lvl := ℕ) (pcfgs (F := F)) defs₀ Variants.none lvL lvV :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) rest

def hseg3 : HostSeg (Ix := Unit) (Name := ℕ) (U := UR sig nD τ) (Lvl := ℕ) (pcfgs (F := F)) defs₀ Variants.none lvL lvV :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U3 m) rest

def hseg5 : HostSeg (Ix := Unit) (Name := ℕ) (U := UR sig nD τ) (Lvl := ℕ) (pcfgs (F := F)) defs₀ Variants.none lvL lvV :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U5 m) rest

set_option maxHeartbeats 1600000 in
/-- Region 0. -/
def rseg0 : RegionSeg (pcfgs (F := F)) adm (pdats m) () defs₀ Variants.none lvL lvV 0 :=
  RegionSeg.ofHeldIn (pcfgs (F := F)) adm (pdats m) () defs₀ Variants.none lvL lvV 0 (fun _ => 0) (Pipeline.ucRefs τ sig)
    (fun c => iprop(∃ r, prngReg c r)) (fun c => iprop(∃ r, prngReg c r)) launch0.toP rfl
    (fun c => (body_obligation0 (U1 m) c).loose) (fun _ _ => rfl) (fun _ => rfl)
    (fun c => (dats0 (U1 m) c).share_full fun _ => rfl) (fun c => BI.Entails.refl _) (fun c => BI.Entails.refl _) (fun _ => 0)
    (lvCut 0) (fun _ => iprop(emp)) (U1 m) (fun c w => A_eq0 (U1 m) c w)
set_option maxHeartbeats 1600000 in
theorem rseg0_pre (c : Dev nD) : iprop(StableHlo.held (c : Thread nD τ) (Pipeline.ucRefs τ sig) (U1 m c) ∗ rest c) ⊢ (rseg0 m).pre c :=
  by unfold rseg0 rest; refine BI.Entails.trans ?_ (RegionSeg.ofHeldIn_pre (p := 0) (Pipeline.arrRefs_sub_ucRefs _ launch0.win.arr_unscoped) c); exact BI.Entails.refl _
set_option maxHeartbeats 1600000 in
theorem rseg0_post (c : Dev nD) : (rseg0 m).post c ⊢ iprop(StableHlo.held (c : Thread nD τ) (Pipeline.ucRefs τ sig) (U2 m c) ∗ rest c) :=
  by unfold rseg0 rest; exact RegionSeg.ofHeldIn_post (p := 0) (Pipeline.arrRefs_sub_ucRefs _ launch0.win.arr_unscoped) c

set_option maxHeartbeats 1600000 in
/-- Region 1. -/
def rseg1 : RegionSeg (pcfgs (F := F)) adm (pdats m) () defs₀ Variants.none lvL lvV 1 :=
  RegionSeg.ofHeldIn (pcfgs (F := F)) adm (pdats m) () defs₀ Variants.none lvL lvV 1 (fun _ => 0) (Pipeline.ucRefs τ sig)
    (fun c => iprop(∃ r, prngReg c r)) (fun c => iprop(∃ r, prngReg c r)) launch1.toP rfl
    (fun c => (body_obligation1 (U2 m) c).loose) (fun _ _ => rfl) (fun _ => rfl)
    (fun c => (dats1 (U2 m) c).share_full fun _ => rfl) (fun c => BI.Entails.refl _) (fun c => BI.Entails.refl _) (fun _ => 0)
    (lvCut 1) (fun _ => iprop(emp)) (U2 m) (fun c w => A_eq1 (U2 m) c w)
set_option maxHeartbeats 1600000 in
theorem rseg1_pre (c : Dev nD) : iprop(StableHlo.held (c : Thread nD τ) (Pipeline.ucRefs τ sig) (U2 m c) ∗ rest c) ⊢ (rseg1 m).pre c :=
  by unfold rseg1 rest; refine BI.Entails.trans ?_ (RegionSeg.ofHeldIn_pre (p := 1) (Pipeline.arrRefs_sub_ucRefs _ launch1.win.arr_unscoped) c); exact BI.Entails.refl _
set_option maxHeartbeats 1600000 in
theorem rseg1_post (c : Dev nD) : (rseg1 m).post c ⊢ iprop(StableHlo.held (c : Thread nD τ) (Pipeline.ucRefs τ sig) (U3 m c) ∗ rest c) :=
  by unfold rseg1 rest; exact RegionSeg.ofHeldIn_post (p := 1) (Pipeline.arrRefs_sub_ucRefs _ launch1.win.arr_unscoped) c

set_option maxHeartbeats 1600000 in
/-- Region 2. -/
def rseg2 : RegionSeg (pcfgs (F := F)) adm (pdats m) () defs₀ Variants.none lvL lvV 2 :=
  RegionSeg.ofHeldIn (pcfgs (F := F)) adm (pdats m) () defs₀ Variants.none lvL lvV 2 (fun _ => 0) (Pipeline.ucRefs τ sig)
    (fun c => iprop(∃ r, prngReg c r)) (fun c => iprop(∃ r, prngReg c r)) launch2.toP rfl
    (fun c => (body_obligation2 (U4 m) c).loose) (fun _ _ => rfl) (fun _ => rfl)
    (fun c => (dats2 (U4 m) c).share_full fun _ => rfl) (fun c => BI.Entails.refl _) (fun c => BI.Entails.refl _) (fun _ => 0)
    (lvCut 2) (fun _ => iprop(emp)) (U4 m) (fun c w => A_eq2 (U4 m) c w)
set_option maxHeartbeats 1600000 in
theorem rseg2_pre (c : Dev nD) : iprop(StableHlo.held (c : Thread nD τ) (Pipeline.ucRefs τ sig) (U4 m c) ∗ rest c) ⊢ (rseg2 m).pre c :=
  by unfold rseg2 rest; refine BI.Entails.trans ?_ (RegionSeg.ofHeldIn_pre (p := 2) (Pipeline.arrRefs_sub_ucRefs _ launch2.win.arr_unscoped) c); exact BI.Entails.refl _
set_option maxHeartbeats 1600000 in
theorem rseg2_post (c : Dev nD) : (rseg2 m).post c ⊢ iprop(StableHlo.held (c : Thread nD τ) (Pipeline.ucRefs τ sig) (U5 m c) ∗ rest c) :=
  by unfold rseg2 rest; exact RegionSeg.ofHeldIn_post (p := 2) (Pipeline.arrRefs_sub_ucRefs _ launch2.win.arr_unscoped) c

end Cert.KernelIdeal.Hand

end
-- ==== Proof.Arrays.lean ====
module

public import proofs.«01_k».proof.Proof.PayIdeal
public import proofs.«01_k».proof.Proof.Spec
public import proofs.«01_k».proof.Proof.Segs
public import Idealize.ShloMosaic.Lib.Pipeline.ValueKit

@[expose] public section

set_option maxRecDepth 16384

noncomputable section

/-! # The blocks the calls read and the arrays they leave, element by element -/

namespace Cert.KernelIdeal.Hand

open Idealize.ShloMosaic Idealize.ShloMosaic.TcCoe Idealize.ShloMosaic.Tactic Cert.Soft
open Idealize.SL Idealize.SL.RA
open Idealize.ShloMosaic.Pipeline (Dat Cfg Window)
open Cert.KernelIdeal.Gen

variable (V : Dev nD → Valuation τ sig (Elt Ideal))

theorem lt0N (t : Fin cfg0.N) : t.val < 167 := lt_of_lt_of_eq t.isLt (show cfg0.N = 167 from N_0)
/-- The last point. -/
abbrev last0 : Fin cfg0.N := ⟨166, lt_of_lt_of_eq (by decide : 166 < 167) (show cfg0.N = 167 from N_0).symm⟩
theorem lt1N (t : Fin cfg1.N) : t.val < 167 := lt_of_lt_of_eq t.isLt (show cfg1.N = 167 from N_1)
/-- The last point. -/
abbrev last1 : Fin cfg1.N := ⟨166, lt_of_lt_of_eq (by decide : 166 < 167) (show cfg1.N = 167 from N_1).symm⟩
theorem lt2N (t : Fin cfg2.N) : t.val < 167 := lt_of_lt_of_eq t.isLt (show cfg2.N = 167 from N_2)
/-- The last point. -/
abbrev last2 : Fin cfg2.N := ⟨166, lt_of_lt_of_eq (by decide : 166 < 167) (show cfg2.N = 167 from N_2).symm⟩
theorem e0_1 : ∀ t : Fin cfg0.N, win0_1.index t = ![0, 0] := (by decide +kernel : ∀ t : Fin grid0.N, _)
theorem iblk0_1 (c : Dev nD) (t : Fin cfg0.N) (k : Fin 80) (j : Fin 2304) :
    iblk0 V c 1 t (ix2 k j) = V c main_v1 (ix2 k j) := by
  blk_simp [iblk0, e0_1]
  refine congrArg (V c main_v1) (funext fun a => ?_)
  fin_cases a
  · apply Fin.ext; blk_simp [e0_1]; try simp
  · apply Fin.ext; blk_simp [e0_1]; try simp
theorem e0_2 : ∀ t : Fin cfg0.N, win0_2.index t = ![0, t.val] := (by decide +kernel : ∀ t : Fin grid0.N, _)
theorem iblk0_2 (c : Dev nD) (t : Fin cfg0.N) (k : Fin 1152) (j : Fin 768) :
    iblk0 V c 2 t (ix2 k j) = V c main_arg1 (ix2 k (pos t.val j)) := by
  rw [pos_of (lt0N t)]
  blk_simp [iblk0, e0_2]
  refine congrArg (V c main_arg1) (funext fun a => ?_)
  fin_cases a
  · apply Fin.ext; blk_simp [e0_2]; try simp
  · apply Fin.ext; blk_simp [e0_2]; try simp
theorem e0_3 : ∀ t : Fin cfg0.N, win0_3.index t = ![0, t.val] := (by decide +kernel : ∀ t : Fin grid0.N, _)
theorem iblk0_3 (c : Dev nD) (t : Fin cfg0.N) (k : Fin 18) (j : Fin 768) :
    iblk0 V c 3 t (ix2 k j) = V c main_arg2 (ix2 k (pos t.val j)) := by
  rw [pos_of (lt0N t)]
  blk_simp [iblk0, e0_3]
  refine congrArg (V c main_arg2) (funext fun a => ?_)
  fin_cases a
  · apply Fin.ext; blk_simp [e0_3]; try simp
  · apply Fin.ext; blk_simp [e0_3]; try simp
theorem e0_4 : ∀ t : Fin cfg0.N, win0_4.index t = ![0, 0] := (by decide +kernel : ∀ t : Fin grid0.N, _)
theorem iblk0_4 (c : Dev nD) (t : Fin cfg0.N) (k : Fin 64) (j : Fin 896) :
    iblk0 V c 4 t (ix2 k j) = V c main_v3 (ix2 k j) := by
  blk_simp [iblk0, e0_4]
  refine congrArg (V c main_v3) (funext fun a => ?_)
  fin_cases a
  · apply Fin.ext; blk_simp [e0_4]; try simp
  · apply Fin.ext; blk_simp [e0_4]; try simp
theorem e0_5 : ∀ t : Fin cfg0.N, win0_5.index t = ![0, t.val] := (by decide +kernel : ∀ t : Fin grid0.N, _)
theorem iblk0_5 (c : Dev nD) (t : Fin cfg0.N) (k : Fin 896) (j : Fin 768) :
    iblk0 V c 5 t (ix2 k j) = V c main_arg4 (ix2 k (pos t.val j)) := by
  rw [pos_of (lt0N t)]
  blk_simp [iblk0, e0_5]
  refine congrArg (V c main_arg4) (funext fun a => ?_)
  fin_cases a
  · apply Fin.ext; blk_simp [e0_5]; try simp
  · apply Fin.ext; blk_simp [e0_5]; try simp
theorem e0_6 : ∀ t : Fin cfg0.N, win0_6.index t = ![0, t.val] := (by decide +kernel : ∀ t : Fin grid0.N, _)
theorem iblk0_6 (c : Dev nD) (t : Fin cfg0.N) (k : Fin 1) (j : Fin 768) :
    iblk0 V c 6 t (ix2 k j) = V c main_v4 (ix2 k (pos t.val j)) := by
  rw [pos_of (lt0N t)]
  blk_simp [iblk0, e0_6]
  refine congrArg (V c main_v4) (funext fun a => ?_)
  fin_cases a
  · apply Fin.ext; blk_simp [e0_6]; try simp
  · apply Fin.ext; blk_simp [e0_6]; try simp
theorem e1_1 : ∀ t : Fin cfg1.N, win1_1.index t = ![0, t.val] := (by decide +kernel : ∀ t : Fin grid1.N, _)
theorem iblk1_1 (c : Dev nD) (t : Fin cfg1.N) (k : Fin 64) (j : Fin 768) :
    iblk1 V c 1 t (ix2 k j) = V c main_v5_1 (ix2 k (pos t.val j)) := by
  rw [pos_of (lt1N t)]
  blk_simp [iblk1, e1_1]
  refine congrArg (V c main_v5_1) (funext fun a => ?_)
  fin_cases a
  · apply Fin.ext; blk_simp [e1_1]; try simp
  · apply Fin.ext; blk_simp [e1_1]; try simp
theorem e1_2 : ∀ t : Fin cfg1.N, win1_2.index t = ![0, 0] := (by decide +kernel : ∀ t : Fin grid1.N, _)
theorem iblk1_2 (c : Dev nD) (t : Fin cfg1.N) (k : Fin 80) (j : Fin 128) :
    iblk1 V c 2 t (ix2 k j) = V c main_v5_2 (ix2 k j) := by
  blk_simp [iblk1, e1_2]
  refine congrArg (V c main_v5_2) (funext fun a => ?_)
  fin_cases a
  · apply Fin.ext; blk_simp [e1_2]; try simp
  · apply Fin.ext; blk_simp [e1_2]; try simp
theorem e1_3 : ∀ t : Fin cfg1.N, win1_3.index t = ![0, 0] := (by decide +kernel : ∀ t : Fin grid1.N, _)
theorem iblk1_3 (c : Dev nD) (t : Fin cfg1.N) (k : Fin 80) (j : Fin 128) :
    iblk1 V c 3 t (ix2 k j) = V c main_v5_3 (ix2 k j) := by
  blk_simp [iblk1, e1_3]
  refine congrArg (V c main_v5_3) (funext fun a => ?_)
  fin_cases a
  · apply Fin.ext; blk_simp [e1_3]; try simp
  · apply Fin.ext; blk_simp [e1_3]; try simp
theorem e1_4 : ∀ t : Fin cfg1.N, win1_4.index t = ![0, 0] := (by decide +kernel : ∀ t : Fin grid1.N, _)
theorem iblk1_4 (c : Dev nD) (t : Fin cfg1.N) (k : Fin 64) (j : Fin 128) :
    iblk1 V c 4 t (ix2 k j) = V c main_v5_4 (ix2 k j) := by
  blk_simp [iblk1, e1_4]
  refine congrArg (V c main_v5_4) (funext fun a => ?_)
  fin_cases a
  · apply Fin.ext; blk_simp [e1_4]; try simp
  · apply Fin.ext; blk_simp [e1_4]; try simp
theorem e1_5 : ∀ t : Fin cfg1.N, win1_5.index t = ![0, 0] := (by decide +kernel : ∀ t : Fin grid1.N, _)
theorem iblk1_5 (c : Dev nD) (t : Fin cfg1.N) (k : Fin 64) (j : Fin 128) :
    iblk1 V c 5 t (ix2 k j) = V c main_v5_5 (ix2 k j) := by
  blk_simp [iblk1, e1_5]
  refine congrArg (V c main_v5_5) (funext fun a => ?_)
  fin_cases a
  · apply Fin.ext; blk_simp [e1_5]; try simp
  · apply Fin.ext; blk_simp [e1_5]; try simp
theorem e2_0 : ∀ t : Fin cfg2.N, win2_0.index t = ![0, t.val] := (by decide +kernel : ∀ t : Fin grid2.N, _)
theorem iblk2_0 (c : Dev nD) (t : Fin cfg2.N) (k : Fin 80) (j : Fin 768) :
    iblk2 V c 0 t (ix2 k j) = V c main_v5_0 (ix2 k (pos t.val j)) := by
  rw [pos_of (lt2N t)]
  blk_simp [iblk2, e2_0]
  refine congrArg (V c main_v5_0) (funext fun a => ?_)
  fin_cases a
  · apply Fin.ext; blk_simp [e2_0]; try simp
  · apply Fin.ext; blk_simp [e2_0]; try simp
theorem e2_1 : ∀ t : Fin cfg2.N, win2_1.index t = ![0, t.val] := (by decide +kernel : ∀ t : Fin grid2.N, _)
theorem iblk2_1 (c : Dev nD) (t : Fin cfg2.N) (k : Fin 64) (j : Fin 768) :
    iblk2 V c 1 t (ix2 k j) = V c main_v5_1 (ix2 k (pos t.val j)) := by
  rw [pos_of (lt2N t)]
  blk_simp [iblk2, e2_1]
  refine congrArg (V c main_v5_1) (funext fun a => ?_)
  fin_cases a
  · apply Fin.ext; blk_simp [e2_1]; try simp
  · apply Fin.ext; blk_simp [e2_1]; try simp
theorem e2_2 : ∀ t : Fin cfg2.N, win2_2.index t = ![0, 0] := (by decide +kernel : ∀ t : Fin grid2.N, _)
theorem iblk2_2 (c : Dev nD) (t : Fin cfg2.N) (k : Fin 80) (j : Fin 128) :
    iblk2 V c 2 t (ix2 k j) = V c main_v5_2 (ix2 k j) := by
  blk_simp [iblk2, e2_2]
  refine congrArg (V c main_v5_2) (funext fun a => ?_)
  fin_cases a
  · apply Fin.ext; blk_simp [e2_2]; try simp
  · apply Fin.ext; blk_simp [e2_2]; try simp
theorem e2_3 : ∀ t : Fin cfg2.N, win2_3.index t = ![0, 0] := (by decide +kernel : ∀ t : Fin grid2.N, _)
theorem iblk2_3 (c : Dev nD) (t : Fin cfg2.N) (k : Fin 80) (j : Fin 128) :
    iblk2 V c 3 t (ix2 k j) = V c main_v5_3 (ix2 k j) := by
  blk_simp [iblk2, e2_3]
  refine congrArg (V c main_v5_3) (funext fun a => ?_)
  fin_cases a
  · apply Fin.ext; blk_simp [e2_3]; try simp
  · apply Fin.ext; blk_simp [e2_3]; try simp
theorem e2_4 : ∀ t : Fin cfg2.N, win2_4.index t = ![0, 0] := (by decide +kernel : ∀ t : Fin grid2.N, _)
theorem iblk2_4 (c : Dev nD) (t : Fin cfg2.N) (k : Fin 64) (j : Fin 128) :
    iblk2 V c 4 t (ix2 k j) = V c main_v5_4 (ix2 k j) := by
  blk_simp [iblk2, e2_4]
  refine congrArg (V c main_v5_4) (funext fun a => ?_)
  fin_cases a
  · apply Fin.ext; blk_simp [e2_4]; try simp
  · apply Fin.ext; blk_simp [e2_4]; try simp
theorem e2_5 : ∀ t : Fin cfg2.N, win2_5.index t = ![0, 0] := (by decide +kernel : ∀ t : Fin grid2.N, _)
theorem iblk2_5 (c : Dev nD) (t : Fin cfg2.N) (k : Fin 64) (j : Fin 128) :
    iblk2 V c 5 t (ix2 k j) = V c main_v5_5 (ix2 k j) := by
  blk_simp [iblk2, e2_5]
  refine congrArg (V c main_v5_5) (funext fun a => ?_)
  fin_cases a
  · apply Fin.ext; blk_simp [e2_5]; try simp
  · apply Fin.ext; blk_simp [e2_5]; try simp
theorem e2_6 : ∀ t : Fin cfg2.N, win2_6.index t = ![0, 0] := (by decide +kernel : ∀ t : Fin grid2.N, _)
theorem iblk2_6 (c : Dev nD) (t : Fin cfg2.N) (k : Fin 64) (j : Fin 128) :
    iblk2 V c 6 t (ix2 k j) = V c main_v6 (ix2 k j) := by
  blk_simp [iblk2, e2_6]
  refine congrArg (V c main_v6) (funext fun a => ?_)
  fin_cases a
  · apply Fin.ext; blk_simp [e2_6]; try simp
  · apply Fin.ext; blk_simp [e2_6]; try simp
theorem e2_7 : ∀ t : Fin cfg2.N, win2_7.index t = ![0, 0] := (by decide +kernel : ∀ t : Fin grid2.N, _)
theorem iblk2_7 (c : Dev nD) (t : Fin cfg2.N) (k : Fin 64) (j : Fin 1) :
    iblk2 V c 7 t (ix2 k j) = V c main_v8 (ix2 k j) := by
  blk_simp [iblk2, e2_7]
  refine congrArg (V c main_v8) (funext fun a => ?_)
  fin_cases a
  · apply Fin.ext; blk_simp [e2_7]; try simp
  · apply Fin.ext; blk_simp [e2_7]; try simp
theorem e0_7 : ∀ t : Fin cfg0.N, win0_7.index t = ![0, t.val] := (by decide +kernel : ∀ t : Fin grid0.N, _)
theorem arr0_7 (c : Dev nD) (G : Vec Ideal S80x128256 .f32) (h : ∀ (t : Fin cfg0.N) (r : Fin 80) (j : Fin 768), ltTile V c t (ix2 r j) = G (ix2 r (pos t.val j))) :
    (dats0 V c).arrAt 7 cfg0.N = G := by
  refine (dats0 V c).arrAt_eq_of_covers 7 _ (by decide +kernel) fun t hf y => ?_
  blk_simp
  rw [after0_7]
  obtain ⟨r, j, rfl⟩ : ∃ (r : Fin 80) (j : Fin 768), y = ix2 r j := ⟨y 0, y 1, eq_ix2 y⟩
  refine (h t r j).trans (congrArg G (funext fun a => ?_))
  rw [pos_of (lt0N t)]
  fin_cases a
  · apply Fin.ext; blk_simp [e0_7]; try simp
  · apply Fin.ext; blk_simp [e0_7]; try simp
theorem e0_8 : ∀ t : Fin cfg0.N, win0_8.index t = ![0, t.val] := (by decide +kernel : ∀ t : Fin grid0.N, _)
theorem arr0_8 (c : Dev nD) (G : Vec Ideal S64x128256 .f32) (h : ∀ (t : Fin cfg0.N) (r : Fin 64) (j : Fin 768), ldTile V c t (ix2 r j) = G (ix2 r (pos t.val j))) :
    (dats0 V c).arrAt 8 cfg0.N = G := by
  refine (dats0 V c).arrAt_eq_of_covers 8 _ (by decide +kernel) fun t hf y => ?_
  blk_simp
  rw [after0_8]
  obtain ⟨r, j, rfl⟩ : ∃ (r : Fin 64) (j : Fin 768), y = ix2 r j := ⟨y 0, y 1, eq_ix2 y⟩
  refine (h t r j).trans (congrArg G (funext fun a => ?_))
  rw [pos_of (lt0N t)]
  fin_cases a
  · apply Fin.ext; blk_simp [e0_8]; try simp
  · apply Fin.ext; blk_simp [e0_8]; try simp
theorem arr0_9 (c : Dev nD) : (dats0 V c).arrAt 9 cfg0.N = mtAt V c 166 last0.isLt := by
  funext i; refine ((dats0 V c).arrAt_emb_eq_after_last 9 last0 (by decide +kernel) i).trans ?_
  rw [after0_9]
  generalize mtAt V c 166 last0.isLt = x
  rfl
theorem arr0_10 (c : Dev nD) : (dats0 V c).arrAt 10 cfg0.N = stAt V c 166 last0.isLt := by
  funext i; refine ((dats0 V c).arrAt_emb_eq_after_last 10 last0 (by decide +kernel) i).trans ?_
  rw [after0_10]
  generalize stAt V c 166 last0.isLt = x
  rfl
theorem arr0_11 (c : Dev nD) : (dats0 V c).arrAt 11 cfg0.N = mdAt V c 166 last0.isLt := by
  funext i; refine ((dats0 V c).arrAt_emb_eq_after_last 11 last0 (by decide +kernel) i).trans ?_
  rw [after0_11]
  generalize mdAt V c 166 last0.isLt = x
  rfl
theorem arr0_12 (c : Dev nD) : (dats0 V c).arrAt 12 cfg0.N = sdAt V c 166 last0.isLt := by
  funext i; refine ((dats0 V c).arrAt_emb_eq_after_last 12 last0 (by decide +kernel) i).trans ?_
  rw [after0_12]
  generalize sdAt V c 166 last0.isLt = x
  rfl
theorem arr0_13 (c : Dev nD) : (dats0 V c).arrAt 13 cfg0.N = codesAt V c := by
  funext i; refine ((dats0 V c).arrAt_emb_eq_after_last 13 last0 (by decide +kernel) i).trans ?_
  rw [after0_13]
  generalize codesAt V c = x
  rfl
theorem arr0_14 (c : Dev nD) : (dats0 V c).arrAt 14 cfg0.N = amaxAt V c := by
  funext i; refine ((dats0 V c).arrAt_emb_eq_after_last 14 last0 (by decide +kernel) i).trans ?_
  rw [after0_14]
  generalize amaxAt V c = x
  rfl
theorem arr1_6 (c : Dev nD) : (dats1 V c).arrAt 6 cfg1.N = zAt V c 166 last1.isLt := by
  funext i; refine ((dats1 V c).arrAt_emb_eq_after_last 6 last1 (by decide +kernel) i).trans ?_
  rw [after1_6]
  generalize zAt V c 166 last1.isLt = x
  rfl
theorem e2_8 : ∀ t : Fin cfg2.N, win2_8.index t = ![0, t.val] := (by decide +kernel : ∀ t : Fin grid2.N, _)
theorem arr2_8 (c : Dev nD) (G : Vec Ideal S64x128256 .bf16) (h : ∀ (t : Fin cfg2.N) (r : Fin 64) (j : Fin 768), residTile V c t (ix2 r j) = G (ix2 r (pos t.val j))) :
    (dats2 V c).arrAt 8 cfg2.N = G := by
  refine (dats2 V c).arrAt_eq_of_covers 8 _ (by decide +kernel) fun t hf y => ?_
  blk_simp
  rw [after2_8]
  obtain ⟨r, j, rfl⟩ : ∃ (r : Fin 64) (j : Fin 768), y = ix2 r j := ⟨y 0, y 1, eq_ix2 y⟩
  refine (h t r j).trans (congrArg G (funext fun a => ?_))
  rw [pos_of (lt2N t)]
  fin_cases a
  · apply Fin.ext; blk_simp [e2_8]; try simp
  · apply Fin.ext; blk_simp [e2_8]; try simp
theorem e2_9 : ∀ t : Fin cfg2.N, win2_9.index t = ![0, t.val] := (by decide +kernel : ∀ t : Fin grid2.N, _)
theorem arr2_9 (c : Dev nD) (G : Vec Ideal S16x128256 .bf16) (h : ∀ (t : Fin cfg2.N) (r : Fin 16) (j : Fin 768), bonusTile V c t (ix2 r j) = G (ix2 r (pos t.val j))) :
    (dats2 V c).arrAt 9 cfg2.N = G := by
  refine (dats2 V c).arrAt_eq_of_covers 9 _ (by decide +kernel) fun t hf y => ?_
  blk_simp
  rw [after2_9]
  obtain ⟨r, j, rfl⟩ : ∃ (r : Fin 16) (j : Fin 768), y = ix2 r j := ⟨y 0, y 1, eq_ix2 y⟩
  refine (h t r j).trans (congrArg G (funext fun a => ?_))
  rw [pos_of (lt2N t)]
  fin_cases a
  · apply Fin.ext; blk_simp [e2_9]; try simp
  · apply Fin.ext; blk_simp [e2_9]; try simp
theorem arr2_10 (c : Dev nD) : (dats2 V c).arrAt 10 cfg2.N = ptxAt V c 166 last2.isLt := by
  funext i; refine ((dats2 V c).arrAt_emb_eq_after_last 10 last2 (by decide +kernel) i).trans ?_
  rw [after2_10]
  generalize ptxAt V c 166 last2.isLt = x
  rfl
theorem arr2_11 (c : Dev nD) : (dats2 V c).arrAt 11 cfg2.N = pdxAt V c 166 last2.isLt := by
  funext i; refine ((dats2 V c).arrAt_emb_eq_after_last 11 last2 (by decide +kernel) i).trans ?_
  rw [after2_11]
  generalize pdxAt V c 166 last2.isLt = x
  rfl
theorem e1_0 : ∀ t : Fin cfg1.N, win1_0.index t = ![0, t.val] := (by decide +kernel : ∀ t : Fin grid1.N, _)
theorem X1_0_apply (c : Dev nD) (t : Fin cfg1.N) (k : Fin 64) (j : Fin 768) :
    X1_0 V c t (ix2 k j) = V c main_v5_0 (ix2 (Fin.castLE (by decide) k) (pos t.val j)) := by
  rw [pos_of (lt1N t)]
  unfold X1_0 Pipeline.Window.fill
  rw [dif_pos (moved1_0 t _)]
  blk_simp [iblk1, e1_0]
  refine congrArg (V c main_v5_0) (funext fun a => ?_)
  fin_cases a
  · apply Fin.ext; blk_simp [e1_0]; try simp
  · apply Fin.ext; blk_simp [e1_0]; try simp
theorem e0_0 : ∀ t : Fin cfg0.N, win0_0.index t = ![0] := (by decide +kernel : ∀ t : Fin grid0.N, _)
theorem word0_apply (c : Dev nD) (t : Fin cfg0.N) : word0 (iblk0 V c 0 t) = V c main_arg8 (ix1 0) := by
  unfold word0
  blk_simp [iblk0, e0_0]
  refine congrArg (V c main_arg8) (funext fun a => ?_)
  fin_cases a
  apply Fin.ext; blk_simp [e0_0]; try simp

end Cert.KernelIdeal.Hand
end
-- ==== Proof.Rows.lean ====
module

public import proofs.«01_k».proof.Proof.Arrays

@[expose] public section

set_option maxRecDepth 16384

noncomputable section

/-! # The three calls' arrays as rows over the vocabulary

The first call leaves the two heads' logits with each row's maximum and sum of exponentials, the second the mass of the residual,
the third the residual distribution, the bonus distribution and the drafted token's two probabilities. -/

namespace Cert.KernelIdeal.Hand

open Idealize.ShloMosaic Idealize.ShloMosaic.TcCoe Idealize.ShloMosaic.Tactic Cert.Soft
open Idealize.SL Idealize.SL.RA
open Idealize.ShloMosaic.Pipeline (Dat Cfg Window)
open Cert.KernelIdeal.Gen

variable (V : Dev nD → Valuation τ sig (Elt Ideal))

/-- A row of target logits. -/
def rowT (c : Dev nD) (r : Fin 80) : Fin 128256 → EReal :=
  logitT (fun k => V c main_v1 (ix2 r k)) (fun k v => V c main_arg1 (ix2 k v)) (fun k v => V c main_arg2 (ix2 k v))
/-- A row of draft logits. -/
def rowD (c : Dev nD) (r : Fin 64) : Fin 128256 → EReal :=
  logitD (V c main_arg8 (ix1 0)) (fun k => V c main_v3 (ix2 r k)) (fun k v => V c main_arg4 (ix2 k v)) (fun v => V c main_v4 (ix2 0 v))

theorem ltTile_apply (c : Dev nD) (t : Fin cfg0.N) (r : Fin 80) (j : Fin 768) : ltTile V c t (ix2 r j) = tile (rowT V c r) t.val j := by
  unfold ltTile tile rowT logitT
  rw [lt0_apply]
  exact Finset.sum_congr rfl fun k _ => by rw [iblk0_1, iblk0_2, iblk0_3]
theorem codesAt_apply (c : Dev nD) (r : Fin 64) (j : Fin 896) : codesAt V c (ix2 r j) = code (V c main_arg8 (ix1 0)) (V c main_v3 (ix2 r j)) := by
  unfold codesAt
  rw [k0_pay4_apply, iblk0_4, word0_apply]
theorem amaxAt_apply (c : Dev nD) (r : Fin 64) (l : Fin 128) :
    amaxAt V c (ix2 r l) = rowMax fun j : Fin 896 => max (show EReal from V c main_v3 (ix2 r j)) (-(show EReal from V c main_v3 (ix2 r j))) := by
  unfold amaxAt
  rw [k0_pay3_apply]
  exact congrArg rowMax (funext fun j => by rw [iblk0_4])
theorem ldTile_apply (c : Dev nD) (t : Fin cfg0.N) (r : Fin 64) (j : Fin 768) : ldTile V c t (ix2 r j) = tile (rowD V c r) t.val j := by
  unfold ldTile tile rowD logitD
  rw [ld0_apply, iblk0_6, word0_apply]
  congr 2
  exact Finset.sum_congr rfl fun k _ => by rw [iblk0_5, codesAt_apply]

theorem pay5_0 (i : S80x128.Idx) : k0_pay5 (F := Ideal) i = (⊥ : EReal) := neg_inf
theorem pay6_0 (i : S64x128.Idx) : k0_pay6 (F := Ideal) i = (⊥ : EReal) := neg_inf
theorem zero_bits : Ideal.ofBits .f32 0#32 = 0 := by simp [Ideal.ofBits, Ideal.ieee]
theorem pay7_0 (i : S80x128.Idx) : k0_pay7 (F := Ideal) i = (0 : EReal) := zero_bits
theorem pay8_0 (i : S64x128.Idx) : k0_pay8 (F := Ideal) i = (0 : EReal) := zero_bits
theorem pay1_1 (i : S64x128.Idx) : k1_pay1 (F := Ideal) i = (0 : EReal) := zero_bits
theorem pay4_2 (i : S64x128.Idx) : k2_pay4 (F := Ideal) i = (0 : EReal) := zero_bits
theorem pay5_2 (i : S64x128.Idx) : k2_pay5 (F := Ideal) i = (0 : EReal) := zero_bits

theorem rowMax_congr {n : ℕ} {f g : Fin n → EReal} (h : ∀ j, f j = g j) : rowMax f = rowMax g := congrArg rowMax (funext h)

/-- The running maximum of the target logits. -/
theorem mtAt_apply (c : Dev nD) (r : Fin 80) : ∀ (n : ℕ) (hn : n < cfg0.N) (l : Fin 128), mtAt V c n hn (ix2 r l) = runMax (tile (rowT V c r)) n
  | 0, hn, l => by
    rw [mtAt, mt0_apply, pay5_0, runMax]
    exact congrArg _ (rowMax_congr fun j => ltTile_apply V c ⟨0, hn⟩ r j)
  | n + 1, hn, l => by
    rw [mtAt, mt0_apply, mtAt_apply c r n, runMax]
    exact congrArg _ (rowMax_congr fun j => ltTile_apply V c ⟨n + 1, hn⟩ r j)
/-- The running sum of the target exponentials. -/
theorem stAt_apply (c : Dev nD) (r : Fin 80) : ∀ (n : ℕ) (hn : n < cfg0.N) (l : Fin 128), stAt V c n hn (ix2 r l) = runSum (tile (rowT V c r)) n
  | 0, hn, l => by
    have hm := mtAt_apply V c r 0 hn
    rw [mtAt] at hm
    rw [stAt, st0_apply, pay5_0, pay7_0, runSum, hm, hm]
    exact congrArg _ (Finset.sum_congr rfl fun j _ => congrArg (fun x => Ideal.exp (x - _)) (ltTile_apply V c ⟨0, hn⟩ r j))
  | n + 1, hn, l => by
    have hm := mtAt_apply V c r (n + 1) hn
    rw [mtAt] at hm
    rw [stAt, st0_apply, hm, hm, mtAt_apply V c r n, stAt_apply c r n, runSum]
    exact congrArg _ (Finset.sum_congr rfl fun j _ => congrArg (fun x => Ideal.exp (x - _)) (ltTile_apply V c ⟨n + 1, hn⟩ r j))
/-- The running maximum of the draft logits. -/
theorem mdAt_apply (c : Dev nD) (r : Fin 64) : ∀ (n : ℕ) (hn : n < cfg0.N) (l : Fin 128), mdAt V c n hn (ix2 r l) = runMax (tile (rowD V c r)) n
  | 0, hn, l => by
    rw [mdAt, md0_apply, pay6_0, runMax]
    exact congrArg _ (rowMax_congr fun j => ldTile_apply V c ⟨0, hn⟩ r j)
  | n + 1, hn, l => by
    rw [mdAt, md0_apply, mdAt_apply c r n, runMax]
    exact congrArg _ (rowMax_congr fun j => ldTile_apply V c ⟨n + 1, hn⟩ r j)
/-- The running sum of the draft exponentials. -/
theorem sdAt_apply (c : Dev nD) (r : Fin 64) : ∀ (n : ℕ) (hn : n < cfg0.N) (l : Fin 128), sdAt V c n hn (ix2 r l) = runSum (tile (rowD V c r)) n
  | 0, hn, l => by
    have hm := mdAt_apply V c r 0 hn
    rw [mdAt] at hm
    rw [sdAt, sd0_apply, pay6_0, pay8_0, runSum, hm, hm]
    exact congrArg _ (Finset.sum_congr rfl fun j _ => congrArg (fun x => Ideal.exp (x - _)) (ldTile_apply V c ⟨0, hn⟩ r j))
  | n + 1, hn, l => by
    have hm := mdAt_apply V c r (n + 1) hn
    rw [mdAt] at hm
    rw [sdAt, sd0_apply, hm, hm, mdAt_apply V c r n, sdAt_apply c r n, runSum]
    exact congrArg _ (Finset.sum_congr rfl fun j _ => congrArg (fun x => Ideal.exp (x - _)) (ldTile_apply V c ⟨n + 1, hn⟩ r j))

/-- The first call's arrays, rows `T` of target logits and `D` of draft logits with their maxima and sums. -/
structure Heads (c : Dev nD) (T : Fin 80 → Fin 128256 → EReal) (D : Fin 64 → Fin 128256 → EReal) : Prop where
  lt : ∀ r v, V c main_v5_0 (ix2 r v) = T r v
  ld : ∀ r v, V c main_v5_1 (ix2 r v) = D r v
  mt : ∀ r l, V c main_v5_2 (ix2 r l) = rowMax (T r)
  st : ∀ r l, V c main_v5_3 (ix2 r l) = rowSum (T r)
  md : ∀ r l, V c main_v5_4 (ix2 r l) = rowMax (D r)
  sd : ∀ r l, V c main_v5_5 (ix2 r l) = rowSum (D r)

variable {V} {c : Dev nD} {T : Fin 80 → Fin 128256 → EReal} {D : Fin 64 → Fin 128256 → EReal}

/-- The rows whose residual is taken. -/
abbrev lo (r : Fin 64) : Fin 80 := Fin.castLE (by decide) r

/-- The running mass of the residual. -/
theorem zAt_apply (H : Heads V c T D) (r : Fin 64) : ∀ (n : ℕ) (hn : n < cfg1.N) (l : Fin 128), zAt V c n hn (ix2 r l) = runAdd (tile (resid (T (lo r)) (D r))) n
  | 0, hn, l => by
    rw [zAt, z1_apply, pay1_1, runAdd]
    refine congrArg _ (Finset.sum_congr rfl fun j _ => ?_)
    rw [X1_0_apply, iblk1_1, iblk1_2, iblk1_3, iblk1_4, iblk1_5, H.lt, H.ld, H.mt, H.st, H.md, H.sd]
    rfl
  | n + 1, hn, l => by
    rw [zAt, z1_apply, zAt_apply H r n, runAdd]
    refine congrArg _ (Finset.sum_congr rfl fun j _ => ?_)
    rw [X1_0_apply, iblk1_1, iblk1_2, iblk1_3, iblk1_4, iblk1_5, H.lt, H.ld, H.mt, H.st, H.md, H.sd]
    rfl

theorem probT (H : Heads V c T D) (t : Fin cfg2.N) (r : Fin 80) (j : Fin 768) :
    k2_pay6 (iblk2 V c 0 t) (col80 (iblk2 V c 2 t)) (col80 (iblk2 V c 3 t)) (ix2 r j) = tile (prob (T r)) t.val j := by
  rw [pay6_apply, iblk2_0, iblk2_2, iblk2_3, H.lt, H.mt, H.st]; rfl
theorem probD (H : Heads V c T D) (t : Fin cfg2.N) (r : Fin 64) (j : Fin 768) :
    k2_pay7 (iblk2 V c 1 t) (col64 (iblk2 V c 4 t)) (col64 (iblk2 V c 5 t)) (ix2 r j) = tile (prob (D r)) t.val j := by
  rw [pay7_apply, iblk2_1, iblk2_4, iblk2_5, H.ld, H.md, H.sd]; rfl

theorem residTile_apply (H : Heads V c T D) (t : Fin cfg2.N) (r : Fin 64) (j : Fin 768) :
    residTile V c t (ix2 r j) = tile (fun v => Ideal.div (resid (T (lo r)) (D r) v) (V c main_v6 (ix2 r 0))) t.val j := by
  unfold residTile
  rw [resid2_apply, probT H, probD H, iblk2_6]; rfl
theorem bonusTile_apply (H : Heads V c T D) (t : Fin cfg2.N) (r : Fin 16) (j : Fin 768) :
    bonusTile V c t (ix2 r j) = tile (prob (T ⟨64 + r.val, by omega⟩)) t.val j := by
  unfold bonusTile
  rw [bonus2_apply, probT H]

theorem coord2 : ∀ t : Fin cfg2.N, (grid2.coords t 0).val = t.val := (by decide +kernel : ∀ t : Fin grid2.N, _)
theorem hit_eq (t : Fin cfg2.N) (j : Fin 768) (tok : BitVec 32) : hit (BitVec.ofNat 32 (grid2.coords t 0).val) j tok = isTok tok (pos t.val j) := by
  rw [coord2, pos_of (lt2N t)]
  unfold hit isTok
  congr 1
  show BitVec.ofNat 32 j.val + BitVec.ofNat 32 t.val * BitVec.ofNat 32 768 = _
  rw [← BitVec.ofNat_mul, ← BitVec.ofNat_add, Nat.add_comm]

theorem ptxAt_apply (H : Heads V c T D) (r : Fin 64) : ∀ (n : ℕ) (hn : n < cfg2.N) (l : Fin 128),
    ptxAt V c n hn (ix2 r l) = runAdd (tile (pick (V c main_v8 (ix2 r 0)) (prob (T (lo r))))) n
  | 0, hn, l => by
    rw [ptxAt, ptx2_apply, pay4_2, runAdd]
    refine congrArg _ (Finset.sum_congr rfl fun j _ => ?_)
    rw [probT H, iblk2_7, hit_eq]
    rfl
  | n + 1, hn, l => by
    rw [ptxAt, ptx2_apply, ptxAt_apply H r n, runAdd]
    refine congrArg _ (Finset.sum_congr rfl fun j _ => ?_)
    rw [probT H, iblk2_7, hit_eq]
    rfl
theorem pdxAt_apply (H : Heads V c T D) (r : Fin 64) : ∀ (n : ℕ) (hn : n < cfg2.N) (l : Fin 128),
    pdxAt V c n hn (ix2 r l) = runAdd (tile (pick (V c main_v8 (ix2 r 0)) (prob (D r)))) n
  | 0, hn, l => by
    rw [pdxAt, pdx2_apply, pay5_2, runAdd]
    refine congrArg _ (Finset.sum_congr rfl fun j _ => ?_)
    rw [probD H, iblk2_7, hit_eq]
    rfl
  | n + 1, hn, l => by
    rw [pdxAt, pdx2_apply, pdxAt_apply H r n, runAdd]
    refine congrArg _ (Finset.sum_congr rfl fun j _ => ?_)
    rw [probD H, iblk2_7, hit_eq]
    rfl

end Cert.KernelIdeal.Hand
end
-- ==== Proof.UVal.lean ====
module

public import proofs.«01_k».proof.Proof.Rows

@[expose] public section

set_option maxRecDepth 16384

noncomputable section

/-! # The host operations around the calls -/

namespace Cert.KernelIdeal.Hand

open Idealize.ShloMosaic Idealize.ShloMosaic.TcCoe Idealize.ShloMosaic.Tactic Cert.Soft
open Idealize.SL Idealize.SL.RA
open Cert.KernelIdeal.Gen

variable (m : (ℓ : Loc nD τ sig) → Buf (Elt Ideal) ℓ)

theorem U1_v1 (c : Dev nD) : U1 m c main_v1 = shapeCast _ (transpose S5x16x2304 [1, 0, 2] (m ((c : Thread nD τ).loc main_arg0)) transposes_S16x5x2304_S5x16x2304_1_0_2) shapeCasts_S5x16x2304_S80x2304 := by
  unfold U1 hostOps0
  after_results <;> rfl
theorem U1_v3 (c : Dev nD) : U1 m c main_v3 = shapeCast _ (transpose S4x16x896 [1, 0, 2] (m ((c : Thread nD τ).loc main_arg3)) transposes_S16x4x896_S4x16x896_1_0_2) shapeCasts_S4x16x896_S64x896 := by
  unfold U1 hostOps0
  after_results <;> rfl
theorem U1_v4 (c : Dev nD) : U1 m c main_v4 = shapeCast _ (m ((c : Thread nD τ).loc main_arg5)) shapeCasts_S128256_S1x128256 := by
  unfold U1 hostOps0
  after_results <;> rfl
theorem U4_v8 (c : Dev nD) : U4 m c main_v8 = shapeCast _ (transpose S4x16 [1, 0] (U3 m c main_arg6) transposes_S16x4_S4x16_1_0) shapeCasts_S4x16_S64x1 := by
  unfold U4 hostOps2
  after_results <;> rfl
theorem row16 (r : Fin 80) : r.val % 16 < 16 := Nat.mod_lt _ (by decide)
theorem U1_v1_apply (c : Dev nD) (r : Fin 80) (k : Fin 2304) : U1 m c main_v1 (ix2 r k) = m ((c : Thread nD τ).loc main_arg0) (ix3 (⟨r.val % 16, by omega⟩ : Fin 16) (⟨r.val / 16, by omega⟩ : Fin 5) k) := by
  rw [U1_v1]
  generalize (m ((c : Thread nD τ).loc main_arg0)) = x
  pointwise
theorem U1_v3_apply (c : Dev nD) (r : Fin 64) (k : Fin 896) : U1 m c main_v3 (ix2 r k) = m ((c : Thread nD τ).loc main_arg3) (ix3 (⟨r.val % 16, by omega⟩ : Fin 16) (⟨r.val / 16, by omega⟩ : Fin 4) k) := by
  rw [U1_v3]
  generalize (m ((c : Thread nD τ).loc main_arg3)) = x
  pointwise
theorem U1_v4_apply (c : Dev nD) (v : Fin 128256) : U1 m c main_v4 (ix2 0 v) = m ((c : Thread nD τ).loc main_arg5) (ix1 v) := by
  rw [U1_v4]
  exact shapeCast_apply _ shapeCasts_S128256_S1x128256 (ix2 0 v) (ix1 v) (by
    rewrite [Shape.rowMajor_val_one, Shape.rowMajor_val_two]
    show v.val = 0 * 128256 + v.val
    omega)
theorem U4_v8_apply (c : Dev nD) (r : Fin 64) : U4 m c main_v8 (ix2 r 0) = U3 m c main_arg6 (ix2 (⟨r.val % 16, by omega⟩ : Fin 16) (⟨r.val / 16, by omega⟩ : Fin 4)) := by
  rw [U4_v8]
  generalize U3 m c main_arg6 = x
  pointwise
theorem U6_v22 (c : Dev nD) : U6 m c main_v22 = transpose S16x4x128256 [1, 0, 2] (shapeCast _ (U5 m c main_v9_0) shapeCasts_S64x128256_S4x16x128256) transposes_S4x16x128256_S16x4x128256_1_0_2 := by
  unfold U6 hostOps3
  after_results <;> rfl
theorem U6_v22_apply (c : Dev nD) (b : Fin 16) (s : Fin 4) (v : Fin 128256) : U6 m c main_v22 (ix3 b s v) = U5 m c main_v9_0 (ix2 (⟨s.val * 16 + b.val, by omega⟩ : Fin 64) v) := by
  rw [U6_v22]
  generalize U5 m c main_v9_0 = x
  pointwise
/-- The first column of a 64x128 array, its rows `s*16+b` laid out by batch and step. -/
def back (x : Vec Ideal S64x128 .f32) : Vec Ideal S16x4 .f32 :=
  transpose S16x4 [1, 0] (shapeCast _ (shapeCast S64 (extractStridedSlice S64x1 ![0, 0] x slices_S64x128_S64x1_0_0) shapeCasts_S64x1_S64) shapeCasts_S64_S4x16) transposes_S4x16_S16x4_1_0
/-- The row of batch `b` and step `s`. -/
abbrev row (b : Fin 16) (s : Fin 4) : Fin 64 := ⟨s.val * 16 + b.val, by omega⟩
theorem back_apply (x : Vec Ideal S64x128 .f32) (b : Fin 16) (s : Fin 4) : back x (ix2 b s) = x (ix2 (row b s) 0) := by
  unfold back
  pointwise
theorem U6_v27 (c : Dev nD) : U6 m c main_v27 = Host.log (F := Ideal) (φ := .f32) (back (U5 m c main_v6)) := by
  unfold U6 hostOps3
  after_results <;> rfl
def ratios (x y : Vec Ideal S64x128 .f32) : Vec Ideal S16x4 .f32 :=
  minimumf (F := Ideal) (φ := .f32) (broadcastInDim S16x4 ![] bcast_S_S16x4 (constant S_ .f32 0x3F800000#32)) (Host.divf (F := Ideal) (φ := .f32) (back x) (back y))
theorem ratios_apply (x y : Vec Ideal S64x128 .f32) (b : Fin 16) (s : Fin 4) :
    ratios x y (ix2 b s) = ratio (x (ix2 (row b s) 0)) (y (ix2 (row b s) 0)) := by
  rw [← back_apply x, ← back_apply y]
  unfold ratios ratio
  generalize back x = a
  generalize back y = b
  pointwise
  try rfl
theorem U6_v20 (c : Dev nD) : U6 m c main_v20 = ratios (U5 m c main_v9_2) (U5 m c main_v9_3) := by
  unfold U6 hostOps3
  after_results <;> rfl
theorem U6_v28 (c : Dev nD) : U6 m c main_v28 = subf (F := Ideal) (φ := .f32) (U5 m c main_arg7) (ratios (U5 m c main_v9_2) (U5 m c main_v9_3)) := by
  unfold U6 hostOps3
  after_results <;> rfl
theorem U6_v30 (c : Dev nD) : U6 m c main_v30 = transpose S16x4x896 [1, 0, 2] (shapeCast _ (U5 m c main_v5_6) shapeCasts_S64x896_S4x16x896) transposes_S4x16x896_S16x4x896_1_0_2 := by
  unfold U6 hostOps3
  after_results <;> rfl
theorem U6_v30_apply (c : Dev nD) (b : Fin 16) (s : Fin 4) (v : Fin 896) : U6 m c main_v30 (ix3 b s v) = U5 m c main_v5_6 (ix2 (row b s) v) := by
  rw [U6_v30]
  generalize U5 m c main_v5_6 = x
  pointwise
theorem U6_v34 (c : Dev nD) : U6 m c main_v34 = back (U5 m c main_v5_7) := by
  unfold U6 hostOps3
  after_results <;> rfl

end Cert.KernelIdeal.Hand
end
-- ==== Proof.Whole.lean ====
module

public import proofs.«01_k».proof.Proof.Segs
public import proofs.«01_k».proof.Proof.Reg1
public import proofs.«01_k».proof.Proof.Reg2
public import proofs.«01_k».proof.Proof.Gen.KernelIdeal.Regions
public import Idealize.ShloMosaic.Lib.Pipeline.RegionArraysS
public import Idealize.ShloMosaic.Lib.Pipeline.FrameTail

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-- The program's steps. -/
abbrev wsegs : List (Seg (pcfgs (F := F)) adm (pdats m) () defs₀ Variants.none lvL lvV) :=
  [.host (hseg0 m), .region (rseg0 m), .region (rseg1 m), .host (hseg3 m), .region (rseg2 m), .host (hseg5 m)]

-- the run's implicit arguments are found by unifying its conclusion with this one, which takes unfolding plain definitions in a metavariable's type
set_option backward.isDefEq.respectTransparency.types false in
set_option maxHeartbeats 1600000 in
/-- From memory `m` every run of the program ends, with every buffer of a TensorCore at `U6` and every semaphore counter at zero. -/
theorem run_whole (ρ : Dev nD → PrngReg) : θ_run defs (onTc (τ := τ) (main (F := F))) ⟨m, fun _ => 0, ρ⟩ (fun r =>
    (∀ c : Dev nD, ∀ b ∈ Pipeline.ucRefs τ sig, r.2.mem ((c.tc : Thread nD τ).1, b) = U6 m c b) ∧ r.2.sem = fun _ => 0) := by
  refine Pipeline.θ_run_regions_kit_dev_sems (pcfgs (F := F)) adm (pdats m) () cellOf_inj emb₁ defs₀ Variants.none lvL lvV m ρ main
    (fun _ => wsegs m)
    (fun c Q => by
      rewrite [main_chain c, Seg.run_eq_chain,
        show (wsegs m).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [wsegs, Seg.pipes_host, Seg.pipes_region, Seg.pipes_nil]; decide) (fun _ => 0)
    (fun g hg => by unfold lvL; rw [if_neg hg]) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ rest c))
    (Tₙ := fun c => StableHlo.held (c : Thread nD τ) (Pipeline.ucRefs τ sig) (U6 m c))
    (hch := fun c => ⟨.rfl, rseg0_pre m c, (rseg0_post m c).trans (rseg1_pre m c), rseg1_post m c, rseg2_pre m c, rseg2_post m c,
      sep_mono .rfl (by unfold rest; iintro ⟨HO, -, -⟩; iexact HO)⟩)
    (hinit := ?_) (QY := fun c s => ∀ b ∈ Pipeline.ucRefs τ sig, s.mem ((c.tc : Thread nD τ).1, b) = U6 m c b)
    (hfin := fun c s' => ?_) (hQ := fun _ h hz => ⟨h, funext fun g => hz g (.inr (regions_no_unscoped g.2))⟩)
  · refine Pipeline.initEach lvL lvV fun c => ?_
    rw [show unscopedBufs c (fun b => m ((c.tc : Thread nD τ).loc b)) = StableHlo.held (c.tc : Thread nD τ) (Pipeline.ucRefs τ sig) (U0 m c)
        from Pipeline.unscopedBufs_held (Ix := Unit) (Name := ℕ) (U := UR sig nD τ) (Lvl := ℕ) c (U0 m c)]
    unfold rest
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (U6 m c) s') $$ [Hh HSI]
    · isplitl [Hh] <;> iassumption
    imodintro; iexact Hr

/-- A buffer of the program at the end of a run that `run_whole` describes. -/
theorem read_whole {c : Dev nD} {s : (ℓ : Loc nD τ sig) → Buf (Elt F) ℓ}
    (h : ∀ b ∈ Pipeline.ucRefs τ sig, s ((c.tc : Thread nD τ).1, b) = U6 m c b) (r : Ref sig .tc) (hr : r.isScoped = false) :
    s ((c.tc : Thread nD τ).loc r) = U6 m c r :=
  h (Proc.devRef .tc r) (Finset.mem_filter.mpr ⟨StableHlo.devRef_mem_tcRefs r, by simpa using hr⟩)

/-- The frame: every argument ends as launched and every semaphore counter is at zero. -/
theorem frame_whole (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(read_whole m (h.1 c) main_arg0 rfl).trans (U6_main_arg0 m c), (read_whole m (h.1 c) main_arg1 rfl).trans (U6_main_arg1 m c), (read_whole m (h.1 c) main_arg2 rfl).trans (U6_main_arg2 m c), (read_whole m (h.1 c) main_arg3 rfl).trans (U6_main_arg3 m c), (read_whole m (h.1 c) main_arg4 rfl).trans (U6_main_arg4 m c), (read_whole m (h.1 c) main_arg5 rfl).trans (U6_main_arg5 m c), (read_whole m (h.1 c) main_arg6 rfl).trans (U6_main_arg6 m c), (read_whole m (h.1 c) main_arg7 rfl).trans (U6_main_arg7 m c), (read_whole m (h.1 c) main_arg8 rfl).trans (U6_main_arg8 m c)⟩, h.2⟩) (run_whole m ρ)

end Cert.KernelIdeal.Hand

end
-- ==== Proof.KVal.lean ====
module

public import proofs.«01_k».proof.Proof.UVal
public import proofs.«01_k».proof.Proof.Whole

@[expose] public section

set_option maxRecDepth 16384

noncomputable section

/-! # The kernel's results from its arguments -/

namespace Cert.KernelIdeal.Hand

open Idealize.ShloMosaic Idealize.ShloMosaic.TcCoe Idealize.ShloMosaic.Tactic Cert.Soft
open Idealize.SL Idealize.SL.RA
open Cert.KernelIdeal.Gen

variable (m : (ℓ : Loc nD τ sig) → Buf (Elt Ideal) ℓ)

/-! The first call's arrays, at its own exit and before the third call. -/
theorem heads2 (c : Dev nD) : Heads (U2 m) c (rowT (U1 m) c) (rowD (U1 m) c) where
  lt r v := congrFun ((U2_arr m c 7).trans (arr0_7 (U1 m) c (fun i => rowT (U1 m) c (i 0) (i 1)) fun t r j => ltTile_apply (U1 m) c t r j)) (ix2 r v)
  ld r v := congrFun ((U2_arr m c 8).trans (arr0_8 (U1 m) c (fun i => rowD (U1 m) c (i 0) (i 1)) fun t r j => ldTile_apply (U1 m) c t r j)) (ix2 r v)
  mt r l := (congrFun ((U2_arr m c 9).trans (arr0_9 (U1 m) c)) (ix2 r l)).trans ((mtAt_apply (U1 m) c r 166 _ l).trans (runMax_tiles _))
  st r l := (congrFun ((U2_arr m c 10).trans (arr0_10 (U1 m) c)) (ix2 r l)).trans ((stAt_apply (U1 m) c r 166 _ l).trans (runSum_tiles _))
  md r l := (congrFun ((U2_arr m c 11).trans (arr0_11 (U1 m) c)) (ix2 r l)).trans ((mdAt_apply (U1 m) c r 166 _ l).trans (runMax_tiles _))
  sd r l := (congrFun ((U2_arr m c 12).trans (arr0_12 (U1 m) c)) (ix2 r l)).trans ((sdAt_apply (U1 m) c r 166 _ l).trans (runSum_tiles _))

theorem U4_U2 (c : Dev nD) (r : Ref sig .tc) (h : r ∉ hostOps2_W) (h' : r ∉ ([main_v6] : List (Ref sig .tc))) : U4 m c r = U2 m c r :=
  (U4_of m c r h).trans (U3_of m c r h')

theorem heads4 (c : Dev nD) : Heads (U4 m) c (rowT (U1 m) c) (rowD (U1 m) c) where
  lt r v := (congrFun (U4_U2 m c main_v5_0 (by decide) (by decide)) _).trans ((heads2 m c).lt r v)
  ld r v := (congrFun (U4_U2 m c main_v5_1 (by decide) (by decide)) _).trans ((heads2 m c).ld r v)
  mt r l := (congrFun (U4_U2 m c main_v5_2 (by decide) (by decide)) _).trans ((heads2 m c).mt r l)
  st r l := (congrFun (U4_U2 m c main_v5_3 (by decide) (by decide)) _).trans ((heads2 m c).st r l)
  md r l := (congrFun (U4_U2 m c main_v5_4 (by decide) (by decide)) _).trans ((heads2 m c).md r l)
  sd r l := (congrFun (U4_U2 m c main_v5_5 (by decide) (by decide)) _).trans ((heads2 m c).sd r l)

/-! The mass, and the third call's arrays. -/
theorem U3_v6 (c : Dev nD) (r : Fin 64) (l : Fin 128) : U3 m c main_v6 (ix2 r l) = mass (rowT (U1 m) c (lo r)) (rowD (U1 m) c r) :=
  (congrFun ((U3_arr m c 6).trans (arr1_6 (U2 m) c)) (ix2 r l)).trans ((zAt_apply (heads2 m c) r 166 _ l).trans (runAdd_tiles _))
theorem U4_v6 (c : Dev nD) (r : Fin 64) (l : Fin 128) : U4 m c main_v6 (ix2 r l) = mass (rowT (U1 m) c (lo r)) (rowD (U1 m) c r) :=
  (congrFun (U4_of m c main_v6 (by decide)) _).trans (U3_v6 m c r l)
theorem U5_v6 (c : Dev nD) (r : Fin 64) (l : Fin 128) : U5 m c main_v6 (ix2 r l) = mass (rowT (U1 m) c (lo r)) (rowD (U1 m) c r) :=
  (congrFun (U5_of m c main_v6 (by decide)) _).trans (U4_v6 m c r l)
theorem U5_v9_0 (c : Dev nD) (r : Fin 64) (v : Fin 128256) : U5 m c main_v9_0 (ix2 r v) = Soft.residual (rowT (U1 m) c (lo r)) (rowD (U1 m) c r) v :=
  congrFun ((U5_arr m c 8).trans (arr2_8 (U4 m) c (fun i => Soft.residual (rowT (U1 m) c (lo (i 0))) (rowD (U1 m) c (i 0)) (i 1)) fun t r j =>
    (residTile_apply (heads4 m c) t r j).trans (by unfold tile Soft.residual; rw [U4_v6]; rfl))) (ix2 r v)
theorem U5_v9_1 (c : Dev nD) (r : Fin 16) (v : Fin 128256) : U5 m c main_v9_1 (ix2 r v) = prob (rowT (U1 m) c ⟨64 + r.val, by omega⟩) v :=
  congrFun ((U5_arr m c 9).trans (arr2_9 (U4 m) c (fun i => prob (rowT (U1 m) c ⟨64 + (i 0).val, Nat.add_lt_add_left (i 0).isLt 64⟩) (i 1)) fun t r j =>
    bonusTile_apply (heads4 m c) t r j)) (ix2 r v)
theorem U5_v9_2 (c : Dev nD) (r : Fin 64) (l : Fin 128) : U5 m c main_v9_2 (ix2 r l) = ∑ v, pick (U4 m c main_v8 (ix2 r 0)) (prob (rowT (U1 m) c (lo r))) v :=
  (congrFun ((U5_arr m c 10).trans (arr2_10 (U4 m) c)) (ix2 r l)).trans ((ptxAt_apply (heads4 m c) r 166 _ l).trans (runAdd_tiles _))
theorem U5_v9_3 (c : Dev nD) (r : Fin 64) (l : Fin 128) : U5 m c main_v9_3 (ix2 r l) = ∑ v, pick (U4 m c main_v8 (ix2 r 0)) (prob (rowD (U1 m) c r)) v :=
  (congrFun ((U5_arr m c 11).trans (arr2_11 (U4 m) c)) (ix2 r l)).trans ((pdxAt_apply (heads4 m c) r 166 _ l).trans (runAdd_tiles _))

/-! From the arguments. -/
variable (c : Dev nD)
/-- An argument as launched. -/
abbrev x0 : Vec Ideal S16x5x2304 .bf16 := m ((c : Thread nD τ).loc main_arg0)
abbrev x1 : Vec Ideal S1152x128256 .i8 := m ((c : Thread nD τ).loc main_arg1)
abbrev x2 : Vec Ideal S18x128256 .f32 := m ((c : Thread nD τ).loc main_arg2)
abbrev x3 : Vec Ideal S16x4x896 .bf16 := m ((c : Thread nD τ).loc main_arg3)
abbrev x4 : Vec Ideal S896x128256 .fp8e4m3 := m ((c : Thread nD τ).loc main_arg4)
abbrev x5 : Vec Ideal S128256 .f32 := m ((c : Thread nD τ).loc main_arg5)
abbrev x6 : Vec Ideal S16x4 .i32 := m ((c : Thread nD τ).loc main_arg6)
abbrev x7 : Vec Ideal S16x4 .f32 := m ((c : Thread nD τ).loc main_arg7)
abbrev x8 : Vec Ideal S1 .i32 := m ((c : Thread nD τ).loc main_arg8)
/-- The target's logits of batch `b` at step `s`. -/
def targetRow (b : Fin 16) (s : Fin 5) : Fin 128256 → EReal :=
  logitT (fun k => x0 m c (ix3 b s k)) (fun k v => x1 m c (ix2 k v)) (fun k v => x2 m c (ix2 k v))
/-- The draft's logits of batch `b` at step `s`. -/
def draftRow (b : Fin 16) (s : Fin 4) : Fin 128256 → EReal :=
  logitD (x8 m c (ix1 0)) (fun k => x3 m c (ix3 b s k)) (fun k v => x4 m c (ix2 k v)) (fun v => x5 m c (ix1 v))

theorem rowT_eq (r : Fin 80) : rowT (U1 m) c r = targetRow m c ⟨r.val % 16, by omega⟩ ⟨r.val / 16, by omega⟩ := by
  unfold rowT targetRow
  rw [U1_of m c main_arg1 (by decide), U1_of m c main_arg2 (by decide)]
  congr 1
  exact funext fun k => U1_v1_apply m c r k
theorem rowD_eq (r : Fin 64) : rowD (U1 m) c r = draftRow m c ⟨r.val % 16, by omega⟩ ⟨r.val / 16, by omega⟩ := by
  unfold rowD draftRow
  rw [U1_of m c main_arg8 (by decide), U1_of m c main_arg4 (by decide)]
  congr 1
  · exact funext fun k => U1_v3_apply m c r k
  · exact funext fun v => U1_v4_apply m c v
theorem rowT_row (b : Fin 16) (s : Fin 4) : rowT (U1 m) c (lo (row b s)) = targetRow m c b (Fin.castLE (by decide) s) := by
  rw [rowT_eq]
  congr 1 <;> apply Fin.ext
  · show (s.val * 16 + b.val) % 16 = b.val; omega
  · show (s.val * 16 + b.val) / 16 = s.val; omega
theorem rowT_bonus (b : Fin 16) : rowT (U1 m) c ⟨64 + b.val, by omega⟩ = targetRow m c b 4 := by
  rw [rowT_eq]
  congr 1 <;> apply Fin.ext
  · show (64 + b.val) % 16 = b.val; omega
  · show (64 + b.val) / 16 = 4; omega
theorem rowD_row (b : Fin 16) (s : Fin 4) : rowD (U1 m) c (row b s) = draftRow m c b s := by
  rw [rowD_eq]
  congr 1 <;> apply Fin.ext
  · show (s.val * 16 + b.val) % 16 = b.val; omega
  · show (s.val * 16 + b.val) / 16 = s.val; omega
theorem tok_row (b : Fin 16) (s : Fin 4) : U4 m c main_v8 (ix2 (row b s) 0) = x6 m c (ix2 b s) := by
  rw [U4_v8_apply, U3_of m c main_arg6 (by decide), U2_of m c main_arg6 (by decide), U1_of m c main_arg6 (by decide)]
  refine congrArg (x6 m c) (congr (congrArg ix2 (Fin.ext ?_)) (Fin.ext ?_))
  · show (s.val * 16 + b.val) % 16 = b.val; omega
  · show (s.val * 16 + b.val) / 16 = s.val; omega

/-! The seven results. -/
theorem out0 (b : Fin 16) (s : Fin 4) (v : Fin 128256) :
    U6 m c main_v22 (ix3 b s v) = Soft.residual (targetRow m c b (Fin.castLE (by decide) s)) (draftRow m c b s) v := by
  rw [U6_v22_apply, U5_v9_0, rowT_row, rowD_row]
theorem out1 (b : Fin 16) (s : Fin 4) : U6 m c main_v27 (ix2 b s) = logMass (targetRow m c b (Fin.castLE (by decide) s)) (draftRow m c b s) := by
  rw [U6_v27]
  show FloatOps.hostUnary (F := Ideal) (φ := .f32) .log (back (U5 m c main_v6) (ix2 b s)) = _
  rw [back_apply, U5_v6, rowT_row, rowD_row]
  rfl
theorem ratios_row (b : Fin 16) (s : Fin 4) : ratios (U5 m c main_v9_2) (U5 m c main_v9_3) (ix2 b s)
    = accept (x6 m c (ix2 b s)) (targetRow m c b (Fin.castLE (by decide) s)) (draftRow m c b s) := by
  rw [ratios_apply, U5_v9_2, U5_v9_3, rowT_row, rowD_row, tok_row]
  rfl
theorem out2 (b : Fin 16) (s : Fin 4) : U6 m c main_v20 (ix2 b s) = accept (x6 m c (ix2 b s)) (targetRow m c b (Fin.castLE (by decide) s)) (draftRow m c b s) := by
  rw [U6_v20, ratios_row]
theorem out3 (b : Fin 16) (s : Fin 4) : U6 m c main_v28 (ix2 b s)
    = (x7 m c (ix2 b s) : EReal) - accept (x6 m c (ix2 b s)) (targetRow m c b (Fin.castLE (by decide) s)) (draftRow m c b s) := by
  rw [U6_v28, ← ratios_row, U5_of m c main_arg7 (by decide), U4_of m c main_arg7 (by decide), U3_of m c main_arg7 (by decide), U2_of m c main_arg7 (by decide), U1_of m c main_arg7 (by decide)]
  rfl
theorem out4 (b : Fin 16) (v : Fin 128256) : U6 m c main_v9_1 (ix2 b v) = prob (targetRow m c b 4) v := by
  rw [U6_of m c main_v9_1 (by decide), U5_v9_1, rowT_bonus]
theorem out5 (b : Fin 16) (s : Fin 4) (j : Fin 896) : U6 m c main_v30 (ix3 b s j) = code (x8 m c (ix1 0)) (x3 m c (ix3 b s j)) := by
  rw [U6_v30_apply, U5_of m c main_v5_6 (by decide), U4_U2 m c main_v5_6 (by decide) (by decide)]
  refine (congrFun ((U2_arr m c 13).trans (arr0_13 (U1 m) c)) _).trans ?_
  rw [codesAt_apply, U1_v3_apply, U1_of m c main_arg8 (by decide)]
  refine congrArg (code _) (congrArg (x3 m c) ?_)
  refine congr (congr (congrArg ix3 (Fin.ext ?_)) (Fin.ext ?_)) rfl
  · show (s.val * 16 + b.val) % 16 = b.val; omega
  · show (s.val * 16 + b.val) / 16 = s.val; omega
theorem out6 (b : Fin 16) (s : Fin 4) : U6 m c main_v34 (ix2 b s) = amax fun j => x3 m c (ix3 b s j) := by
  rw [U6_v34, back_apply, U5_of m c main_v5_7 (by decide), U4_U2 m c main_v5_7 (by decide) (by decide)]
  refine (congrFun ((U2_arr m c 14).trans (arr0_14 (U1 m) c)) _).trans ?_
  rw [amaxAt_apply]
  unfold amax
  have h : ∀ j, (U1 m c main_v3 (ix2 (row b s) j) : EReal) = x3 m c (ix3 b s j) := fun j => by
    rw [U1_v3_apply]
    refine congrArg (x3 m c) ?_
    refine congr (congr (congrArg ix3 (Fin.ext ?_)) (Fin.ext ?_)) rfl
    · show (s.val * 16 + b.val) % 16 = b.val; omega
    · show (s.val * 16 + b.val) / 16 = s.val; omega
  exact rowMax_congr fun j => congrArg (fun y : EReal => max y (-y)) (h j)

end Cert.KernelIdeal.Hand
end
-- ==== Proof.RReg.lean ====
module

public import proofs.«01_k».proof.Proof.Spec
public import proofs.«01_k».proof.Proof.Gen.ReferenceIdeal.Read
public import Idealize.ShloMosaic.Lib.Pointwise
public import Idealize.ShloMosaic.Lib.Pipeline.ValueKit

@[expose] public section

set_option maxRecDepth 16384

noncomputable section

/-! # The reference's quantiser and its fp8 product -/

namespace Cert.ReferenceIdeal.Hand

open Idealize.ShloMosaic Idealize.ShloMosaic.TcCoe Idealize.ShloMosaic.Tactic Cert.Soft
open Idealize.SL Idealize.SL.RA
open Cert.ReferenceIdeal.Gen
open Idealize.ShloMosaic.StableHlo (TRef)
open Cert.KernelIdeal.Hand (nib code)

/-! ## Two to a power -/

theorem two_bits : Ideal.ofBits .f32 0x40000000#32 = ((2 : ℝ) : EReal) := by
  simp [Ideal.ofBits, Ideal.ieee]
  norm_num
  rw [← EReal.coe_mul]
  norm_num
/-- Two to an integer, written as a power or as the exponential with base two. -/
theorem pow_two (e : BitVec 32) : Ideal.pow (Ideal.ofBits .f32 0x40000000#32) (Scalar.sitofp (F := Ideal) .f32 e) = FloatOps.exp2 (F := Ideal) (φ := .f32) (Scalar.sitofp .f32 e) := by
  rw [two_bits]
  rfl

/-! ## The quantiser -/

/-- The scale: two to the exponent. -/
abbrev scaleOf (x8 : Vec Ideal S1 .i32) : Vec Ideal S1 .f32 :=
  Host.powf (F := Ideal) (broadcastInDim S1 ![] bcast_S_S1 (constant (F := Ideal) S_ .f32 0x40000000#32)) (sitofp (F := Ideal) .f32 x8)
theorem scaleOf_apply (x8 : Vec Ideal S1 .i32) : scaleOf x8 (ix1 0) = FloatOps.exp2 (F := Ideal) (φ := .f32) (Scalar.sitofp .f32 (x8 (ix1 0))) :=
  pow_two (x8 (ix1 0))
theorem scaleOf_neg (x8 : Vec Ideal S1 .i32) : scaleOf (negi x8) (ix1 0) = FloatOps.exp2 (F := Ideal) (φ := .f32) (Scalar.sitofp .f32 (Scalar.subi 0#32 (x8 (ix1 0)))) :=
  (scaleOf_apply (negi x8)).trans (congrArg (fun z => FloatOps.exp2 (F := Ideal) (φ := .f32) (Scalar.sitofp .f32 z)) (BitVec.zero_sub (x8 (ix1 0))).symm)

/-- The codes: the activations over the scale, clipped. -/
abbrev codesOf (x3 : Vec Ideal S16x4x896 .bf16) (x8 : Vec Ideal S1 .i32) : Vec Ideal S16x4x896 .fp8e4m3 :=
  Host.convertf (F := Ideal) .fp8e4m3 (minimumf (F := Ideal) (broadcastInDim S16x4x896 ![] bcast_S_S16x4x896 (id (constant (F := Ideal) S_ .f32 0x43E00000#32)))
    (maximumf (broadcastInDim S16x4x896 ![] bcast_S_S16x4x896 (id (constant S_ .f32 0xC3E00000#32)))
      (mulf (extf .f32 x3 bitsLt_bf16_f32) (broadcastInDim S16x4x896 ![0, 1, 2] bcast_S1x1x1_S16x4x896_0_1_2 (broadcastInDim S1x1x1 ![2] bcast_S1_S1x1x1_2 (scaleOf (negi x8)))))))
theorem codesOf_apply (x3 : Vec Ideal S16x4x896 .bf16) (x8 : Vec Ideal S1 .i32) (b : Fin 16) (s : Fin 4) (k : Fin 896) :
    codesOf x3 x8 (ix3 b s k) = code (x8 (ix1 0)) (x3 (ix3 b s k)) := by
  unfold code
  rw [← scaleOf_neg]
  unfold codesOf
  generalize scaleOf (negi x8) = y
  pointwise
  try rfl

variable (m : (ℓ : Loc nD τ sig) → Buf (Elt Ideal) ℓ) (c : Dev nD)

abbrev x3 : Vec Ideal S16x4x896 .bf16 := m ((c.tc : Thread nD τ).loc main_arg3)
abbrev x4 : Vec Ideal S896x128256 .fp8e4m3 := m ((c.tc : Thread nD τ).loc main_arg4)
abbrev x8 : Vec Ideal S1 .i32 := m ((c.tc : Thread nD τ).loc main_arg8)
/-- The reference's scale. -/
abbrev scale : Vec Ideal S1 .f32 := scaleOf (x8 m c)
/-- The reference's codes. -/
abbrev codes : Vec Ideal S16x4x896 .fp8e4m3 := codesOf (x3 m c) (x8 m c)

/-! ## The product -/

theorem pay1_apply (q : Vec Ideal S64x896 .fp8e4m3) (w : Vec Ideal S896x128256 .fp8e4m3) (r : Fin 64) (v : Fin 128256) :
    k0_pay1 q w (ix2 r v) = ∑ k : Fin 896, (q (ix2 r k) : EReal) * (w (ix2 k v) : EReal) := by
  unfold k0_pay1
  pointwise
  try rfl

set_option maxHeartbeats 2000000 in
theorem V_v15 : V m c main_v15 = shapeCast S64x896 (codes m c) shapeCasts_S16x4x896_S64x896 := by
  show V0 m c (Proc.devRef .tc main_v15) = _
  simp only [V0, hostOps0, hostOps0_1, hostOps0_2, TRef.binary, TRef.unary, TRef.toBuf, TRef.ofBuf, cast_eq, List.flatten_cons, List.flatten_nil, List.append_nil, List.cons_append, List.nil_append]
  after_results <;> rfl
theorem back_apply (x : Vec Ideal S16x4x896 .fp8e4m3) (b : Fin 16) (s : Fin 4) (k : Fin 896) :
    shapeCast S64x896 x shapeCasts_S16x4x896_S64x896 (ix2 (⟨b.val * 4 + s.val, by omega⟩ : Fin 64) k) = x (ix3 b s k) := by
  pointwise
theorem V_v15_apply (b : Fin 16) (s : Fin 4) (k : Fin 896) :
    (V m c main_v15 : Vec Ideal S64x896 .fp8e4m3) (ix2 (⟨b.val * 4 + s.val, by omega⟩ : Fin 64) k) = code (x8 m c (ix1 0)) (x3 m c (ix3 b s k)) :=
  (congrFun (V_v15 m c) _).trans ((back_apply _ b s k).trans (codesOf_apply _ _ b s k))

/-- The one point. -/
abbrev pt : Fin cfg0.N := t0_0
theorem iblk_0 : iblk m c 0 pt = V m c main_v15 := by
  funext i
  blk_simp [iblk]
  refine congrArg (V m c main_v15) (funext fun a => ?_)
  fin_cases a
  · apply Fin.ext; blk_simp; simp; rfl
  · apply Fin.ext; blk_simp; simp; rfl
theorem iblk_1 : iblk m c 1 pt = V m c main_arg4 := by
  funext i
  blk_simp [iblk]
  refine congrArg (V m c main_arg4) (funext fun a => ?_)
  fin_cases a
  · apply Fin.ext; blk_simp; simp; rfl
  · apply Fin.ext; blk_simp; simp; rfl
theorem out2 (q : Vec Ideal S64x896 .fp8e4m3) (w : Vec Ideal S896x128256 .fp8e4m3) : out0_2 (F := Ideal) q w = k0_pay1 q w := by
  frame_out

theorem reg : Value.reg_main_v16 m c = k0_pay1 (V m c main_v15) (V m c main_arg4) := by
  have h : out0_2 (iblk m c 0 pt) (iblk m c 1 pt) = k0_pay1 (V m c main_v15) (V m c main_arg4) := by
    rw [out2, iblk_0, iblk_1]
  unfold Value.reg_main_v16
  generalize k0_pay1 (V m c main_v15) (V m c main_arg4) = x at h ⊢
  funext i
  refine ((dats m 0 c).arrAt_emb_eq_after_last 2 pt (by decide +kernel) i).trans ?_
  rw [after0_2, h]
  rfl

/-- The reference's fp8 product. -/
theorem dot_apply (b : Fin 16) (s : Fin 4) (v : Fin 128256) :
    Value.reg_main_v16 m c (ix2 (⟨b.val * 4 + s.val, by omega⟩ : Fin 64) v)
      = ∑ k : Fin 896, code (x8 m c (ix1 0)) (x3 m c (ix3 b s k)) * (show EReal from x4 m c (ix2 k v)) := by
  rw [reg, V_main_arg4]
  refine (pay1_apply _ _ _ _).trans (Finset.sum_congr rfl fun k _ => ?_)
  exact congrArg (fun z : EReal => z * (show EReal from x4 m c (ix2 k v))) (V_v15_apply m c b s k)

end Cert.ReferenceIdeal.Hand
end
-- ==== Proof.RVal.lean ====
module

public import proofs.«01_k».proof.Proof.Rows
public import proofs.«01_k».proof.Proof.RReg

@[expose] public section

set_option maxRecDepth 16384

noncomputable section

/-! # The reference, read element by element -/

namespace Cert.ReferenceIdeal.Hand

open Idealize.ShloMosaic Idealize.ShloMosaic.TcCoe Idealize.ShloMosaic.Tactic Cert.Soft
open Cert.ReferenceIdeal.Gen Cert.ReferenceIdeal.Read
open Cert.KernelIdeal.Hand (nib code neg_inf)

/-! ## The packed weights -/

theorem low_bits : ∀ b : BitVec 8,
    (Scalar.select (IntOp.cmpi .sge (IntOp.andi (b.setWidth 32) 15#32) 8#32) (IntOp.subi (IntOp.andi (b.setWidth 32) 15#32) 16#32) (IntOp.andi (b.setWidth 32) 15#32) : BitVec 32).toInt
      = (BitVec.setWidth 4 (BitVec.setWidth 32 b)).toInt := by
  decide +kernel
theorem high_bits : ∀ b : BitVec 8,
    (Scalar.select (IntOp.cmpi .sge (IntOp.shrsi .host (b.setWidth 32) 4#32) 8#32) (IntOp.subi (IntOp.shrsi .host (b.setWidth 32) 4#32) 16#32) (IntOp.shrsi .host (b.setWidth 32) 4#32) : BitVec 32).toInt
      = (BitVec.setWidth 4 (IntOp.shrsi ArithUnit.vector (BitVec.setWidth 32 b) 4#32)).toInt := by
  decide +kernel

theorem v33_at (x1 : Vec Ideal S1152x128256 .i8) (k : Fin 1152) (v : Fin 128256) : val_main_v33 x1 (ix2 k v) = nib (x1 (ix2 k v)) 0 := by
  simp only [val_main_v33_apply, val_main_v32_apply, val_main_v31_apply, val_main_v30_apply, val_main_v29_apply, val_main_v28_apply, val_main_v27_apply, val_main_v26_apply, val_main_v24_apply,
    val_main_c_apply, val_main_c_4_apply, val_main_c_5_apply]
  exact congrArg (fun z : ℤ => (((z : ℝ)) : EReal)) (low_bits (x1 (ix2 k v)))
theorem v46_at (x1 : Vec Ideal S1152x128256 .i8) (k : Fin 1152) (v : Fin 128256) : val_main_v46 x1 (ix2 k v) = nib (x1 (ix2 k v)) 1 := by
  simp only [val_main_v46_apply, val_main_v45_apply, val_main_v44_apply, val_main_v43_apply, val_main_v42_apply, val_main_v41_apply, val_main_v40_apply, val_main_v39_apply, val_main_v24_apply,
    val_main_c_6_apply, val_main_c_7_apply, val_main_c_8_apply]
  exact congrArg (fun z : ℤ => (((z : ℝ)) : EReal)) (high_bits (x1 (ix2 k v)))

theorem idx24 (k : Fin 1152) (v : Fin 128256) : idx_main_v38 (ix2 k v) = ix3 (⟨k.val / 64, by omega⟩ : Fin 18) (⟨k.val % 64, by omega⟩ : Fin 64) v :=
  funext fun a => match a with
  | ⟨0, _⟩ => Fin.ext (by show (k.val * 128256 + v.val) / 8208384 = k.val / 64; omega)
  | ⟨1, _⟩ => Fin.ext (by show (k.val * 128256 + v.val) / 128256 % 64 = k.val % 64; omega)
  | ⟨2, _⟩ => Fin.ext (by show (k.val * 128256 + v.val) % 128256 = v.val; omega)
theorem idx20 (g : Fin 18) (l : Fin 64) (v : Fin 128256) : idx_main_v34 (ix3 g l v) = ix2 (⟨g.val * 64 + l.val, by omega⟩ : Fin 1152) v :=
  funext fun a => match a with
  | ⟨0, _⟩ => Fin.ext (by show ((g.val * 64 + l.val) * 128256 + v.val) / 128256 = g.val * 64 + l.val; omega)
  | ⟨1, _⟩ => Fin.ext (by show ((g.val * 64 + l.val) * 128256 + v.val) % 128256 = v.val; omega)
theorem idx22 (g : Fin 18) (l : Fin 64) (v : Fin 128256) : idx_main_v35 (idx_main_v36 (ix3 g l v)) = ix2 g v :=
  funext fun a => match a with
  | ⟨0, _⟩ => rfl
  | ⟨1, _⟩ => rfl
theorem back64 (k : Fin 1152) : (⟨k.val / 64 * 64 + k.val % 64, by omega⟩ : Fin 1152) = k := Fin.ext (by show k.val / 64 * 64 + k.val % 64 = k.val; omega)

theorem v38_at (x1 : Vec Ideal S1152x128256 .i8) (x2 : Vec Ideal S18x128256 .f32) (k : Fin 1152) (v : Fin 128256) :
    val_main_v38 x1 x2 (ix2 k v) = nib (x1 (ix2 k v)) 0 * x2 (ix2 (⟨k.val / 64, by omega⟩ : Fin 18) v) := by
  rw [val_main_v38_apply, idx24, val_main_v37_apply, val_main_v34_apply, idx20, val_main_v36_apply, val_main_v35_apply, idx22, val_main_v25_apply, v33_at, back64]
  rfl
theorem v51_at (x1 : Vec Ideal S1152x128256 .i8) (x2 : Vec Ideal S18x128256 .f32) (k : Fin 1152) (v : Fin 128256) :
    val_main_v51 x1 x2 (ix2 k v) = nib (x1 (ix2 k v)) 1 * x2 (ix2 (⟨k.val / 64, by omega⟩ : Fin 18) v) := by
  rw [val_main_v51_apply, show idx_main_v51 (ix2 k v) = _ from idx24 k v, val_main_v50_apply, val_main_v47_apply, show ∀ g l, idx_main_v47 (ix3 g l v) = _ from fun g l => idx20 g l v, val_main_v49_apply, val_main_v48_apply,
    show ∀ g l, idx_main_v48 (idx_main_v49 (ix3 g l v)) = _ from fun g l => idx22 g l v, val_main_v25_apply, v46_at, back64]
  rfl

theorem v52_at (x0 : Vec Ideal S16x5x2304 .bf16) (b : Fin 16) (s : Fin 5) (k : Fin 1152) : val_main_v52 x0 (ix3 b s k) = x0 (ix3 b s (⟨2 * k.val, by omega⟩ : Fin 2304)) := by
  unfold val_main_v52
  pointwise
theorem v54_at (x0 : Vec Ideal S16x5x2304 .bf16) (b : Fin 16) (s : Fin 5) (k : Fin 1152) : val_main_v54 x0 (ix3 b s k) = x0 (ix3 b s (⟨1 + 2 * k.val, by omega⟩ : Fin 2304)) := by
  unfold val_main_v54
  pointwise

theorem lidx39 (b : Fin 16) (s : Fin 5) (v : Fin 128256) (k : Fin 1152) : lidx_main_v53 (ix3 b s v) k = ix3 b s k :=
  funext fun a => match a with
  | ⟨0, _⟩ => rfl
  | ⟨1, _⟩ => rfl
  | ⟨2, _⟩ => rfl
theorem ridx39 (b : Fin 16) (s : Fin 5) (v : Fin 128256) (k : Fin 1152) : ridx_main_v53 (ix3 b s v) k = ix2 k v :=
  funext fun a => match a with
  | ⟨0, _⟩ => rfl
  | ⟨1, _⟩ => rfl

/-- A sum over an even number of terms, the even ones and the odd ones apart. -/
theorem sum_parity (f : Fin 2304 → EReal) :
    ∑ k : Fin 2304, f k = ∑ k : Fin 1152, f ⟨2 * k.val, by omega⟩ + ∑ k : Fin 1152, f ⟨1 + 2 * k.val, by omega⟩ := by
  rw [← Finset.sum_add_distrib, ← Fin.sum_mul_add_fin (S := 1152) (n := 2) (L := 2304) f]
  refine Finset.sum_congr rfl fun k _ => ?_
  rw [Fin.sum_univ_two]
  exact congrArg₂ (· + ·) (congrArg f (Fin.ext (by show k.val * 2 + 0 = 2 * k.val; omega))) (congrArg f (Fin.ext (by show k.val * 2 + 1 = 1 + 2 * k.val; omega)))

/-- The target's logits: the even columns against the low nibbles and the odd ones against the high ones are the whole product. -/
theorem target_at (x0 : Vec Ideal S16x5x2304 .bf16) (x1 : Vec Ideal S1152x128256 .i8) (x2 : Vec Ideal S18x128256 .f32) (b : Fin 16) (s : Fin 5) (v : Fin 128256) :
    val_main_v56 x0 x1 x2 (ix3 b s v) = logitT (fun k => x0 (ix3 b s k)) (fun k v => x1 (ix2 k v)) (fun k v => x2 (ix2 k v)) v := by
  rw [val_main_v56_apply, val_main_v53_apply, val_main_v55_apply, logitT, sum_parity]
  refine congrArg₂ (fun y z : EReal => y + z) (Finset.sum_congr rfl fun k _ => ?_) (Finset.sum_congr rfl fun k _ => ?_)
  · rw [lidx39, ridx39, v52_at, v38_at]
    have h1 : (⟨2 * k.val / 2, by omega⟩ : Fin 1152) = k := Fin.ext (by show 2 * k.val / 2 = k.val; omega)
    have h2 : (⟨2 * k.val / 128, by omega⟩ : Fin 18) = ⟨k.val / 64, by omega⟩ := Fin.ext (by show 2 * k.val / 128 = k.val / 64; omega)
    have h3 : 2 * k.val % 2 = 0 := by omega
    dsimp only
    rw [h1, h2, h3]
  · rw [show lidx_main_v55 (ix3 b s v) k = _ from lidx39 b s v k, show ridx_main_v55 (ix3 b s v) k = _ from ridx39 b s v k, v54_at, v51_at]
    have h1 : (⟨(1 + 2 * k.val) / 2, by omega⟩ : Fin 1152) = k := Fin.ext (by show (1 + 2 * k.val) / 2 = k.val; omega)
    have h2 : (⟨(1 + 2 * k.val) / 128, by omega⟩ : Fin 18) = ⟨k.val / 64, by omega⟩ := Fin.ext (by show (1 + 2 * k.val) / 128 = k.val / 64; omega)
    have h3 : (1 + 2 * k.val) % 2 = 1 := by omega
    dsimp only
    rw [h1, h2, h3]

end Cert.ReferenceIdeal.Hand
end
-- ==== Proof.RSoft.lean ====
module

public import proofs.«01_k».proof.Proof.RVal

@[expose] public section

set_option maxRecDepth 16384

noncomputable section

/-! # The reference's distributions and results, read element by element -/

namespace Cert.ReferenceIdeal.Hand

open Idealize.ShloMosaic Idealize.ShloMosaic.TcCoe Idealize.ShloMosaic.Tactic Cert.Soft
open Cert.ReferenceIdeal.Gen Cert.ReferenceIdeal.Read
open Cert.KernelIdeal.Hand (nib code neg_inf zero_bits)

/-! ## The draft's logits -/

theorem idx17 (b : Fin 16) (s : Fin 4) (v : Fin 128256) : idx_main_v17 (ix3 b s v) = ix2 (⟨b.val * 4 + s.val, by omega⟩ : Fin 64) v :=
  funext fun a => match a with
  | ⟨0, _⟩ => Fin.ext (by show ((b.val * 4 + s.val) * 128256 + v.val) / 128256 = b.val * 4 + s.val; omega)
  | ⟨1, _⟩ => Fin.ext (by show ((b.val * 4 + s.val) * 128256 + v.val) % 128256 = v.val; omega)
theorem idx18 (b : Fin 16) (s : Fin 4) (v : Fin 128256) : idx_main_v18 (idx_main_v19 (ix3 b s v)) = ix1 0 :=
  funext fun a => match a with
  | ⟨0, _⟩ => Subsingleton.elim (α := Fin 1) _ _
theorem idx22v (b : Fin 16) (s : Fin 4) (v : Fin 128256) : idx_main_v21 (idx_main_v22 (ix3 b s v)) = ix1 v :=
  funext fun a => match a with
  | ⟨0, _⟩ => rfl
theorem v23_at (x5 : Vec Ideal S128256 .f32) (r1 : Vec Ideal S64x128256 .f32) (e1 : Vec Ideal S1 .f32) (b : Fin 16) (s : Fin 4) (v : Fin 128256) :
    val_main_v23 x5 r1 e1 (ix3 b s v) = r1 (ix2 (⟨b.val * 4 + s.val, by omega⟩ : Fin 64) v) * e1 (ix1 0) * x5 (ix1 v) := by
  rw [val_main_v23_apply, val_main_v20_apply, val_main_v17_apply, val_main_v19_apply, val_main_v18_apply, val_main_v22_apply, val_main_v21_apply, idx17, idx22v, idx18]
  rfl

/-! ## The two softmaxes -/

theorem max_draft (y : Vec Ideal S16x4x128256 .f32) (b : Fin 16) (s : Fin 4) :
    Host.reduce (FloatOps.maximumf (F := Ideal) (φ := .f32)) y (constant (F := Ideal) S_ .f32 0xFF800000#32) reducesTo_S16x4x128256_S16x4_d2 h_S_ (ix2 b s) = rowMax fun v => y (ix3 b s v) := by
  have h := neg_inf
  unfold rowMax
  rw [← h]
  pointwise
  try rfl
theorem max_target (y : Vec Ideal S16x5x128256 .f32) (b : Fin 16) (s : Fin 5) :
    Host.reduce (FloatOps.maximumf (F := Ideal) (φ := .f32)) y (constant (F := Ideal) S_ .f32 0xFF800000#32) reducesTo_S16x5x128256_S16x5_d2 h_S_ (ix2 b s) = rowMax fun v => y (ix3 b s v) := by
  have h := neg_inf
  unfold rowMax
  rw [← h]
  pointwise
  try rfl
theorem max_hidden (y : Vec Ideal S16x4x896 .f32) (b : Fin 16) (s : Fin 4) :
    Host.reduce (FloatOps.maximumf (F := Ideal) (φ := .f32)) y (constant (F := Ideal) S_ .f32 0xFF800000#32) reducesTo_S16x4x896_S16x4_d2 h_S_ (ix2 b s) = rowMax fun v => y (ix3 b s v) := by
  have h := neg_inf
  unfold rowMax
  rw [← h]
  pointwise
  try rfl

section draft
variable (x5 : Vec Ideal S128256 .f32) (r1 : Vec Ideal S64x128256 .f32) (e1 : Vec Ideal S1 .f32)

/-- A row of the draft's logits. -/
abbrev dRow (b : Fin 16) (s : Fin 4) (v : Fin 128256) : EReal := val_main_v23 x5 r1 e1 (ix3 b s v)

theorem v59_at (b : Fin 16) (s : Fin 4) : val_main_v59 x5 r1 e1 (ix2 b s) = rowMax (dRow x5 r1 e1 b s) := by
  rw [val_main_v59_apply, val_main_v58_apply, val_main_cst_10_apply]
  unfold val_main_v57 val_main_cst_9
  rw [max_draft]
  show max (Ideal.ofBits .f32 0xFF800000#32) _ = _
  rw [neg_inf]
  exact bot_sup_eq _
theorem idx47 (b : Fin 16) (s : Fin 4) (v : Fin 128256) : idx_main_v60 (idx_main_v61 (ix3 b s v)) = ix2 b s :=
  funext fun a => match a with
  | ⟨0, _⟩ => rfl
  | ⟨1, _⟩ => rfl
theorem v63_at (b : Fin 16) (s : Fin 4) (v : Fin 128256) : val_main_v63 x5 r1 e1 (ix3 b s v) = Ideal.exp (dRow x5 r1 e1 b s v - rowMax (dRow x5 r1 e1 b s)) := by
  rw [val_main_v63_apply, val_main_v62_apply, val_main_v61_apply, val_main_v60_apply, idx47, v59_at]
  rfl
theorem idx50 (b : Fin 16) (s : Fin 4) (v : Fin 128256) : idx_main_v64 (ix2 b s) v = ix3 b s v :=
  funext fun a => match a with
  | ⟨0, _⟩ => rfl
  | ⟨1, _⟩ => rfl
  | ⟨2, _⟩ => rfl
theorem v64_at (b : Fin 16) (s : Fin 4) : val_main_v64 x5 r1 e1 (ix2 b s) = rowSum (dRow x5 r1 e1 b s) := by
  rw [val_main_v64_apply, val_main_cst_11_apply]
  show Ideal.ofBits .f32 0#32 + _ = _
  rw [zero_bits, zero_add]
  exact Finset.sum_congr rfl fun k _ => by rw [idx50, v63_at]
theorem v67_at (b : Fin 16) (s : Fin 4) (v : Fin 128256) : val_main_v67 x5 r1 e1 (ix3 b s v) = prob (dRow x5 r1 e1 b s) v := by
  rw [val_main_v67_apply, val_main_v66_apply, val_main_v65_apply, show idx_main_v65 (idx_main_v66 (ix3 b s v)) = _ from idx47 b s v, v64_at, v63_at]
  rfl
end draft

section target
variable (x0 : Vec Ideal S16x5x2304 .bf16) (x1 : Vec Ideal S1152x128256 .i8) (x2 : Vec Ideal S18x128256 .f32)

/-- A row of the target's logits. -/
abbrev tRow (b : Fin 16) (s : Fin 5) (v : Fin 128256) : EReal := val_main_v56 x0 x1 x2 (ix3 b s v)

theorem v70_at (b : Fin 16) (s : Fin 5) : val_main_v70 x0 x1 x2 (ix2 b s) = rowMax (tRow x0 x1 x2 b s) := by
  rw [val_main_v70_apply, val_main_v69_apply, val_main_cst_13_apply]
  unfold val_main_v68 val_main_cst_12
  rw [max_target]
  show max (Ideal.ofBits .f32 0xFF800000#32) _ = _
  rw [neg_inf]
  exact bot_sup_eq _
theorem idx58 (b : Fin 16) (s : Fin 5) (v : Fin 128256) : idx_main_v71 (idx_main_v72 (ix3 b s v)) = ix2 b s :=
  funext fun a => match a with
  | ⟨0, _⟩ => rfl
  | ⟨1, _⟩ => rfl
theorem v74_at (b : Fin 16) (s : Fin 5) (v : Fin 128256) : val_main_v74 x0 x1 x2 (ix3 b s v) = Ideal.exp (tRow x0 x1 x2 b s v - rowMax (tRow x0 x1 x2 b s)) := by
  rw [val_main_v74_apply, val_main_v73_apply, val_main_v72_apply, val_main_v71_apply, idx58, v70_at]
  rfl
theorem idx75 (b : Fin 16) (s : Fin 5) (v : Fin 128256) : idx_main_v75 (ix2 b s) v = ix3 b s v :=
  funext fun a => match a with
  | ⟨0, _⟩ => rfl
  | ⟨1, _⟩ => rfl
  | ⟨2, _⟩ => rfl
theorem v75_at (b : Fin 16) (s : Fin 5) : val_main_v75 x0 x1 x2 (ix2 b s) = rowSum (tRow x0 x1 x2 b s) := by
  rw [val_main_v75_apply, val_main_cst_14_apply]
  show Ideal.ofBits .f32 0#32 + _ = _
  rw [zero_bits, zero_add]
  exact Finset.sum_congr rfl fun k _ => by rw [idx75, v74_at]
theorem v78_at (b : Fin 16) (s : Fin 5) (v : Fin 128256) : val_main_v78 x0 x1 x2 (ix3 b s v) = prob (tRow x0 x1 x2 b s) v := by
  rw [val_main_v78_apply, val_main_v77_apply, val_main_v76_apply, show idx_main_v76 (idx_main_v77 (ix3 b s v)) = _ from idx58 b s v, v75_at, v74_at]
  rfl
theorem v79_at (b : Fin 16) (s : Fin 4) (v : Fin 128256) : val_main_v79 x0 x1 x2 (ix3 b s v) = prob (tRow x0 x1 x2 b (Fin.castLE (by decide) s)) v := by
  rw [← v78_at]
  unfold val_main_v79
  generalize val_main_v78 x0 x1 x2 = y
  pointwise
  try rfl
theorem v105_at (b : Fin 16) (v : Fin 128256) : val_main_v105 x0 x1 x2 (ix2 b v) = prob (tRow x0 x1 x2 b 4) v := by
  have h : idx_main_v104 (ix2 b v) = ix3 b (0 : Fin 1) v := funext fun a => match a with
    | ⟨0, _⟩ => Fin.ext (by show (b.val * 128256 + v.val) / 128256 = b.val; omega)
    | ⟨1, _⟩ => Subsingleton.elim (α := Fin 1) _ _
    | ⟨2, _⟩ => Fin.ext (by show (b.val * 128256 + v.val) % 128256 = v.val; omega)
  have h' : val_main_v103 x0 x1 x2 (ix3 b (0 : Fin 1) v) = val_main_v78 x0 x1 x2 (ix3 b (4 : Fin 5) v) := by
    unfold val_main_v103
    generalize val_main_v78 x0 x1 x2 = y
    pointwise
    try rfl
  rw [val_main_v105_apply, val_main_v104_apply, h, h', v78_at]
  rfl
end target

section results
variable (x0 : Vec Ideal S16x5x2304 .bf16) (x1 : Vec Ideal S1152x128256 .i8) (x2 : Vec Ideal S18x128256 .f32)
variable (x5 : Vec Ideal S128256 .f32) (x6 : Vec Ideal S16x4 .i32) (x7 : Vec Ideal S16x4 .f32) (r1 : Vec Ideal S64x128256 .f32) (e1 : Vec Ideal S1 .f32)

/-- A row of the target's logits at a drafted step. -/
abbrev tRow4 (b : Fin 16) (s : Fin 4) : Fin 128256 → EReal := tRow x0 x1 x2 b (Fin.castLE (by decide) s)

theorem v96_at (b : Fin 16) (s : Fin 4) (v : Fin 128256) : val_main_v96 x0 x1 x2 x5 r1 e1 (ix3 b s v) = resid (tRow4 x0 x1 x2 b s) (dRow x5 r1 e1 b s) v := by
  rw [val_main_v96_apply, val_main_v94_apply, val_main_v95_apply, val_main_cst_20_apply, v79_at, v67_at]
  show max _ (Ideal.ofBits .f32 0#32) = _
  rw [zero_bits]
  rfl
theorem v97_at (b : Fin 16) (s : Fin 4) : val_main_v97 x0 x1 x2 x5 r1 e1 (ix2 b s) = mass (tRow4 x0 x1 x2 b s) (dRow x5 r1 e1 b s) := by
  rw [val_main_v97_apply, val_main_cst_21_apply]
  show Ideal.ofBits .f32 0#32 + _ = _
  rw [zero_bits, zero_add]
  exact Finset.sum_congr rfl fun k _ => by rw [show idx_main_v97 (ix2 b s) k = _ from idx50 b s k, v96_at]
theorem v101_at (b : Fin 16) (s : Fin 4) (v : Fin 128256) : val_main_v101 x0 x1 x2 x5 r1 e1 (ix3 b s v) = Soft.residual (tRow4 x0 x1 x2 b s) (dRow x5 r1 e1 b s) v := by
  rw [val_main_v101_apply, val_main_v100_apply, val_main_v99_apply, val_main_v98_apply, show idx_main_v98 (idx_main_v99 (ix3 b s v)) = _ from idx47 b s v, v97_at, v96_at]
  rfl
theorem v102_at (b : Fin 16) (s : Fin 4) : val_main_v102 x0 x1 x2 x5 r1 e1 (ix2 b s) = logMass (tRow4 x0 x1 x2 b s) (dRow x5 r1 e1 b s) := by
  rw [val_main_v102_apply, v97_at]
  rfl

theorem idx83 (b : Fin 16) (s : Fin 4) (v : Fin 128256) : idx_main_v80 (idx_main_v83 (ix3 b s v)) = ix2 b s :=
  funext fun a => match a with
  | ⟨0, _⟩ => rfl
  | ⟨1, _⟩ => rfl
theorem eq_symm (a b : BitVec 32) : IntOp.cmpi .eq a b = IntOp.cmpi .eq b a := by
  simp only [IntOp.cmpi]
  rw [Bool.beq_comm]
theorem v85_at (b : Fin 16) (s : Fin 4) (v : Fin 128256) : val_main_v85 (F := Ideal) x6 (ix3 b s v) = isTok (x6 (ix2 b s)) v := by
  rw [val_main_v85_apply, val_main_v83_apply, val_main_v80_apply, idx83, val_main_v84_apply, val_main_v82_apply, val_main_v81_apply, eq_symm]
  rfl
theorem v87_at (b : Fin 16) (s : Fin 4) : val_main_v87 x0 x1 x2 x6 (ix2 b s) = ∑ v, pick (x6 (ix2 b s)) (prob (tRow4 x0 x1 x2 b s)) v := by
  rw [val_main_v87_apply, val_main_cst_16_apply]
  show Ideal.ofBits .f32 0#32 + _ = _
  rw [zero_bits, zero_add]
  refine Finset.sum_congr rfl fun k _ => ?_
  rw [show idx_main_v87 (ix2 b s) k = _ from idx50 b s k, val_main_v86_apply, v85_at, v79_at, val_main_call3_v1_apply, val_main_call3_v0_apply, val_main_cst_15_apply]
  show Scalar.select _ _ (Ideal.ofBits .f32 0#32) = _
  rw [zero_bits]
  rfl
theorem v89_at (b : Fin 16) (s : Fin 4) : val_main_v89 x5 x6 r1 e1 (ix2 b s) = ∑ v, pick (x6 (ix2 b s)) (prob (dRow x5 r1 e1 b s)) v := by
  rw [val_main_v89_apply, val_main_cst_18_apply]
  show Ideal.ofBits .f32 0#32 + _ = _
  rw [zero_bits, zero_add]
  refine Finset.sum_congr rfl fun k _ => ?_
  rw [show idx_main_v89 (ix2 b s) k = _ from idx50 b s k, val_main_v88_apply, v85_at, v67_at, val_main_call4_v1_apply, val_main_call4_v0_apply, val_main_cst_17_apply]
  show Scalar.select _ _ (Ideal.ofBits .f32 0#32) = _
  rw [zero_bits]
  rfl
theorem v92_at (b : Fin 16) (s : Fin 4) : val_main_v92 x0 x1 x2 x5 x6 r1 e1 (ix2 b s) = accept (x6 (ix2 b s)) (tRow4 x0 x1 x2 b s) (dRow x5 r1 e1 b s) := by
  rw [val_main_v92_apply, val_main_v90_apply, val_main_v91_apply, val_main_cst_19_apply, v87_at, v89_at]
  rfl
theorem v93_at (b : Fin 16) (s : Fin 4) : val_main_v93 x0 x1 x2 x5 x6 x7 r1 e1 (ix2 b s) = x7 (ix2 b s) - accept (x6 (ix2 b s)) (tRow4 x0 x1 x2 b s) (dRow x5 r1 e1 b s) := by
  rw [val_main_v93_apply, v92_at]
  rfl
theorem amax_at (x3 : Vec Ideal S16x4x896 .bf16) (b : Fin 16) (s : Fin 4) :
    Host.reduce (FloatOps.maximumf (F := Ideal) (φ := .f32)) (Host.absf (F := Ideal) (extf .f32 x3 bitsLt_bf16_f32)) (constant (F := Ideal) S_ .f32 0xFF800000#32) reducesTo_S16x4x896_S16x4_d2 h_S_ (ix2 b s)
      = amax fun j => x3 (ix3 b s j) := by
  rw [max_hidden]
  rfl
end results

end Cert.ReferenceIdeal.Hand
end
-- ==== Proof.RRun.lean ====
module

public import proofs.«01_k».proof.Proof.RSoft

@[expose] public section

set_option maxRecDepth 16384

noncomputable section

/-! # The reference's seven results, from its arguments -/

namespace Cert.ReferenceIdeal.Hand

open Idealize.ShloMosaic Idealize.ShloMosaic.TcCoe Idealize.ShloMosaic.Tactic Cert.Soft
open Cert.ReferenceIdeal.Gen Cert.ReferenceIdeal.Read Cert.ReferenceIdeal.Value
open Cert.KernelIdeal.Hand (nib code neg_inf zero_bits)

variable (m : (ℓ : Loc nD τ sig) → Buf (Elt Ideal) ℓ) (c : Dev nD)

abbrev x0 : Vec Ideal S16x5x2304 .bf16 := m ((c.tc : Thread nD τ).loc main_arg0)
abbrev x1 : Vec Ideal S1152x128256 .i8 := m ((c.tc : Thread nD τ).loc main_arg1)
abbrev x2 : Vec Ideal S18x128256 .f32 := m ((c.tc : Thread nD τ).loc main_arg2)
abbrev x5 : Vec Ideal S128256 .f32 := m ((c.tc : Thread nD τ).loc main_arg5)
abbrev x6 : Vec Ideal S16x4 .i32 := m ((c.tc : Thread nD τ).loc main_arg6)
abbrev x7 : Vec Ideal S16x4 .f32 := m ((c.tc : Thread nD τ).loc main_arg7)
/-- The target's logits of batch `b` at step `s`. -/
def targetRow (b : Fin 16) (s : Fin 5) : Fin 128256 → EReal :=
  logitT (fun k => x0 m c (ix3 b s k)) (fun k v => x1 m c (ix2 k v)) (fun k v => x2 m c (ix2 k v))
/-- The draft's logits of batch `b` at step `s`. -/
def draftRow (b : Fin 16) (s : Fin 4) : Fin 128256 → EReal :=
  logitD (x8 m c (ix1 0)) (fun k => x3 m c (ix3 b s k)) (fun k v => x4 m c (ix2 k v)) (fun v => x5 m c (ix1 v))

theorem tRow_eq (b : Fin 16) (s : Fin 5) : tRow (x0 m c) (x1 m c) (x2 m c) b s = targetRow m c b s :=
  funext fun v => target_at (x0 m c) (x1 m c) (x2 m c) b s v
theorem dRow_eq (b : Fin 16) (s : Fin 4) : dRow (x5 m c) (reg_main_v16 m c) (scale m c) b s = draftRow m c b s :=
  funext fun v => by
    rw [dRow, v23_at, dot_apply, show scale m c (ix1 0) = _ from scaleOf_apply (x8 m c)]
    rfl

theorem res0 (b : Fin 16) (s : Fin 4) (v : Fin 128256) :
    val_main_v101 (x0 m c) (x1 m c) (x2 m c) (x5 m c) (reg_main_v16 m c) (scale m c) (ix3 b s v) = Soft.residual (targetRow m c b (Fin.castLE (by decide) s)) (draftRow m c b s) v := by
  rw [v101_at, tRow4, tRow_eq, dRow_eq]
theorem res1 (b : Fin 16) (s : Fin 4) :
    val_main_v102 (x0 m c) (x1 m c) (x2 m c) (x5 m c) (reg_main_v16 m c) (scale m c) (ix2 b s) = logMass (targetRow m c b (Fin.castLE (by decide) s)) (draftRow m c b s) := by
  rw [v102_at, tRow4, tRow_eq, dRow_eq]
theorem res2 (b : Fin 16) (s : Fin 4) :
    val_main_v92 (x0 m c) (x1 m c) (x2 m c) (x5 m c) (x6 m c) (reg_main_v16 m c) (scale m c) (ix2 b s)
      = accept (x6 m c (ix2 b s)) (targetRow m c b (Fin.castLE (by decide) s)) (draftRow m c b s) := by
  rw [v92_at, tRow4, tRow_eq, dRow_eq]
theorem res3 (b : Fin 16) (s : Fin 4) :
    val_main_v93 (x0 m c) (x1 m c) (x2 m c) (x5 m c) (x6 m c) (x7 m c) (reg_main_v16 m c) (scale m c) (ix2 b s)
      = (x7 m c (ix2 b s) : EReal) - accept (x6 m c (ix2 b s)) (targetRow m c b (Fin.castLE (by decide) s)) (draftRow m c b s) := by
  rw [v93_at, tRow4, tRow_eq, dRow_eq]
theorem res4 (b : Fin 16) (v : Fin 128256) : val_main_v105 (x0 m c) (x1 m c) (x2 m c) (ix2 b v) = prob (targetRow m c b 4) v := by
  rw [v105_at, tRow_eq]
/-- The run, its results as the stages over the arguments. -/
theorem run_ref (ρ : Dev nD → PrngReg) :
    θ_run defs (onTc (τ := τ) (main (F := Ideal))) ⟨m, fun _ => 0, ρ⟩ fun r => ∀ c : Dev nD,
      r.2.mem ((c.tc : Thread nD τ).loc main_v101) = val_main_v101 (x0 m c) (x1 m c) (x2 m c) (x5 m c) (reg_main_v16 m c) (scale m c)
      ∧ r.2.mem ((c.tc : Thread nD τ).loc main_v102) = val_main_v102 (x0 m c) (x1 m c) (x2 m c) (x5 m c) (reg_main_v16 m c) (scale m c)
      ∧ r.2.mem ((c.tc : Thread nD τ).loc main_v92) = val_main_v92 (x0 m c) (x1 m c) (x2 m c) (x5 m c) (x6 m c) (reg_main_v16 m c) (scale m c)
      ∧ r.2.mem ((c.tc : Thread nD τ).loc main_v93) = val_main_v93 (x0 m c) (x1 m c) (x2 m c) (x5 m c) (x6 m c) (x7 m c) (reg_main_v16 m c) (scale m c)
      ∧ r.2.mem ((c.tc : Thread nD τ).loc main_v105) = val_main_v105 (x0 m c) (x1 m c) (x2 m c)
      ∧ r.2.mem ((c.tc : Thread nD τ).loc main_v11) = codes m c
      ∧ r.2.mem ((c.tc : Thread nD τ).loc main_v2) = Host.reduce (FloatOps.maximumf (F := Ideal) (φ := .f32)) (Host.absf (F := Ideal) (extf .f32 (x3 m c) bitsLt_bf16_f32)) (constant (F := Ideal) S_ .f32 0xFF800000#32) reducesTo_S16x4x896_S16x4_d2 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  obtain ⟨h0, h1, h2, h3, h4, h5, h6, hargs⟩ := h c
  refine ⟨h0.trans ((val_main_v101_eq _).trans ?_), h1.trans ((val_main_v102_eq _).trans ?_), h2.trans ((val_main_v92_eq _).trans ?_), h3.trans ((val_main_v93_eq _).trans ?_),
    h4.trans ((val_main_v105_eq _).trans ?_), h5, h6, hargs⟩
  · rw [exit_main_arg0, exit_main_arg1, exit_main_arg2, exit_main_arg5, exit_main_v16, exit_main_v14]
  · rw [exit_main_arg0, exit_main_arg1, exit_main_arg2, exit_main_arg5, exit_main_v16, exit_main_v14]
  · rw [exit_main_arg0, exit_main_arg1, exit_main_arg2, exit_main_arg5, exit_main_arg6, exit_main_v16, exit_main_v14]
  · rw [exit_main_arg0, exit_main_arg1, exit_main_arg2, exit_main_arg5, exit_main_arg6, exit_main_arg7, exit_main_v16, exit_main_v14]
  · rw [exit_main_arg0, exit_main_arg1, exit_main_arg2]

end Cert.ReferenceIdeal.Hand
end
-- ==== Proof.Equal.lean ====
module

public import proofs.«01_k».proof.Proof.KVal
public import proofs.«01_k».proof.Proof.RRun
public import proofs.«01_k».proof.Defs

@[expose] public section

set_option maxRecDepth 16384

noncomputable section

/-! # The kernel's results are the reference's -/

namespace Cert.Equal

open Idealize.ShloMosaic Idealize.ShloMosaic.TcCoe Cert.Soft
open Cert.ReferenceIdeal.Read Cert.ReferenceIdeal.Value

abbrev K := (ℓ : Loc Cert.KernelIdeal.nD Cert.KernelIdeal.τ Cert.KernelIdeal.sig) → Buf (Elt Ideal) ℓ
abbrev R := (ℓ : Loc Cert.ReferenceIdeal.nD Cert.ReferenceIdeal.τ Cert.ReferenceIdeal.sig) → Buf (Elt Ideal) ℓ

/-- The two memories hold the same arguments. -/
structure Same (m : K) (m' : R) (c : Dev Cert.KernelIdeal.nD) : Prop where
  a0 : ∀ i j k, Cert.ReferenceIdeal.Hand.x0 m' c (ix3 i j k) = Cert.KernelIdeal.Hand.x0 m c (ix3 i j k)
  a1 : ∀ i j, Cert.ReferenceIdeal.Hand.x1 m' c (ix2 i j) = Cert.KernelIdeal.Hand.x1 m c (ix2 i j)
  a2 : ∀ i j, Cert.ReferenceIdeal.Hand.x2 m' c (ix2 i j) = Cert.KernelIdeal.Hand.x2 m c (ix2 i j)
  a3 : ∀ i j k, Cert.ReferenceIdeal.Hand.x3 m' c (ix3 i j k) = Cert.KernelIdeal.Hand.x3 m c (ix3 i j k)
  a4 : ∀ i j, Cert.ReferenceIdeal.Hand.x4 m' c (ix2 i j) = Cert.KernelIdeal.Hand.x4 m c (ix2 i j)
  a5 : ∀ i, Cert.ReferenceIdeal.Hand.x5 m' c (ix1 i) = Cert.KernelIdeal.Hand.x5 m c (ix1 i)
  a6 : ∀ i j, Cert.ReferenceIdeal.Hand.x6 m' c (ix2 i j) = Cert.KernelIdeal.Hand.x6 m c (ix2 i j)
  a7 : ∀ i j, Cert.ReferenceIdeal.Hand.x7 m' c (ix2 i j) = Cert.KernelIdeal.Hand.x7 m c (ix2 i j)
  a8 : ∀ i, Cert.ReferenceIdeal.Hand.x8 m' c (ix1 i) = Cert.KernelIdeal.Hand.x8 m c (ix1 i)

variable {m : K} {m' : R} {c : Dev Cert.KernelIdeal.nD} (h : Same m m' c)
include h

theorem target_eq (b : Fin 16) (s : Fin 5) : Cert.ReferenceIdeal.Hand.targetRow m' c b s = Cert.KernelIdeal.Hand.targetRow m c b s := by
  unfold Cert.ReferenceIdeal.Hand.targetRow Cert.KernelIdeal.Hand.targetRow
  exact congr (congr (congrArg logitT (funext fun k => h.a0 b s k)) (funext fun k => funext fun v => h.a1 k v)) (funext fun k => funext fun v => h.a2 k v)
theorem draft_eq (b : Fin 16) (s : Fin 4) : Cert.ReferenceIdeal.Hand.draftRow m' c b s = Cert.KernelIdeal.Hand.draftRow m c b s := by
  unfold Cert.ReferenceIdeal.Hand.draftRow Cert.KernelIdeal.Hand.draftRow
  exact congr (congr (congr (congrArg logitD (h.a8 0)) (funext fun k => h.a3 b s k)) (funext fun k => funext fun v => h.a4 k v)) (funext fun v => h.a5 v)

theorem eq0 : val_main_v101 (Cert.ReferenceIdeal.Hand.x0 m' c) (Cert.ReferenceIdeal.Hand.x1 m' c) (Cert.ReferenceIdeal.Hand.x2 m' c) (Cert.ReferenceIdeal.Hand.x5 m' c) (reg_main_v16 m' c) (Cert.ReferenceIdeal.Hand.scale m' c)
    = Cert.KernelIdeal.Hand.U6 m c Cert.KernelIdeal.main_v22 := by
  funext i
  obtain ⟨b, s, v, rfl⟩ : ∃ b s v, i = ix3 b s v := ⟨i 0, i 1, i 2, eq_ix3 i⟩
  exact (Cert.ReferenceIdeal.Hand.res0 m' c b s v).trans ((by rw [target_eq h, draft_eq h] : _ = _).trans (Cert.KernelIdeal.Hand.out0 m c b s v).symm)
theorem eq1 : val_main_v102 (Cert.ReferenceIdeal.Hand.x0 m' c) (Cert.ReferenceIdeal.Hand.x1 m' c) (Cert.ReferenceIdeal.Hand.x2 m' c) (Cert.ReferenceIdeal.Hand.x5 m' c) (reg_main_v16 m' c) (Cert.ReferenceIdeal.Hand.scale m' c)
    = Cert.KernelIdeal.Hand.U6 m c Cert.KernelIdeal.main_v27 := by
  funext i
  obtain ⟨b, s, rfl⟩ : ∃ b s, i = ix2 b s := ⟨i 0, i 1, eq_ix2 i⟩
  exact (Cert.ReferenceIdeal.Hand.res1 m' c b s).trans ((by rw [target_eq h, draft_eq h] : _ = _).trans (Cert.KernelIdeal.Hand.out1 m c b s).symm)
theorem eq2 : val_main_v92 (Cert.ReferenceIdeal.Hand.x0 m' c) (Cert.ReferenceIdeal.Hand.x1 m' c) (Cert.ReferenceIdeal.Hand.x2 m' c) (Cert.ReferenceIdeal.Hand.x5 m' c) (Cert.ReferenceIdeal.Hand.x6 m' c) (reg_main_v16 m' c) (Cert.ReferenceIdeal.Hand.scale m' c)
    = Cert.KernelIdeal.Hand.U6 m c Cert.KernelIdeal.main_v20 := by
  funext i
  obtain ⟨b, s, rfl⟩ : ∃ b s, i = ix2 b s := ⟨i 0, i 1, eq_ix2 i⟩
  exact (Cert.ReferenceIdeal.Hand.res2 m' c b s).trans ((by rw [target_eq h, draft_eq h, h.a6] : _ = _).trans (Cert.KernelIdeal.Hand.out2 m c b s).symm)
theorem eq3 : val_main_v93 (Cert.ReferenceIdeal.Hand.x0 m' c) (Cert.ReferenceIdeal.Hand.x1 m' c) (Cert.ReferenceIdeal.Hand.x2 m' c) (Cert.ReferenceIdeal.Hand.x5 m' c) (Cert.ReferenceIdeal.Hand.x6 m' c) (Cert.ReferenceIdeal.Hand.x7 m' c) (reg_main_v16 m' c) (Cert.ReferenceIdeal.Hand.scale m' c)
    = Cert.KernelIdeal.Hand.U6 m c Cert.KernelIdeal.main_v28 := by
  funext i
  obtain ⟨b, s, rfl⟩ : ∃ b s, i = ix2 b s := ⟨i 0, i 1, eq_ix2 i⟩
  exact (Cert.ReferenceIdeal.Hand.res3 m' c b s).trans ((by rw [target_eq h, draft_eq h, h.a6, h.a7] : _ = _).trans (Cert.KernelIdeal.Hand.out3 m c b s).symm)
theorem eq4 : val_main_v105 (Cert.ReferenceIdeal.Hand.x0 m' c) (Cert.ReferenceIdeal.Hand.x1 m' c) (Cert.ReferenceIdeal.Hand.x2 m' c) = Cert.KernelIdeal.Hand.U6 m c Cert.KernelIdeal.main_v9_1 := by
  funext i
  obtain ⟨b, v, rfl⟩ : ∃ b v, i = ix2 b v := ⟨i 0, i 1, eq_ix2 i⟩
  exact (Cert.ReferenceIdeal.Hand.res4 m' c b v).trans ((by rw [target_eq h] : _ = _).trans (Cert.KernelIdeal.Hand.out4 m c b v).symm)
theorem eq5 : Cert.ReferenceIdeal.Hand.codes m' c = Cert.KernelIdeal.Hand.U6 m c Cert.KernelIdeal.main_v30 := by
  funext i
  obtain ⟨b, s, j, rfl⟩ : ∃ b s j, i = ix3 b s j := ⟨i 0, i 1, i 2, eq_ix3 i⟩
  exact (Cert.ReferenceIdeal.Hand.codesOf_apply (Cert.ReferenceIdeal.Hand.x3 m' c) (Cert.ReferenceIdeal.Hand.x8 m' c) b s j).trans ((by rw [h.a8, h.a3] : _ = _).trans (Cert.KernelIdeal.Hand.out5 m c b s j).symm)
theorem eq6 : Host.reduce (FloatOps.maximumf (F := Ideal) (φ := .f32)) (Host.absf (F := Ideal) (extf .f32 (Cert.ReferenceIdeal.Hand.x3 m' c) Cert.ReferenceIdeal.Gen.facts.bitsLt_bf16_f32)) (constant (F := Ideal) Cert.ReferenceIdeal.S_ .f32 0xFF800000#32)
    Cert.ReferenceIdeal.Gen.reducesTo_S16x4x896_S16x4_d2 Cert.ReferenceIdeal.Gen.h_S_ = Cert.KernelIdeal.Hand.U6 m c Cert.KernelIdeal.main_v34 := by
  funext i
  obtain ⟨b, s, rfl⟩ : ∃ b s, i = ix2 b s := ⟨i 0, i 1, eq_ix2 i⟩
  exact (Cert.ReferenceIdeal.Hand.amax_at (Cert.ReferenceIdeal.Hand.x3 m' c) b s).trans ((congrArg amax (funext fun j => h.a3 b s j)).trans (Cert.KernelIdeal.Hand.out6 m c b s).symm)

end Cert.Equal
end
-- ==== Proof.Bits.Payloads.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

theorem inb64 (a : Fin S64x1.rank) : S64x1.size a ≤ S64x128.size a := by revert a; decide
theorem inb80_64 (a : Fin S64x1.rank) : S64x1.size a ≤ S80x128.size a := by revert a; decide
theorem inb80 (a : Fin S80x1.rank) : S80x1.size a ≤ S80x128.size a := by revert a; decide

/-- The one word of the exponent's buffer. -/
def word0 (x0 : Vec F S1 .i32) : Elt F .i32 := x0 (fun a => ⟨0, by revert a; decide⟩)
/-- A tile of the target head's logits. -/
def lt0 (x1 : Vec F S80x2304 .bf16) (x2 : Vec F S1152x768 .i8) (x3 : Vec F S18x768 .f32) : Vec F S80x768 .f32 :=
  k0_pay12 (k0_pay10 x2 x3) (k0_pay11 x1) (constant S80x768 .f32 0x00000000#32)
/-- A tile of the draft head's logits, from the quantised activations. -/
def ld0 (e : Elt F .i32) (q : Vec F S64x896 .fp8e4m3) (x5 : Vec F S896x768 .fp8e4m3) (x6 : Vec F S1x768 .f32) : Vec F S64x768 .f32 :=
  k0_pay9 e q x5 x6
/-- The running maximum of the target head after a tile. -/
def mt0 (x1 : Vec F S80x2304 .bf16) (x2 : Vec F S1152x768 .i8) (x3 : Vec F S18x768 .f32) (o9 : Vec F S80x128 .f32) : Vec F S80x128 .f32 :=
  k0_pay14 (k0_pay10 x2 x3) (k0_pay11 x1) (constant S80x768 .f32 0x00000000#32) o9
/-- The running sum of exponentials of the target head after a tile. -/
def st0 (x1 : Vec F S80x2304 .bf16) (x2 : Vec F S1152x768 .i8) (x3 : Vec F S18x768 .f32) (o9 o10 : Vec F S80x128 .f32) : Vec F S80x128 .f32 :=
  k0_pay15 (k0_pay10 x2 x3) (k0_pay11 x1) (constant S80x768 .f32 0x00000000#32) o9 o10
/-- The running maximum of the draft head after a tile. -/
def md0 (l : Vec F S64x768 .f32) (o11 : Vec F S64x128 .f32) : Vec F S64x128 .f32 := k0_pay17 l o11
/-- The running sum of exponentials of the draft head after a tile. -/
def sd0 (l : Vec F S64x768 .f32) (o11 o12 : Vec F S64x128 .f32) : Vec F S64x128 .f32 :=
  k0_pay1 (k0_pay18 l o11) (k0_pay19 o12) (k0_pay20 l o11)

/-- The first column of a 64-row accumulator. -/
def col64 (x : Vec F S64x128 .f32) : Vec F S64x1 .f32 := fun y => x (fun a => Fin.castLE (inb64 a) (y a))
/-- The first column of the first 64 rows of an 80-row accumulator. -/
def col80_64 (x : Vec F S80x128 .f32) : Vec F S64x1 .f32 := fun y => x (fun a => Fin.castLE (inb80_64 a) (y a))
/-- The residual mass after a tile. -/
def z1 (x0 x1 : Vec F S64x768 .f32) (x2 x3 : Vec F S80x128 .f32) (x4 x5 o6 : Vec F S64x128 .f32) : Vec F S64x128 .f32 :=
  k1_pay2 x0 (col80_64 x2) (col80_64 x3) x1 (col64 x4) (col64 x5) o6

/-- The first column of an 80-row accumulator. -/
def col80 (x : Vec F S80x128 .f32) : Vec F S80x1 .f32 := fun y => x (fun a => Fin.castLE (inb80 a) (y a))
/-- A tile of the residual distribution. -/
def resid2 (x0 : Vec F S80x768 .f32) (x1 : Vec F S64x768 .f32) (x2 x3 : Vec F S80x128 .f32) (x4 x5 x6 : Vec F S64x128 .f32) : Vec F S64x768 .bf16 :=
  k2_pay10 x0 (col80 x2) (col80 x3) x1 (col64 x4) (col64 x5) (col64 x6)
/-- A tile of the bonus distribution. -/
def bonus2 (x0 : Vec F S80x768 .f32) (x2 x3 : Vec F S80x128 .f32) : Vec F S16x768 .bf16 := k2_pay8 x0 (col80 x2) (col80 x3)
/-- The target probability of the drafted token after a tile. -/
def ptx2 (n : BitVec 32) (x0 : Vec F S80x768 .f32) (x2 x3 : Vec F S80x128 .f32) (x7 : Vec F S64x1 .i32) (o : Vec F S64x128 .f32) : Vec F S64x128 .f32 :=
  k2_pay2 n (k2_pay9 x0 (col80 x2) (col80 x3)) x7 o
/-- The draft probability of the drafted token after a tile. -/
def pdx2 (n : BitVec 32) (x1 : Vec F S64x768 .f32) (x4 x5 : Vec F S64x128 .f32) (x7 : Vec F S64x1 .i32) (o : Vec F S64x128 .f32) : Vec F S64x128 .f32 :=
  k2_pay3 n (k2_pay7 x1 (col64 x4) (col64 x5)) x7 o

/-! ## Loads and stores of whole buffers read back -/

section
variable {κ : Kind} {sp : Space} {e : EltTy}

theorem readAt_l128 (v : View sig κ sp S64x128 e) (f : v.ty.Contents (Elt F)) (inb : ∀ a, (![0, 0] : Fin 2 → ℕ) a + (![64, 128] : Fin 2 → ℕ) a ≤ S64x128.size a) :
    v.readAt (Elt F) (Rect.unit (s := S64x128) ![0, 0] ![64, 128] inb).toLoadRect f = v.read (Elt F) f := View.readAt_full v f inb
theorem readAt_l1 (v : View sig κ sp S64x1 e) (f : v.ty.Contents (Elt F)) (inb : ∀ a, (![0, 0] : Fin 2 → ℕ) a + (![64, 1] : Fin 2 → ℕ) a ≤ S64x1.size a) :
    v.readAt (Elt F) (Rect.unit (s := S64x1) ![0, 0] ![64, 1] inb).toLoadRect f = v.read (Elt F) f := View.readAt_full v f inb
theorem readCov_l128 (v : View sig κ sp S64x128 e) (inb : ∀ a, (![0, 0] : Fin 2 → ℕ) a + (![64, 128] : Fin 2 → ℕ) a ≤ S64x128.size a)
    (inb' : ∀ a, (![0, 0] : Fin 2 → ℕ) a + S64x128.size a ≤ S64x128.size a) (w : S64x128.Idx → Elt F e) (L : List (View.Piece (Elt F) S64x128 e)) :
    v.readCov (⟨Rect.unit (s := S64x128) ![0, 0] S64x128.size inb', w⟩ :: L) (Rect.unit (s := S64x128) ![0, 0] ![64, 128] inb).toLoadRect = w :=
  View.readCov_full v inb inb' w L
/-- A load of the first column of a buffer. -/
theorem read_col64 (m : Memref sig κ sp S64x128 .f32) (h : m.IsWhole) (x : Vec F S64x128 .f32) (inb : ∀ a, (![0, 0] : Fin 2 → ℕ) a + S64x1.size a ≤ S64x128.size a) :
    m.view.readAt (Elt F) (Rect.unit (s := S64x128) ![0, 0] S64x1.size inb).toLoadRect (h.unread x) = col64 x := by
  funext y
  rw [View.readAt_eq_ld, h.read_unread]
  exact congrArg x (funext fun a => Fin.ext (by fin_cases a <;> (show 0 + 1 * _ = _; rw [Nat.zero_add, Nat.one_mul]; rfl)))
theorem read_col80_64 (m : Memref sig κ sp S80x128 .f32) (h : m.IsWhole) (x : Vec F S80x128 .f32) (inb : ∀ a, (![0, 0] : Fin 2 → ℕ) a + S64x1.size a ≤ S80x128.size a) :
    m.view.readAt (Elt F) (Rect.unit (s := S80x128) ![0, 0] S64x1.size inb).toLoadRect (h.unread x) = col80_64 x := by
  funext y
  rw [View.readAt_eq_ld, h.read_unread]
  exact congrArg x (funext fun a => Fin.ext (by fin_cases a <;> (show 0 + 1 * _ = _; rw [Nat.zero_add, Nat.one_mul]; rfl)))
theorem read_col80 (m : Memref sig κ sp S80x128 .f32) (h : m.IsWhole) (x : Vec F S80x128 .f32) (inb : ∀ a, (![0, 0] : Fin 2 → ℕ) a + S80x1.size a ≤ S80x128.size a) :
    m.view.readAt (Elt F) (Rect.unit (s := S80x128) ![0, 0] S80x1.size inb).toLoadRect (h.unread x) = col80 x := by
  funext y
  rw [View.readAt_eq_ld, h.read_unread]
  exact congrArg x (funext fun a => Fin.ext (by fin_cases a <;> (show 0 + 1 * _ = _; rw [Nat.zero_add, Nat.one_mul]; rfl)))
/-- The one word of the exponent's buffer, as the load finds it. -/
theorem read_word (m : Memref sig κ sp S1 .i32) (h : m.IsWhole) (x : Vec F S1 .i32) (inb : ∀ a, (![0] : Fin 1 → ℕ) a + S1.size a ≤ S1.size a)
    (y : (Rect.unit (s := S1) ![0] S1.size inb).toLoadRect.shape.Idx) :
    m.view.readAt (Elt F) (Rect.unit (s := S1) ![0] S1.size inb).toLoadRect (h.unread x) y = word0 x := by
  rw [View.readAt_full, h.read_unread]
  exact congrArg x (funext fun a => Fin.ext (by
    have h1 : (y a).val < 1 := lt_of_lt_of_eq (y a).isLt (by fin_cases a; rfl)
    show (y a).val = 0
    omega))
end

/-! The same with the sizes written out. -/
section
variable {κ : Kind} {sp : Space} {e : EltTy}
theorem readAt_S80x2304 (v : View sig κ sp S80x2304 e) (f : v.ty.Contents (Elt F)) (inb : ∀ a, (![0, 0] : Fin 2 → ℕ) a + (![80, 2304] : Fin 2 → ℕ) a ≤ S80x2304.size a) :
    v.readAt (Elt F) (Rect.unit (s := S80x2304) ![0, 0] ![80, 2304] inb).toLoadRect f = v.read (Elt F) f := View.readAt_full v f inb
theorem readAt_S1152x768 (v : View sig κ sp S1152x768 e) (f : v.ty.Contents (Elt F)) (inb : ∀ a, (![0, 0] : Fin 2 → ℕ) a + (![1152, 768] : Fin 2 → ℕ) a ≤ S1152x768.size a) :
    v.readAt (Elt F) (Rect.unit (s := S1152x768) ![0, 0] ![1152, 768] inb).toLoadRect f = v.read (Elt F) f := View.readAt_full v f inb
theorem readAt_S18x768 (v : View sig κ sp S18x768 e) (f : v.ty.Contents (Elt F)) (inb : ∀ a, (![0, 0] : Fin 2 → ℕ) a + (![18, 768] : Fin 2 → ℕ) a ≤ S18x768.size a) :
    v.readAt (Elt F) (Rect.unit (s := S18x768) ![0, 0] ![18, 768] inb).toLoadRect f = v.read (Elt F) f := View.readAt_full v f inb
theorem readAt_S64x896 (v : View sig κ sp S64x896 e) (f : v.ty.Contents (Elt F)) (inb : ∀ a, (![0, 0] : Fin 2 → ℕ) a + (![64, 896] : Fin 2 → ℕ) a ≤ S64x896.size a) :
    v.readAt (Elt F) (Rect.unit (s := S64x896) ![0, 0] ![64, 896] inb).toLoadRect f = v.read (Elt F) f := View.readAt_full v f inb
theorem readAt_S896x768 (v : View sig κ sp S896x768 e) (f : v.ty.Contents (Elt F)) (inb : ∀ a, (![0, 0] : Fin 2 → ℕ) a + (![896, 768] : Fin 2 → ℕ) a ≤ S896x768.size a) :
    v.readAt (Elt F) (Rect.unit (s := S896x768) ![0, 0] ![896, 768] inb).toLoadRect f = v.read (Elt F) f := View.readAt_full v f inb
theorem readAt_S1x768 (v : View sig κ sp S1x768 e) (f : v.ty.Contents (Elt F)) (inb : ∀ a, (![0, 0] : Fin 2 → ℕ) a + (![1, 768] : Fin 2 → ℕ) a ≤ S1x768.size a) :
    v.readAt (Elt F) (Rect.unit (s := S1x768) ![0, 0] ![1, 768] inb).toLoadRect f = v.read (Elt F) f := View.readAt_full v f inb
theorem readAt_S80x768 (v : View sig κ sp S80x768 e) (f : v.ty.Contents (Elt F)) (inb : ∀ a, (![0, 0] : Fin 2 → ℕ) a + (![80, 768] : Fin 2 → ℕ) a ≤ S80x768.size a) :
    v.readAt (Elt F) (Rect.unit (s := S80x768) ![0, 0] ![80, 768] inb).toLoadRect f = v.read (Elt F) f := View.readAt_full v f inb
theorem readAt_S64x768 (v : View sig κ sp S64x768 e) (f : v.ty.Contents (Elt F)) (inb : ∀ a, (![0, 0] : Fin 2 → ℕ) a + (![64, 768] : Fin 2 → ℕ) a ≤ S64x768.size a) :
    v.readAt (Elt F) (Rect.unit (s := S64x768) ![0, 0] ![64, 768] inb).toLoadRect f = v.read (Elt F) f := View.readAt_full v f inb
theorem readAt_S80x128 (v : View sig κ sp S80x128 e) (f : v.ty.Contents (Elt F)) (inb : ∀ a, (![0, 0] : Fin 2 → ℕ) a + (![80, 128] : Fin 2 → ℕ) a ≤ S80x128.size a) :
    v.readAt (Elt F) (Rect.unit (s := S80x128) ![0, 0] ![80, 128] inb).toLoadRect f = v.read (Elt F) f := View.readAt_full v f inb
theorem readAt_S16x768 (v : View sig κ sp S16x768 e) (f : v.ty.Contents (Elt F)) (inb : ∀ a, (![0, 0] : Fin 2 → ℕ) a + (![16, 768] : Fin 2 → ℕ) a ≤ S16x768.size a) :
    v.readAt (Elt F) (Rect.unit (s := S16x768) ![0, 0] ![16, 768] inb).toLoadRect f = v.read (Elt F) f := View.readAt_full v f inb
theorem readCov_S64x128_0 (v : View sig κ sp S64x128 e) (inb : ∀ a, (![0, 0] : Fin 2 → ℕ) a + (![64, 128] : Fin 2 → ℕ) a ≤ S64x128.size a)
    (inb' : ∀ a, (![0, 0] : Fin 2 → ℕ) a + (![64, 128] : Fin 2 → ℕ) a ≤ S64x128.size a) (w : (Rect.unit (s := S64x128) ![0, 0] ![64, 128] inb').shape.Idx → Elt F e) (L : List (View.Piece (Elt F) S64x128 e)) :
    v.readCov (⟨Rect.unit (s := S64x128) ![0, 0] ![64, 128] inb', w⟩ :: L) (Rect.unit (s := S64x128) ![0, 0] ![64, 128] inb).toLoadRect = w :=
  View.readCov_full v inb inb' w L
theorem readCov_S64x128_1 (v : View sig κ sp S64x128 e) (inb : ∀ a, (![0, 0] : Fin 2 → ℕ) a + (![64, 128] : Fin 2 → ℕ) a ≤ S64x128.size a)
    (inb' : ∀ a, (![0, 0] : Fin 2 → ℕ) a + (S64x128.size : Fin 2 → ℕ) a ≤ S64x128.size a) (w : (Rect.unit (s := S64x128) ![0, 0] S64x128.size inb').shape.Idx → Elt F e) (L : List (View.Piece (Elt F) S64x128 e)) :
    v.readCov (⟨Rect.unit (s := S64x128) ![0, 0] S64x128.size inb', w⟩ :: L) (Rect.unit (s := S64x128) ![0, 0] ![64, 128] inb).toLoadRect = w :=
  View.readCov_full v inb inb' w L
theorem readCov_S64x128_2 (v : View sig κ sp S64x128 e) (inb : ∀ a, (![0, 0] : Fin 2 → ℕ) a + (S64x128.size : Fin 2 → ℕ) a ≤ S64x128.size a)
    (inb' : ∀ a, (![0, 0] : Fin 2 → ℕ) a + (![64, 128] : Fin 2 → ℕ) a ≤ S64x128.size a) (w : (Rect.unit (s := S64x128) ![0, 0] ![64, 128] inb').shape.Idx → Elt F e) (L : List (View.Piece (Elt F) S64x128 e)) :
    v.readCov (⟨Rect.unit (s := S64x128) ![0, 0] ![64, 128] inb', w⟩ :: L) (Rect.unit (s := S64x128) ![0, 0] S64x128.size inb).toLoadRect = w :=
  View.readCov_full v inb inb' w L
theorem readCov_S80x128_0 (v : View sig κ sp S80x128 e) (inb : ∀ a, (![0, 0] : Fin 2 → ℕ) a + (![80, 128] : Fin 2 → ℕ) a ≤ S80x128.size a)
    (inb' : ∀ a, (![0, 0] : Fin 2 → ℕ) a + (![80, 128] : Fin 2 → ℕ) a ≤ S80x128.size a) (w : (Rect.unit (s := S80x128) ![0, 0] ![80, 128] inb').shape.Idx → Elt F e) (L : List (View.Piece (Elt F) S80x128 e)) :
    v.readCov (⟨Rect.unit (s := S80x128) ![0, 0] ![80, 128] inb', w⟩ :: L) (Rect.unit (s := S80x128) ![0, 0] ![80, 128] inb).toLoadRect = w :=
  View.readCov_full v inb inb' w L
theorem readCov_S80x128_1 (v : View sig κ sp S80x128 e) (inb : ∀ a, (![0, 0] : Fin 2 → ℕ) a + (![80, 128] : Fin 2 → ℕ) a ≤ S80x128.size a)
    (inb' : ∀ a, (![0, 0] : Fin 2 → ℕ) a + (S80x128.size : Fin 2 → ℕ) a ≤ S80x128.size a) (w : (Rect.unit (s := S80x128) ![0, 0] S80x128.size inb').shape.Idx → Elt F e) (L : List (View.Piece (Elt F) S80x128 e)) :
    v.readCov (⟨Rect.unit (s := S80x128) ![0, 0] S80x128.size inb', w⟩ :: L) (Rect.unit (s := S80x128) ![0, 0] ![80, 128] inb).toLoadRect = w :=
  View.readCov_full v inb inb' w L
theorem readCov_S80x128_2 (v : View sig κ sp S80x128 e) (inb : ∀ a, (![0, 0] : Fin 2 → ℕ) a + (S80x128.size : Fin 2 → ℕ) a ≤ S80x128.size a)
    (inb' : ∀ a, (![0, 0] : Fin 2 → ℕ) a + (![80, 128] : Fin 2 → ℕ) a ≤ S80x128.size a) (w : (Rect.unit (s := S80x128) ![0, 0] ![80, 128] inb').shape.Idx → Elt F e) (L : List (View.Piece (Elt F) S80x128 e)) :
    v.readCov (⟨Rect.unit (s := S80x128) ![0, 0] ![80, 128] inb', w⟩ :: L) (Rect.unit (s := S80x128) ![0, 0] S80x128.size inb).toLoadRect = w :=
  View.readCov_full v inb inb' w L
theorem readCov_S64x896_0 (v : View sig κ sp S64x896 e) (inb : ∀ a, (![0, 0] : Fin 2 → ℕ) a + (![64, 896] : Fin 2 → ℕ) a ≤ S64x896.size a)
    (inb' : ∀ a, (![0, 0] : Fin 2 → ℕ) a + (![64, 896] : Fin 2 → ℕ) a ≤ S64x896.size a) (w : (Rect.unit (s := S64x896) ![0, 0] ![64, 896] inb').shape.Idx → Elt F e) (L : List (View.Piece (Elt F) S64x896 e)) :
    v.readCov (⟨Rect.unit (s := S64x896) ![0, 0] ![64, 896] inb', w⟩ :: L) (Rect.unit (s := S64x896) ![0, 0] ![64, 896] inb).toLoadRect = w :=
  View.readCov_full v inb inb' w L
theorem readCov_S64x896_1 (v : View sig κ sp S64x896 e) (inb : ∀ a, (![0, 0] : Fin 2 → ℕ) a + (![64, 896] : Fin 2 → ℕ) a ≤ S64x896.size a)
    (inb' : ∀ a, (![0, 0] : Fin 2 → ℕ) a + (S64x896.size : Fin 2 → ℕ) a ≤ S64x896.size a) (w : (Rect.unit (s := S64x896) ![0, 0] S64x896.size inb').shape.Idx → Elt F e) (L : List (View.Piece (Elt F) S64x896 e)) :
    v.readCov (⟨Rect.unit (s := S64x896) ![0, 0] S64x896.size inb', w⟩ :: L) (Rect.unit (s := S64x896) ![0, 0] ![64, 896] inb).toLoadRect = w :=
  View.readCov_full v inb inb' w L
theorem readCov_S64x896_2 (v : View sig κ sp S64x896 e) (inb : ∀ a, (![0, 0] : Fin 2 → ℕ) a + (S64x896.size : Fin 2 → ℕ) a ≤ S64x896.size a)
    (inb' : ∀ a, (![0, 0] : Fin 2 → ℕ) a + (![64, 896] : Fin 2 → ℕ) a ≤ S64x896.size a) (w : (Rect.unit (s := S64x896) ![0, 0] ![64, 896] inb').shape.Idx → Elt F e) (L : List (View.Piece (Elt F) S64x896 e)) :
    v.readCov (⟨Rect.unit (s := S64x896) ![0, 0] ![64, 896] inb', w⟩ :: L) (Rect.unit (s := S64x896) ![0, 0] S64x896.size inb).toLoadRect = w :=
  View.readCov_full v inb inb' w L
theorem read_col64_lit (m : Memref sig κ sp S64x128 .f32) (h : m.IsWhole) (x : Vec F S64x128 .f32) (inb : ∀ a, (![0, 0] : Fin 2 → ℕ) a + (![64, 1] : Fin 2 → ℕ) a ≤ S64x128.size a) :
    m.view.readAt (Elt F) (Rect.unit (s := S64x128) ![0, 0] ![64, 1] inb).toLoadRect (h.unread x) = col64 x := read_col64 m h x inb
theorem read_col80_64_lit (m : Memref sig κ sp S80x128 .f32) (h : m.IsWhole) (x : Vec F S80x128 .f32) (inb : ∀ a, (![0, 0] : Fin 2 → ℕ) a + (![64, 1] : Fin 2 → ℕ) a ≤ S80x128.size a) :
    m.view.readAt (Elt F) (Rect.unit (s := S80x128) ![0, 0] ![64, 1] inb).toLoadRect (h.unread x) = col80_64 x := read_col80_64 m h x inb
theorem read_col80_lit (m : Memref sig κ sp S80x128 .f32) (h : m.IsWhole) (x : Vec F S80x128 .f32) (inb : ∀ a, (![0, 0] : Fin 2 → ℕ) a + (![80, 1] : Fin 2 → ℕ) a ≤ S80x128.size a) :
    m.view.readAt (Elt F) (Rect.unit (s := S80x128) ![0, 0] ![80, 1] inb).toLoadRect (h.unread x) = col80 x := read_col80 m h x inb
theorem read_word_lit (m : Memref sig κ sp S1 .i32) (h : m.IsWhole) (x : Vec F S1 .i32) (inb : ∀ a, (![0] : Fin 1 → ℕ) a + (![1] : Fin 1 → ℕ) a ≤ S1.size a)
    (y : (Rect.unit (s := S1) ![0] ![1] inb).toLoadRect.shape.Idx) :
    m.view.readAt (Elt F) (Rect.unit (s := S1) ![0] ![1] inb).toLoadRect (h.unread x) y = word0 x := read_word m h x inb y
end

/-- The condition of the body's conditional, from the grid coordinate. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 167 = 0 :=
  (fun t => by
    have ht : t.val < 167 := Nat.lt_of_lt_of_eq t.isLt N_0
    have e0 : (grid0.coords t 0).val = t.val / 1 % 167 := Pipeline.Grid.coords_val t 0 (by decide) rfl
    simp only [cond0, e0]
    word_cmp
   : ∀ t : Fin grid0.N, cond0 (grid0.coords t) ↔ t.val % 167 = 0)

/-- The condition of the body's conditional, from the grid coordinate. -/
abbrev cond1 (i : grid1.Coords) : Prop := (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val % 167 = 0 :=
  (fun t => by
    have ht : t.val < 167 := Nat.lt_of_lt_of_eq t.isLt N_1
    have e0 : (grid1.coords t 0).val = t.val / 1 % 167 := Pipeline.Grid.coords_val t 0 (by decide) rfl
    simp only [cond1, e0]
    word_cmp
   : ∀ t : Fin grid1.N, cond1 (grid1.coords t) ↔ t.val % 167 = 0)

/-- The condition of the body's conditional, from the grid coordinate. -/
abbrev cond2 (i : grid2.Coords) : Prop := (Scalar.cmpi .ne (Scalar.extui (Scalar.cmpi .eq (BitVec.ofNat 32 (i 0).val) 0#32)) 0#32) = 1#1
/-- It holds at the first point only. -/
theorem hcond2 : ∀ t : Fin cfg2.N, cond2 (grid2.coords t) ↔ t.val % 167 = 0 :=
  (fun t => by
    have ht : t.val < 167 := Nat.lt_of_lt_of_eq t.isLt N_2
    have e0 : (grid2.coords t 0).val = t.val / 1 % 167 := Pipeline.Grid.coords_val t 0 (by decide) rfl
    simp only [cond2, e0]
    word_cmp
   : ∀ t : Fin grid2.N, cond2 (grid2.coords t) ↔ t.val % 167 = 0)

end Cert.Kernel.Hand

end
-- ==== Proof.Bits.Run0A.lean ====
module

public import proofs.«01_k».proof.Proof.Bits.Payloads

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- What the body leaves in the first point: its inputs as they were, its outputs at the named values. -/
theorem run0_A (c : Dev nD) (i : grid0.Coords) (arg1 : Memref sig .tc .smem S1 .i32) (harg1 : arg1.IsWhole) (arg2 : Memref sig .tc .vmem S80x2304 .bf16) (harg2 : arg2.IsWhole) (arg3 : Memref sig .tc .vmem S1152x768 .i8) (harg3 : arg3.IsWhole) (arg4 : Memref sig .tc .vmem S18x768 .f32) (harg4 : arg4.IsWhole) (arg5 : Memref sig .tc .vmem S64x896 .bf16) (harg5 : arg5.IsWhole) (arg6 : Memref sig .tc .vmem S896x768 .fp8e4m3) (harg6 : arg6.IsWhole) (arg7 : Memref sig .tc .vmem S1x768 .f32) (harg7 : arg7.IsWhole) (arg8 : Memref sig .tc .vmem S80x768 .f32) (harg8 : arg8.IsWhole) (arg9 : Memref sig .tc .vmem S64x768 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x896 .fp8e4m3) (harg14 : arg14.IsWhole) (arg15 : Memref sig .tc .vmem S64x128 .f32) (harg15 : arg15.IsWhole) (hc0 : cond0 i)
    (x0 : Vec F S1 .i32) (x1 : Vec F S80x2304 .bf16) (x2 : Vec F S1152x768 .i8) (x3 : Vec F S18x768 .f32) (x4 : Vec F S64x896 .bf16) (x5 : Vec F S896x768 .fp8e4m3) (x6 : Vec F S1x768 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (lt0 x1 x2 x3) ∗ owns (c : Thread nD τ) arg9 fullShare (ld0 (word0 x0) (k0_pay4 (word0 x0) x4) x5 x6) ∗ owns (c : Thread nD τ) arg10 fullShare (mt0 x1 x2 x3 k0_pay5) ∗ owns (c : Thread nD τ) arg11 fullShare (st0 x1 x2 x3 k0_pay5 k0_pay7) ∗ owns (c : Thread nD τ) arg12 fullShare (md0 (ld0 (word0 x0) (k0_pay4 (word0 x0) x4) x5 x6) k0_pay6) ∗ owns (c : Thread nD τ) arg13 fullShare (sd0 (ld0 (word0 x0) (k0_pay4 (word0 x0) x4) x5 x6) k0_pay6 k0_pay8) ∗ owns (c : Thread nD τ) arg14 fullShare (k0_pay4 (word0 x0) x4) ∗ owns (c : Thread nD τ) arg15 fullShare (k0_pay3 x4)) -∗ K ⟨⟩))
      ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_heads_eq_skeleton]; unfold cc0_heads_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H8]
  · iexists _; isplitr; swap; · iexact H8
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H9]
  · iexists _; isplitr; swap; · iexact H9
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H10]
  · iexists _; isplitr; swap; · iexact H10
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H11]
  · iexists _; isplitr; swap; · iexact H11
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H12]
  · iexists _; isplitr; swap; · iexact H12
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H13]
  · iexists _; isplitr; swap; · iexact H13
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  iexists _; isplitr; swap; · iexact H14
  ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl

end Cert.Kernel.Hand

end
-- ==== Proof.Bits.Run0B.lean ====
module

public import proofs.«01_k».proof.Proof.Bits.Payloads

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- What the body leaves in a later point: its inputs as they were, its outputs at the named values. -/
theorem run0_B (c : Dev nD) (i : grid0.Coords) (arg1 : Memref sig .tc .smem S1 .i32) (harg1 : arg1.IsWhole) (arg2 : Memref sig .tc .vmem S80x2304 .bf16) (harg2 : arg2.IsWhole) (arg3 : Memref sig .tc .vmem S1152x768 .i8) (harg3 : arg3.IsWhole) (arg4 : Memref sig .tc .vmem S18x768 .f32) (harg4 : arg4.IsWhole) (arg5 : Memref sig .tc .vmem S64x896 .bf16) (harg5 : arg5.IsWhole) (arg6 : Memref sig .tc .vmem S896x768 .fp8e4m3) (harg6 : arg6.IsWhole) (arg7 : Memref sig .tc .vmem S1x768 .f32) (harg7 : arg7.IsWhole) (arg8 : Memref sig .tc .vmem S80x768 .f32) (harg8 : arg8.IsWhole) (arg9 : Memref sig .tc .vmem S64x768 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x896 .fp8e4m3) (harg14 : arg14.IsWhole) (arg15 : Memref sig .tc .vmem S64x128 .f32) (harg15 : arg15.IsWhole) (hc0 : ¬cond0 i)
    (x0 : Vec F S1 .i32) (x1 : Vec F S80x2304 .bf16) (x2 : Vec F S1152x768 .i8) (x3 : Vec F S18x768 .f32) (x4 : Vec F S64x896 .bf16) (x5 : Vec F S896x768 .fp8e4m3) (x6 : Vec F S1x768 .f32) (o9 : Vec F S80x128 .f32) (o10 : Vec F S80x128 .f32) (o11 : Vec F S64x128 .f32) (o12 : Vec F S64x128 .f32) (o13 : Vec F S64x896 .fp8e4m3) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare o9 ∗ owns (c : Thread nD τ) arg11 fullShare o10 ∗ owns (c : Thread nD τ) arg12 fullShare o11 ∗ owns (c : Thread nD τ) arg13 fullShare o12 ∗ owns (c : Thread nD τ) arg14 fullShare o13
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (lt0 x1 x2 x3) ∗ owns (c : Thread nD τ) arg9 fullShare (ld0 (word0 x0) o13 x5 x6) ∗ owns (c : Thread nD τ) arg10 fullShare (mt0 x1 x2 x3 o9) ∗ owns (c : Thread nD τ) arg11 fullShare (st0 x1 x2 x3 o9 o10) ∗ owns (c : Thread nD τ) arg12 fullShare (md0 (ld0 (word0 x0) o13 x5 x6) o11) ∗ owns (c : Thread nD τ) arg13 fullShare (sd0 (ld0 (word0 x0) o13 x5 x6) o11 o12) ∗ owns (c : Thread nD τ) arg14 fullShare (o13)) -∗ K ⟨⟩))
      ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_heads_eq_skeleton]; unfold cc0_heads_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hf11; obtain rfl := harg13.eq_unread hf12; obtain rfl := harg14.eq_unread hf13
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H8]
  · iexists _; isplitr; swap; · iexact H8
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H9]
  · iexists _; isplitr; swap; · iexact H9
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H10]
  · iexists _; isplitr; swap; · iexact H10
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H11]
  · iexists _; isplitr; swap; · iexact H11
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H12]
  · iexists _; isplitr; swap; · iexact H12
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  iexists _; isplitr; swap; · iexact H13
  ipureintro; exact harg14.read_unread _

end Cert.Kernel.Hand

end
-- ==== Proof.Bits.Valuations.lean ====
module

public import proofs.«01_k».proof.Proof.Bits.Payloads

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- A buffer of the TensorCore at a valuation. -/
abbrev VB (V : Dev nD → Valuation τ sig (Elt F)) (c : Dev nD) (b : Ref sig .tc) : Buf (Elt F) ((c : Thread nD τ).loc b) := V c (Proc.devRef .tc b)

end Cert.Kernel.Hand

end
-- ==== Proof.Bits.Reg0.lean ====
module

public import proofs.«01_k».proof.Proof.Bits.Run0A
public import proofs.«01_k».proof.Proof.Bits.Run0B
public import proofs.«01_k».proof.Proof.Bits.Valuations
public import Idealize.ShloMosaic.Lib.Pipeline.TableIdle

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! Region 0 entered at the buffers' contents `V`. -/
variable (V : Dev nD → Valuation τ sig (Elt F))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (VB V c (Pipeline.arrRef spec0 w))

theorem before0_0_of {c : Dev nD} (dat : Dat τ (Elt F) Unit ℕ (UR sig nD τ) ℕ cfg0 c) (hA : dat.A 0 = VB V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = VB V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = VB V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = VB V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = VB V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = VB V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = VB V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The first point. -/
abbrev first0 : Fin cfg0.N := ⟨0, lt_of_lt_of_eq (by decide : 0 < 167) (show cfg0.N = 167 from N_0).symm⟩

/-- The codes of the draft activations, made at the first point and kept. -/
def codesAt (c : Dev nD) : Vec F S64x896 .fp8e4m3 := k0_pay4 (word0 (iblk0 V c 0 first0)) (iblk0 V c 4 first0)
/-- The rows' largest magnitudes, made at the first point and kept. -/
def amaxAt (c : Dev nD) : Vec F S64x128 .f32 := k0_pay3 (iblk0 V c 4 first0)
/-- What the body leaves at point `t`: a tile of the target logits. -/
def ltTile (c : Dev nD) (t : Fin cfg0.N) : Vec F S80x768 .f32 := lt0 (iblk0 V c 1 t) (iblk0 V c 2 t) (iblk0 V c 3 t)
/-- What the body leaves at point `t`: a tile of the draft logits. -/
def ldTile (c : Dev nD) (t : Fin cfg0.N) : Vec F S64x768 .f32 := ld0 (word0 (iblk0 V c 0 t)) (codesAt V c) (iblk0 V c 5 t) (iblk0 V c 6 t)
/-- What output window 9 holds after the point of position `n`. -/
def mtAt (c : Dev nD) : (n : ℕ) → n < cfg0.N → Vec F S80x128 .f32
  | 0, hn => mt0 (iblk0 V c 1 ⟨0, hn⟩) (iblk0 V c 2 ⟨0, hn⟩) (iblk0 V c 3 ⟨0, hn⟩) k0_pay5
  | n + 1, hn => mt0 (iblk0 V c 1 ⟨n + 1, hn⟩) (iblk0 V c 2 ⟨n + 1, hn⟩) (iblk0 V c 3 ⟨n + 1, hn⟩) (mtAt c n (Nat.lt_of_succ_lt hn))
theorem mtAt_A (c : Dev nD) (t : Fin cfg0.N) (h0 : t.val % 167 = 0) : mtAt V c t.val t.isLt = mt0 (iblk0 V c 1 t) (iblk0 V c 2 t) (iblk0 V c 3 t) k0_pay5 := by
  have hN : t.val < 167 := lt_of_lt_of_eq t.isLt (show cfg0.N = 167 from N_0)
  obtain ⟨n, hn⟩ := t
  cases n with
  | zero => exact rfl
  | succ n => exact absurd h0 (by dsimp only at hN ⊢; omega)
theorem mtAt_B (c : Dev nD) (t : Fin cfg0.N) (h0 : ¬t.val % 167 = 0) :
    mtAt V c t.val t.isLt = mt0 (iblk0 V c 1 t) (iblk0 V c 2 t) (iblk0 V c 3 t) (mtAt V c (t.val - 1) (Nat.lt_of_le_of_lt (Nat.sub_le _ _) t.isLt)) := by
  obtain ⟨n, hn⟩ := t
  cases n with
  | zero => exact absurd (Nat.zero_mod _) h0
  | succ n => exact rfl
/-- What output window 10 holds after the point of position `n`. -/
def stAt (c : Dev nD) : (n : ℕ) → n < cfg0.N → Vec F S80x128 .f32
  | 0, hn => st0 (iblk0 V c 1 ⟨0, hn⟩) (iblk0 V c 2 ⟨0, hn⟩) (iblk0 V c 3 ⟨0, hn⟩) k0_pay5 k0_pay7
  | n + 1, hn => st0 (iblk0 V c 1 ⟨n + 1, hn⟩) (iblk0 V c 2 ⟨n + 1, hn⟩) (iblk0 V c 3 ⟨n + 1, hn⟩) (mtAt V c n (Nat.lt_of_succ_lt hn)) (stAt c n (Nat.lt_of_succ_lt hn))
theorem stAt_A (c : Dev nD) (t : Fin cfg0.N) (h0 : t.val % 167 = 0) : stAt V c t.val t.isLt = st0 (iblk0 V c 1 t) (iblk0 V c 2 t) (iblk0 V c 3 t) k0_pay5 k0_pay7 := by
  have hN : t.val < 167 := lt_of_lt_of_eq t.isLt (show cfg0.N = 167 from N_0)
  obtain ⟨n, hn⟩ := t
  cases n with
  | zero => exact rfl
  | succ n => exact absurd h0 (by dsimp only at hN ⊢; omega)
theorem stAt_B (c : Dev nD) (t : Fin cfg0.N) (h0 : ¬t.val % 167 = 0) :
    stAt V c t.val t.isLt = st0 (iblk0 V c 1 t) (iblk0 V c 2 t) (iblk0 V c 3 t) (mtAt V c (t.val - 1) (Nat.lt_of_le_of_lt (Nat.sub_le _ _) t.isLt)) (stAt V c (t.val - 1) (Nat.lt_of_le_of_lt (Nat.sub_le _ _) t.isLt)) := by
  obtain ⟨n, hn⟩ := t
  cases n with
  | zero => exact absurd (Nat.zero_mod _) h0
  | succ n => exact rfl
/-- What output window 11 holds after the point of position `n`. -/
def mdAt (c : Dev nD) : (n : ℕ) → n < cfg0.N → Vec F S64x128 .f32
  | 0, hn => md0 (ldTile V c ⟨0, hn⟩) k0_pay6
  | n + 1, hn => md0 (ldTile V c ⟨n + 1, hn⟩) (mdAt c n (Nat.lt_of_succ_lt hn))
theorem mdAt_A (c : Dev nD) (t : Fin cfg0.N) (h0 : t.val % 167 = 0) : mdAt V c t.val t.isLt = md0 (ldTile V c t) k0_pay6 := by
  have hN : t.val < 167 := lt_of_lt_of_eq t.isLt (show cfg0.N = 167 from N_0)
  obtain ⟨n, hn⟩ := t
  cases n with
  | zero => exact rfl
  | succ n => exact absurd h0 (by dsimp only at hN ⊢; omega)
theorem mdAt_B (c : Dev nD) (t : Fin cfg0.N) (h0 : ¬t.val % 167 = 0) :
    mdAt V c t.val t.isLt = md0 (ldTile V c t) (mdAt V c (t.val - 1) (Nat.lt_of_le_of_lt (Nat.sub_le _ _) t.isLt)) := by
  obtain ⟨n, hn⟩ := t
  cases n with
  | zero => exact absurd (Nat.zero_mod _) h0
  | succ n => exact rfl
/-- What output window 12 holds after the point of position `n`. -/
def sdAt (c : Dev nD) : (n : ℕ) → n < cfg0.N → Vec F S64x128 .f32
  | 0, hn => sd0 (ldTile V c ⟨0, hn⟩) k0_pay6 k0_pay8
  | n + 1, hn => sd0 (ldTile V c ⟨n + 1, hn⟩) (mdAt V c n (Nat.lt_of_succ_lt hn)) (sdAt c n (Nat.lt_of_succ_lt hn))
theorem sdAt_A (c : Dev nD) (t : Fin cfg0.N) (h0 : t.val % 167 = 0) : sdAt V c t.val t.isLt = sd0 (ldTile V c t) k0_pay6 k0_pay8 := by
  have hN : t.val < 167 := lt_of_lt_of_eq t.isLt (show cfg0.N = 167 from N_0)
  obtain ⟨n, hn⟩ := t
  cases n with
  | zero => exact rfl
  | succ n => exact absurd h0 (by dsimp only at hN ⊢; omega)
theorem sdAt_B (c : Dev nD) (t : Fin cfg0.N) (h0 : ¬t.val % 167 = 0) :
    sdAt V c t.val t.isLt = sd0 (ldTile V c t) (mdAt V c (t.val - 1) (Nat.lt_of_le_of_lt (Nat.sub_le _ _) t.isLt)) (sdAt V c (t.val - 1) (Nat.lt_of_le_of_lt (Nat.sub_le _ _) t.isLt)) := by
  obtain ⟨n, hn⟩ := t
  cases n with
  | zero => exact absurd (Nat.zero_mod _) h0
  | succ n => exact rfl

/-- The region's proof data: the arrays as the region finds them, what the body leaves in each window's buffer, nothing owed. -/
def dats0 (c : Dev nD) : Dat τ (Elt F) Unit ℕ (UR sig nD τ) ℕ cfg0 c where
  A w := VB V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => ltTile V c t
    | ⟨8, _⟩ => ldTile V c t
    | ⟨9, _⟩ => mtAt V c t.val t.isLt
    | ⟨10, _⟩ => stAt V c t.val t.isLt
    | ⟨11, _⟩ => mdAt V c t.val t.isLt
    | ⟨12, _⟩ => sdAt V c t.val t.isLt
    | ⟨13, _⟩ => codesAt V c
    | ⟨14, _⟩ => amaxAt V c
  Φ _ := Pipeline.ΦA spec0 c
  q _ := fullShare
  owed _ := 0
theorem A_eq0 (c : Dev nD) (w : Fin cfg0.W) : (dats0 V c).A w = VB V c (Pipeline.arrRef spec0 w) := by dsimp only [dats0]
theorem after0_0 (c : Dev nD) (t : Fin cfg0.N) : (dats0 V c).after 0 t = iblk0 V c 0 t := by dsimp only [dats0]
theorem after0_1 (c : Dev nD) (t : Fin cfg0.N) : (dats0 V c).after 1 t = iblk0 V c 1 t := by dsimp only [dats0]
theorem after0_2 (c : Dev nD) (t : Fin cfg0.N) : (dats0 V c).after 2 t = iblk0 V c 2 t := by dsimp only [dats0]
theorem after0_3 (c : Dev nD) (t : Fin cfg0.N) : (dats0 V c).after 3 t = iblk0 V c 3 t := by dsimp only [dats0]
theorem after0_4 (c : Dev nD) (t : Fin cfg0.N) : (dats0 V c).after 4 t = iblk0 V c 4 t := by dsimp only [dats0]
theorem after0_5 (c : Dev nD) (t : Fin cfg0.N) : (dats0 V c).after 5 t = iblk0 V c 5 t := by dsimp only [dats0]
theorem after0_6 (c : Dev nD) (t : Fin cfg0.N) : (dats0 V c).after 6 t = iblk0 V c 6 t := by dsimp only [dats0]
theorem after0_7 (c : Dev nD) (t : Fin cfg0.N) : (dats0 V c).after 7 t = ltTile V c t := by dsimp only [dats0]
theorem after0_8 (c : Dev nD) (t : Fin cfg0.N) : (dats0 V c).after 8 t = ldTile V c t := by dsimp only [dats0]
theorem after0_9 (c : Dev nD) (t : Fin cfg0.N) : (dats0 V c).after 9 t = mtAt V c t.val t.isLt := by dsimp only [dats0]
theorem after0_10 (c : Dev nD) (t : Fin cfg0.N) : (dats0 V c).after 10 t = stAt V c t.val t.isLt := by dsimp only [dats0]
theorem after0_11 (c : Dev nD) (t : Fin cfg0.N) : (dats0 V c).after 11 t = mdAt V c t.val t.isLt := by dsimp only [dats0]
theorem after0_12 (c : Dev nD) (t : Fin cfg0.N) : (dats0 V c).after 12 t = sdAt V c t.val t.isLt := by dsimp only [dats0]
theorem after0_13 (c : Dev nD) (t : Fin cfg0.N) : (dats0 V c).after 13 t = codesAt V c := by dsimp only [dats0]
theorem after0_14 (c : Dev nD) (t : Fin cfg0.N) : (dats0 V c).after 14 t = amaxAt V c := by dsimp only [dats0]
theorem before0_0 (c : Dev nD) (t : Fin cfg0.N) (d) : (dats0 V c).before 0 t d = iblk0 V c 0 t :=
  before0_0_of V (dats0 V c) (A_eq0 V c 0) (after0_0 V c) t d
theorem before0_1 (c : Dev nD) (t : Fin cfg0.N) (d) : (dats0 V c).before 1 t d = iblk0 V c 1 t :=
  before0_1_of V (dats0 V c) (A_eq0 V c 1) (after0_1 V c) t d
theorem before0_2 (c : Dev nD) (t : Fin cfg0.N) (d) : (dats0 V c).before 2 t d = iblk0 V c 2 t :=
  before0_2_of V (dats0 V c) (A_eq0 V c 2) (after0_2 V c) t d
theorem before0_3 (c : Dev nD) (t : Fin cfg0.N) (d) : (dats0 V c).before 3 t d = iblk0 V c 3 t :=
  before0_3_of V (dats0 V c) (A_eq0 V c 3) (after0_3 V c) t d
theorem before0_4 (c : Dev nD) (t : Fin cfg0.N) (d) : (dats0 V c).before 4 t d = iblk0 V c 4 t :=
  before0_4_of V (dats0 V c) (A_eq0 V c 4) (after0_4 V c) t d
theorem before0_5 (c : Dev nD) (t : Fin cfg0.N) (d) : (dats0 V c).before 5 t d = iblk0 V c 5 t :=
  before0_5_of V (dats0 V c) (A_eq0 V c 5) (after0_5 V c) t d
theorem before0_6 (c : Dev nD) (t : Fin cfg0.N) (d) : (dats0 V c).before 6 t d = iblk0 V c 6 t :=
  before0_6_of V (dats0 V c) (A_eq0 V c 6) (after0_6 V c) t d
/-- Window 13 is written at the first point only. -/
theorem idle0_13 (t : Fin cfg0.N) : cfg0.idle 13 (cfg0.grid.coords t) = true ↔ ¬t.val % 167 = 0 := by
  show (!(k0_cond1 (grid0.coords t) == 1#1)) = true ↔ _
  rw [← hcond0 t, Bool.not_eq_true', beq_eq_false_iff_ne]
  exact Iff.rfl
theorem fresh0_13 : ∀ n (_ : n ≠ 0) (_ : n < 167), cfg0.fresh 13 n = false
  | 0, h, _ => absurd rfl h
  | n + 1, _, hn => by
    rw [Pipeline.Cfg.fresh_succ cfg0 13 n (lt_of_lt_of_eq (by omega : n < 167) (show cfg0.N = 167 from N_0).symm)]
    rw [Bool.or_eq_false_iff, Bool.and_eq_false_iff]
    refine ⟨Bool.eq_false_iff.mpr fun h => by have := (flush0_13 _).mp h; dsimp only at this; omega, ?_⟩
    by_cases h0 : n = 0
    · exact .inl (Bool.eq_false_iff.mpr fun h => by have := (idle0_13 _).mp h; dsimp only at this; omega)
    · exact .inr (fresh0_13 n h0 (by omega))
theorem before0_13_B (c : Dev nD) (t : Fin cfg0.N) (h0 : ¬t.val % 167 = 0) (d) : (dats0 V c).before 13 t d = codesAt V c := by
  have hN : t.val < 167 := lt_of_lt_of_eq t.isLt (show cfg0.N = 167 from N_0)
  rw [Dat.before_out_traj (dats0 V c) 13 rfl (fun _ _ => rfl) (fun _ _ _ _ => by dsimp only [dats0]) t.val t rfl d,
    fresh0_13 t.val (by omega) hN, if_neg Bool.false_ne_true]
  dsimp only [dats0]
/-- What the point leaves in window 13, as the obligation states it: where the point does not write, what was found. -/
theorem leave0_13 (c : Dev nD) (t : Fin cfg0.N) :
    owns (c : Thread nD τ) (win0_13.stage (cfg0.slots t 13)) fullShare ((dats0 V c).after 13 t) ⊢
      (match cfg0.idle 13 (cfg0.grid.coords t) with
        | true =>
          match (cfg0.win 13).flush t with
          | false => iprop(∃ d, owns (c : Thread nD τ) ((cfg0.win 13).stage (cfg0.slots t 13)) fullShare ((dats0 V c).before 13 t d))
          | true => owns (c : Thread nD τ) ((cfg0.win 13).stage (cfg0.slots t 13)) fullShare ((dats0 V c).after 13 t)
        | false => owns (c : Thread nD τ) ((cfg0.win 13).stage (cfg0.slots t 13)) fullShare ((dats0 V c).after 13 t) : sProp 𝕄) := by
  cases hi : cfg0.idle 13 (cfg0.grid.coords t)
  · exact .rfl
  · cases hf : (cfg0.win 13).flush t
    · simp only [before0_13_B V c t ((idle0_13 t).mp hi), after0_13]
      iintro H
      iexists (dats0 V c).after 13 t
      iexact H
    · exact .rfl
/-- Window 14 is written at the first point only. -/
theorem idle0_14 (t : Fin cfg0.N) : cfg0.idle 14 (cfg0.grid.coords t) = true ↔ ¬t.val % 167 = 0 := by
  show (!(k0_cond1 (grid0.coords t) == 1#1)) = true ↔ _
  rw [← hcond0 t, Bool.not_eq_true', beq_eq_false_iff_ne]
  exact Iff.rfl
theorem fresh0_14 : ∀ n (_ : n ≠ 0) (_ : n < 167), cfg0.fresh 14 n = false
  | 0, h, _ => absurd rfl h
  | n + 1, _, hn => by
    rw [Pipeline.Cfg.fresh_succ cfg0 14 n (lt_of_lt_of_eq (by omega : n < 167) (show cfg0.N = 167 from N_0).symm)]
    rw [Bool.or_eq_false_iff, Bool.and_eq_false_iff]
    refine ⟨Bool.eq_false_iff.mpr fun h => by have := (flush0_14 _).mp h; dsimp only at this; omega, ?_⟩
    by_cases h0 : n = 0
    · exact .inl (Bool.eq_false_iff.mpr fun h => by have := (idle0_14 _).mp h; dsimp only at this; omega)
    · exact .inr (fresh0_14 n h0 (by omega))
theorem before0_14_B (c : Dev nD) (t : Fin cfg0.N) (h0 : ¬t.val % 167 = 0) (d) : (dats0 V c).before 14 t d = amaxAt V c := by
  have hN : t.val < 167 := lt_of_lt_of_eq t.isLt (show cfg0.N = 167 from N_0)
  rw [Dat.before_out_traj (dats0 V c) 14 rfl (fun _ _ => rfl) (fun _ _ _ _ => by dsimp only [dats0]) t.val t rfl d,
    fresh0_14 t.val (by omega) hN, if_neg Bool.false_ne_true]
  dsimp only [dats0]
/-- What the point leaves in window 14, as the obligation states it: where the point does not write, what was found. -/
theorem leave0_14 (c : Dev nD) (t : Fin cfg0.N) :
    owns (c : Thread nD τ) (win0_14.stage (cfg0.slots t 14)) fullShare ((dats0 V c).after 14 t) ⊢
      (match cfg0.idle 14 (cfg0.grid.coords t) with
        | true =>
          match (cfg0.win 14).flush t with
          | false => iprop(∃ d, owns (c : Thread nD τ) ((cfg0.win 14).stage (cfg0.slots t 14)) fullShare ((dats0 V c).before 14 t d))
          | true => owns (c : Thread nD τ) ((cfg0.win 14).stage (cfg0.slots t 14)) fullShare ((dats0 V c).after 14 t)
        | false => owns (c : Thread nD τ) ((cfg0.win 14).stage (cfg0.slots t 14)) fullShare ((dats0 V c).after 14 t) : sProp 𝕄) := by
  cases hi : cfg0.idle 14 (cfg0.grid.coords t)
  · exact .rfl
  · cases hf : (cfg0.win 14).flush t
    · simp only [before0_14_B V c t ((idle0_14 t).mp hi), after0_14]
      iintro H
      iexists (dats0 V c).after 14 t
      iexact H
    · exact .rfl
theorem before0_9_B (c : Dev nD) (t : Fin cfg0.N) (h0 : ¬t.val % 167 = 0) (d) : (dats0 V c).before 9 t d = mtAt V c (t.val - 1) (Nat.lt_of_le_of_lt (Nat.sub_le _ _) t.isLt) := by
  have hN : t.val < 167 := lt_of_lt_of_eq t.isLt (show cfg0.N = 167 from N_0)
  rw [Dat.before_out_kept _ 9 rfl t (by omega) (Bool.eq_false_iff.mpr fun h => by have := (flush0_9 _).mp h; dsimp only at this; omega)
    (fun _ => rfl) (fun _ _ => rfl)]
  dsimp only [dats0]
theorem before0_10_B (c : Dev nD) (t : Fin cfg0.N) (h0 : ¬t.val % 167 = 0) (d) : (dats0 V c).before 10 t d = stAt V c (t.val - 1) (Nat.lt_of_le_of_lt (Nat.sub_le _ _) t.isLt) := by
  have hN : t.val < 167 := lt_of_lt_of_eq t.isLt (show cfg0.N = 167 from N_0)
  rw [Dat.before_out_kept _ 10 rfl t (by omega) (Bool.eq_false_iff.mpr fun h => by have := (flush0_10 _).mp h; dsimp only at this; omega)
    (fun _ => rfl) (fun _ _ => rfl)]
  dsimp only [dats0]
theorem before0_11_B (c : Dev nD) (t : Fin cfg0.N) (h0 : ¬t.val % 167 = 0) (d) : (dats0 V c).before 11 t d = mdAt V c (t.val - 1) (Nat.lt_of_le_of_lt (Nat.sub_le _ _) t.isLt) := by
  have hN : t.val < 167 := lt_of_lt_of_eq t.isLt (show cfg0.N = 167 from N_0)
  rw [Dat.before_out_kept _ 11 rfl t (by omega) (Bool.eq_false_iff.mpr fun h => by have := (flush0_11 _).mp h; dsimp only at this; omega)
    (fun _ => rfl) (fun _ _ => rfl)]
  dsimp only [dats0]
theorem before0_12_B (c : Dev nD) (t : Fin cfg0.N) (h0 : ¬t.val % 167 = 0) (d) : (dats0 V c).before 12 t d = sdAt V c (t.val - 1) (Nat.lt_of_le_of_lt (Nat.sub_le _ _) t.isLt) := by
  have hN : t.val < 167 := lt_of_lt_of_eq t.isLt (show cfg0.N = 167 from N_0)
  rw [Dat.before_out_kept _ 12 rfl t (by omega) (Bool.eq_false_iff.mpr fun h => by have := (flush0_12 _).mp h; dsimp only at this; omega)
    (fun _ => rfl) (fun _ _ => rfl)]
  dsimp only [dats0]

/-- What the body is called with at point `t`, -/
def bodyPre0 (c : Dev nD) (t : Fin cfg0.N) : sProp 𝕄 :=
  iprop((dats0 V c).Φ t.castSucc ∗ (dats0 V c).owesAt () t.castSucc
    ∗ (∃ d, owns (c : Thread nD τ) (win0_0.stage (cfg0.slots t 0)) fullShare ((dats0 V c).before 0 t d))
    ∗ (∃ d, owns (c : Thread nD τ) (win0_1.stage (cfg0.slots t 1)) fullShare ((dats0 V c).before 1 t d))
    ∗ (∃ d, owns (c : Thread nD τ) (win0_2.stage (cfg0.slots t 2)) fullShare ((dats0 V c).before 2 t d))
    ∗ (∃ d, owns (c : Thread nD τ) (win0_3.stage (cfg0.slots t 3)) fullShare ((dats0 V c).before 3 t d))
    ∗ (∃ d, owns (c : Thread nD τ) (win0_4.stage (cfg0.slots t 4)) fullShare ((dats0 V c).before 4 t d))
    ∗ (∃ d, owns (c : Thread nD τ) (win0_5.stage (cfg0.slots t 5)) fullShare ((dats0 V c).before 5 t d))
    ∗ (∃ d, owns (c : Thread nD τ) (win0_6.stage (cfg0.slots t 6)) fullShare ((dats0 V c).before 6 t d))
    ∗ (∃ d, owns (c : Thread nD τ) (win0_7.stage (cfg0.slots t 7)) fullShare ((dats0 V c).before 7 t d))
    ∗ (∃ d, owns (c : Thread nD τ) (win0_8.stage (cfg0.slots t 8)) fullShare ((dats0 V c).before 8 t d))
    ∗ (∃ d, owns (c : Thread nD τ) (win0_9.stage (cfg0.slots t 9)) fullShare ((dats0 V c).before 9 t d))
    ∗ (∃ d, owns (c : Thread nD τ) (win0_10.stage (cfg0.slots t 10)) fullShare ((dats0 V c).before 10 t d))
    ∗ (∃ d, owns (c : Thread nD τ) (win0_11.stage (cfg0.slots t 11)) fullShare ((dats0 V c).before 11 t d))
    ∗ (∃ d, owns (c : Thread nD τ) (win0_12.stage (cfg0.slots t 12)) fullShare ((dats0 V c).before 12 t d))
    ∗ (∃ d, owns (c : Thread nD τ) (win0_13.stage (cfg0.slots t 13)) fullShare ((dats0 V c).before 13 t d))
    ∗ (∃ d, owns (c : Thread nD τ) (win0_14.stage (cfg0.slots t 14)) fullShare ((dats0 V c).before 14 t d)))
/-- and what it returns. -/
def bodyPost0 (c : Dev nD) (t : Fin cfg0.N) : sProp 𝕄 :=
  iprop((dats0 V c).Φ t.succ ∗ (dats0 V c).owesAt () t.succ
    ∗ owns (c : Thread nD τ) (win0_0.stage (cfg0.slots t 0)) fullShare ((dats0 V c).after 0 t)
    ∗ owns (c : Thread nD τ) (win0_1.stage (cfg0.slots t 1)) fullShare ((dats0 V c).after 1 t)
    ∗ owns (c : Thread nD τ) (win0_2.stage (cfg0.slots t 2)) fullShare ((dats0 V c).after 2 t)
    ∗ owns (c : Thread nD τ) (win0_3.stage (cfg0.slots t 3)) fullShare ((dats0 V c).after 3 t)
    ∗ owns (c : Thread nD τ) (win0_4.stage (cfg0.slots t 4)) fullShare ((dats0 V c).after 4 t)
    ∗ owns (c : Thread nD τ) (win0_5.stage (cfg0.slots t 5)) fullShare ((dats0 V c).after 5 t)
    ∗ owns (c : Thread nD τ) (win0_6.stage (cfg0.slots t 6)) fullShare ((dats0 V c).after 6 t)
    ∗ owns (c : Thread nD τ) (win0_7.stage (cfg0.slots t 7)) fullShare ((dats0 V c).after 7 t)
    ∗ owns (c : Thread nD τ) (win0_8.stage (cfg0.slots t 8)) fullShare ((dats0 V c).after 8 t)
    ∗ owns (c : Thread nD τ) (win0_9.stage (cfg0.slots t 9)) fullShare ((dats0 V c).after 9 t)
    ∗ owns (c : Thread nD τ) (win0_10.stage (cfg0.slots t 10)) fullShare ((dats0 V c).after 10 t)
    ∗ owns (c : Thread nD τ) (win0_11.stage (cfg0.slots t 11)) fullShare ((dats0 V c).after 11 t)
    ∗ owns (c : Thread nD τ) (win0_12.stage (cfg0.slots t 12)) fullShare ((dats0 V c).after 12 t)
    ∗ owns (c : Thread nD τ) (win0_13.stage (cfg0.slots t 13)) fullShare ((dats0 V c).after 13 t)
    ∗ owns (c : Thread nD τ) (win0_14.stage (cfg0.slots t 14)) fullShare ((dats0 V c).after 14 t))

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dats0 V c).Φ t.succ = (dats0 V c).Φ t.castSucc from rfl,
    show (dats0 V c).owesAt () t.succ = (dats0 V c).owesAt () t.castSucc from rfl,
    after0_0, after0_1, after0_2, after0_3, after0_4, after0_5, after0_6, after0_7, after0_8, after0_9, after0_10, after0_11, after0_12, after0_13, after0_14]
  have hN : t.val < 167 := lt_of_lt_of_eq t.isLt (show cfg0.N = 167 from N_0)
  by_cases h0 : t.val % 167 = 0
  · obtain rfl : t = first0 := Fin.ext (by show t.val = 0; omega)
    rw [mtAt_A V c _ h0]
    rw [stAt_A V c _ h0]
    rw [mdAt_A V c _ h0]
    rw [sdAt_A V c _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run0_A c (grid0.coords first0) (win0_0.stage (cfg0.slots first0 0)) (hstage0_0 ((cfg0.slots first0 0).cast nbuf0_0)) (win0_1.stage (cfg0.slots first0 1)) (hstage0_1 ((cfg0.slots first0 1).cast nbuf0_1)) (win0_2.stage (cfg0.slots first0 2)) (hstage0_2 ((cfg0.slots first0 2).cast nbuf0_2)) (win0_3.stage (cfg0.slots first0 3)) (hstage0_3 ((cfg0.slots first0 3).cast nbuf0_3)) (win0_4.stage (cfg0.slots first0 4)) (hstage0_4 ((cfg0.slots first0 4).cast nbuf0_4)) (win0_5.stage (cfg0.slots first0 5)) (hstage0_5 ((cfg0.slots first0 5).cast nbuf0_5)) (win0_6.stage (cfg0.slots first0 6)) (hstage0_6 ((cfg0.slots first0 6).cast nbuf0_6)) (win0_7.stage (cfg0.slots first0 7)) (hstage0_7 ((cfg0.slots first0 7).cast nbuf0_7)) (win0_8.stage (cfg0.slots first0 8)) (hstage0_8 ((cfg0.slots first0 8).cast nbuf0_8)) (win0_9.stage (cfg0.slots first0 9)) (hstage0_9 ((cfg0.slots first0 9).cast nbuf0_9)) (win0_10.stage (cfg0.slots first0 10)) (hstage0_10 ((cfg0.slots first0 10).cast nbuf0_10)) (win0_11.stage (cfg0.slots first0 11)) (hstage0_11 ((cfg0.slots first0 11).cast nbuf0_11)) (win0_12.stage (cfg0.slots first0 12)) (hstage0_12 ((cfg0.slots first0 12).cast nbuf0_12)) (win0_13.stage (cfg0.slots first0 13)) (hstage0_13 ((cfg0.slots first0 13).cast nbuf0_13)) (win0_14.stage (cfg0.slots first0 14)) (hstage0_14 ((cfg0.slots first0 14).cast nbuf0_14)) ((hcond0 first0).mpr h0) (iblk0 V c 0 first0) (iblk0 V c 1 first0) (iblk0 V c 2 first0) (iblk0 V c 3 first0) (iblk0 V c 4 first0) (iblk0 V c 5 first0) (iblk0 V c 6 first0)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · skip
    rw [mtAt_B V c t h0]
    rw [stAt_B V c t h0]
    rw [mdAt_B V c t h0]
    rw [sdAt_B V c t h0]
    simp only [before0_9_B V c t h0, before0_10_B V c t h0, before0_11_B V c t h0, before0_12_B V c t h0, before0_13_B V c t h0, before0_14_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (fun h => h0 ((hcond0 t).mp h)) (iblk0 V c 0 t) (iblk0 V c 1 t) (iblk0 V c 2 t) (iblk0 V c 3 t) (iblk0 V c 4 t) (iblk0 V c 5 t) (iblk0 V c 6 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
end Cert.Kernel.Hand

end
-- ==== Proof.Bits.Obl0.lean ====
module

public import proofs.«01_k».proof.Proof.Bits.Reg0

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : Dev nD → Valuation τ sig (Elt F))

theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dats0 (F := F) V c) (defs₀ (F := F)) Variants.none () Set.univ := fun t => by
  rw [bigSep_W0, bigSep_W0, defs₀_row0]
  refine triple_restated (sound_body0 V c t) rfl .rfl fun _ => ?_
  unfold bodyPost0
  iintro ⟨HΦ, Ho, H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iapply (leave0_13 V c t); iexact H13
  iapply (leave0_14 V c t); iexact H14

end Cert.Kernel.Hand

end
-- ==== Proof.Bits.Run1A.lean ====
module

public import proofs.«01_k».proof.Proof.Bits.Payloads

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- What the body leaves in the first point: its inputs as they were, its outputs at the named values. -/
theorem run1_A (c : Dev nD) (i : grid1.Coords) (arg1 : Memref sig .tc .vmem S64x768 .f32) (harg1 : arg1.IsWhole) (arg2 : Memref sig .tc .vmem S64x768 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (hc0 : cond1 i)
    (x0 : Vec F S64x768 .f32) (x1 : Vec F S64x768 .f32) (x2 : Vec F S80x128 .f32) (x3 : Vec F S80x128 .f32) (x4 : Vec F S64x128 .f32) (x5 : Vec F S64x128 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (z1 x0 x1 x2 x3 x4 x5 k1_pay1)) -∗ K ⟨⟩))
      ⊢ wp frame (wpE (defs₀ (F := F)) Variants.none c none) E (cc1_zsum i arg1 harg1 arg2 harg2 arg3 harg3 arg4 harg4 arg5 harg5 arg6 harg6 arg7 harg7) K := by
  simp only [cc1_zsum_eq_skeleton]; unfold cc1_zsum_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  iexists _; isplitr; swap; · iexact H6
  ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl

end Cert.Kernel.Hand

end
-- ==== Proof.Bits.Run1B.lean ====
module

public import proofs.«01_k».proof.Proof.Bits.Payloads

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- What the body leaves in a later point: its inputs as they were, its outputs at the named values. -/
theorem run1_B (c : Dev nD) (i : grid1.Coords) (arg1 : Memref sig .tc .vmem S64x768 .f32) (harg1 : arg1.IsWhole) (arg2 : Memref sig .tc .vmem S64x768 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (hc0 : ¬cond1 i)
    (x0 : Vec F S64x768 .f32) (x1 : Vec F S64x768 .f32) (x2 : Vec F S80x128 .f32) (x3 : Vec F S80x128 .f32) (x4 : Vec F S64x128 .f32) (x5 : Vec F S64x128 .f32) (o6 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare o6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (z1 x0 x1 x2 x3 x4 x5 o6)) -∗ K ⟨⟩))
      ⊢ wp frame (wpE (defs₀ (F := F)) Variants.none c none) E (cc1_zsum i arg1 harg1 arg2 harg2 arg3 harg3 arg4 harg4 arg5 harg5 arg6 harg6 arg7 harg7) K := by
  simp only [cc1_zsum_eq_skeleton]; unfold cc1_zsum_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  iexists _; isplitr; swap; · iexact H6
  ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl

end Cert.Kernel.Hand

end
-- ==== Proof.Bits.Reg1.lean ====
module

public import proofs.«01_k».proof.Proof.Bits.Run1A
public import proofs.«01_k».proof.Proof.Bits.Run1B
public import proofs.«01_k».proof.Proof.Bits.Valuations

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! Region 1 entered at the buffers' contents `V`. -/
variable (V : Dev nD → Valuation τ sig (Elt F))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (VB V c (Pipeline.arrRef spec1 w))

/-- Window 0's block does not divide its array's rows, yet no block that the grid reaches is cut. -/
def dflt1_0 : (cfg1.win 0).block.Idx → Elt F (cfg1.win 0).elt := fun _ => Classical.choice inferInstance
/-- What window 0's buffer holds when the body runs. -/
def X1_0 (c : Dev nD) (t : Fin cfg1.N) : (cfg1.win 0).block.Idx → Elt F (cfg1.win 0).elt :=
  (cfg1.win 0).fill (cfg1.grid.coords t) dflt1_0 (iblk1 V c 0 t)
theorem xsize1_0 : ∀ t : Fin cfg1.N, ∀ a, (cfg1.win 0).xsize (cfg1.grid.coords t) a = (cfg1.win 0).size a := by decide +kernel
theorem moved1_0 (t : Fin cfg1.N) (j : (cfg1.win 0).block.Idx) : (cfg1.win 0).moved (cfg1.grid.coords t) j = true :=
  ((cfg1.win 0).moved_iff _ j).mpr fun a => by rw [xsize1_0 t a]; exact (j a).isLt
theorem fill1_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1_0 t j), dif_pos (moved1_0 t j)]
theorem before1_0_of {c : Dev nD} (dat : Dat τ (Elt F) Unit ℕ (UR sig nD τ) ℕ cfg1 c) (hA : dat.A 0 = VB V c (Pipeline.arrRef spec1 0))
    (hafter : ∀ t, dat.after 0 t = X1_0 V c t) (t : Fin cfg1.N) (d) : dat.before 0 t d = X1_0 V c t :=
  (dat.before_in_eq_fetched 0 rfl (fun _ => rfl)
      (fun t t' h => funext fun a => congrArg (fun n => Pipeline.Clip.of n ((cfg1.win 0).size a) (S80x128256.size a)) (congrFun h a))
      (fun t => by rw [hafter]; unfold X1_0; rw [Pipeline.Window.cut_fill]; unfold Dat.blockOf iblk1; rw [hA]; try rfl) t d).trans
    (by unfold Dat.fetched X1_0; rw [fill1_0 t d dflt1_0]; unfold Dat.blockOf iblk1; rw [hA]; try rfl)

theorem before1_1_of {c : Dev nD} (dat : Dat τ (Elt F) Unit ℕ (UR sig nD τ) ℕ cfg1 c) (hA : dat.A 1 = VB V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = VB V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = VB V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = VB V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = VB V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The first point. -/
abbrev first1 : Fin cfg1.N := ⟨0, lt_of_lt_of_eq (by decide : 0 < 167) (show cfg1.N = 167 from N_1).symm⟩

/-- What output window 6 holds after the point of position `n`. -/
def zAt (c : Dev nD) : (n : ℕ) → n < cfg1.N → Vec F S64x128 .f32
  | 0, hn => z1 (X1_0 V c ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) k1_pay1
  | n + 1, hn => z1 (X1_0 V c ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (zAt c n (Nat.lt_of_succ_lt hn))
theorem zAt_A (c : Dev nD) (t : Fin cfg1.N) (h0 : t.val % 167 = 0) : zAt V c t.val t.isLt = z1 (X1_0 V c t) (iblk1 V c 1 t) (iblk1 V c 2 t) (iblk1 V c 3 t) (iblk1 V c 4 t) (iblk1 V c 5 t) k1_pay1 := by
  have hN : t.val < 167 := lt_of_lt_of_eq t.isLt (show cfg1.N = 167 from N_1)
  obtain ⟨n, hn⟩ := t
  cases n with
  | zero => exact rfl
  | succ n => exact absurd h0 (by dsimp only at hN ⊢; omega)
theorem zAt_B (c : Dev nD) (t : Fin cfg1.N) (h0 : ¬t.val % 167 = 0) :
    zAt V c t.val t.isLt = z1 (X1_0 V c t) (iblk1 V c 1 t) (iblk1 V c 2 t) (iblk1 V c 3 t) (iblk1 V c 4 t) (iblk1 V c 5 t) (zAt V c (t.val - 1) (Nat.lt_of_le_of_lt (Nat.sub_le _ _) t.isLt)) := by
  obtain ⟨n, hn⟩ := t
  cases n with
  | zero => exact absurd (Nat.zero_mod _) h0
  | succ n => exact rfl

/-- The region's proof data: the arrays as the region finds them, what the body leaves in each window's buffer, nothing owed. -/
def dats1 (c : Dev nD) : Dat τ (Elt F) Unit ℕ (UR sig nD τ) ℕ cfg1 c where
  A w := VB V c (Pipeline.arrRef spec1 w)
  after w t := match w with
    | ⟨0, _⟩ => X1_0 V c t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => zAt V c t.val t.isLt
  Φ _ := Pipeline.ΦA spec1 c
  q _ := fullShare
  owed _ := 0
theorem A_eq1 (c : Dev nD) (w : Fin cfg1.W) : (dats1 V c).A w = VB V c (Pipeline.arrRef spec1 w) := by dsimp only [dats1]
theorem after1_0 (c : Dev nD) (t : Fin cfg1.N) : (dats1 V c).after 0 t = X1_0 V c t := by dsimp only [dats1]
theorem after1_1 (c : Dev nD) (t : Fin cfg1.N) : (dats1 V c).after 1 t = iblk1 V c 1 t := by dsimp only [dats1]
theorem after1_2 (c : Dev nD) (t : Fin cfg1.N) : (dats1 V c).after 2 t = iblk1 V c 2 t := by dsimp only [dats1]
theorem after1_3 (c : Dev nD) (t : Fin cfg1.N) : (dats1 V c).after 3 t = iblk1 V c 3 t := by dsimp only [dats1]
theorem after1_4 (c : Dev nD) (t : Fin cfg1.N) : (dats1 V c).after 4 t = iblk1 V c 4 t := by dsimp only [dats1]
theorem after1_5 (c : Dev nD) (t : Fin cfg1.N) : (dats1 V c).after 5 t = iblk1 V c 5 t := by dsimp only [dats1]
theorem after1_6 (c : Dev nD) (t : Fin cfg1.N) : (dats1 V c).after 6 t = zAt V c t.val t.isLt := by dsimp only [dats1]
theorem before1_0 (c : Dev nD) (t : Fin cfg1.N) (d) : (dats1 V c).before 0 t d = X1_0 V c t :=
  before1_0_of V (dats1 V c) (A_eq1 V c 0) (after1_0 V c) t d
theorem before1_1 (c : Dev nD) (t : Fin cfg1.N) (d) : (dats1 V c).before 1 t d = iblk1 V c 1 t :=
  before1_1_of V (dats1 V c) (A_eq1 V c 1) (after1_1 V c) t d
theorem before1_2 (c : Dev nD) (t : Fin cfg1.N) (d) : (dats1 V c).before 2 t d = iblk1 V c 2 t :=
  before1_2_of V (dats1 V c) (A_eq1 V c 2) (after1_2 V c) t d
theorem before1_3 (c : Dev nD) (t : Fin cfg1.N) (d) : (dats1 V c).before 3 t d = iblk1 V c 3 t :=
  before1_3_of V (dats1 V c) (A_eq1 V c 3) (after1_3 V c) t d
theorem before1_4 (c : Dev nD) (t : Fin cfg1.N) (d) : (dats1 V c).before 4 t d = iblk1 V c 4 t :=
  before1_4_of V (dats1 V c) (A_eq1 V c 4) (after1_4 V c) t d
theorem before1_5 (c : Dev nD) (t : Fin cfg1.N) (d) : (dats1 V c).before 5 t d = iblk1 V c 5 t :=
  before1_5_of V (dats1 V c) (A_eq1 V c 5) (after1_5 V c) t d
theorem before1_6_B (c : Dev nD) (t : Fin cfg1.N) (h0 : ¬t.val % 167 = 0) (d) : (dats1 V c).before 6 t d = zAt V c (t.val - 1) (Nat.lt_of_le_of_lt (Nat.sub_le _ _) t.isLt) := by
  have hN : t.val < 167 := lt_of_lt_of_eq t.isLt (show cfg1.N = 167 from N_1)
  rw [Dat.before_out_kept _ 6 rfl t (by omega) (Bool.eq_false_iff.mpr fun h => by have := (flush1_6 _).mp h; dsimp only at this; omega)
    (fun _ => rfl) (fun _ _ => rfl)]
  dsimp only [dats1]

/-- What the body is called with at point `t`, -/
def bodyPre1 (c : Dev nD) (t : Fin cfg1.N) : sProp 𝕄 :=
  iprop((dats1 V c).Φ t.castSucc ∗ (dats1 V c).owesAt () t.castSucc
    ∗ (∃ d, owns (c : Thread nD τ) (win1_0.stage (cfg1.slots t 0)) fullShare ((dats1 V c).before 0 t d))
    ∗ (∃ d, owns (c : Thread nD τ) (win1_1.stage (cfg1.slots t 1)) fullShare ((dats1 V c).before 1 t d))
    ∗ (∃ d, owns (c : Thread nD τ) (win1_2.stage (cfg1.slots t 2)) fullShare ((dats1 V c).before 2 t d))
    ∗ (∃ d, owns (c : Thread nD τ) (win1_3.stage (cfg1.slots t 3)) fullShare ((dats1 V c).before 3 t d))
    ∗ (∃ d, owns (c : Thread nD τ) (win1_4.stage (cfg1.slots t 4)) fullShare ((dats1 V c).before 4 t d))
    ∗ (∃ d, owns (c : Thread nD τ) (win1_5.stage (cfg1.slots t 5)) fullShare ((dats1 V c).before 5 t d))
    ∗ (∃ d, owns (c : Thread nD τ) (win1_6.stage (cfg1.slots t 6)) fullShare ((dats1 V c).before 6 t d)))
/-- and what it returns. -/
def bodyPost1 (c : Dev nD) (t : Fin cfg1.N) : sProp 𝕄 :=
  iprop((dats1 V c).Φ t.succ ∗ (dats1 V c).owesAt () t.succ
    ∗ owns (c : Thread nD τ) (win1_0.stage (cfg1.slots t 0)) fullShare ((dats1 V c).after 0 t)
    ∗ owns (c : Thread nD τ) (win1_1.stage (cfg1.slots t 1)) fullShare ((dats1 V c).after 1 t)
    ∗ owns (c : Thread nD τ) (win1_2.stage (cfg1.slots t 2)) fullShare ((dats1 V c).after 2 t)
    ∗ owns (c : Thread nD τ) (win1_3.stage (cfg1.slots t 3)) fullShare ((dats1 V c).after 3 t)
    ∗ owns (c : Thread nD τ) (win1_4.stage (cfg1.slots t 4)) fullShare ((dats1 V c).after 4 t)
    ∗ owns (c : Thread nD τ) (win1_5.stage (cfg1.slots t 5)) fullShare ((dats1 V c).after 5 t)
    ∗ owns (c : Thread nD τ) (win1_6.stage (cfg1.slots t 6)) fullShare ((dats1 V c).after 6 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dats1 V c).Φ t.succ = (dats1 V c).Φ t.castSucc from rfl,
    show (dats1 V c).owesAt () t.succ = (dats1 V c).owesAt () t.castSucc from rfl,
    after1_0, after1_1, after1_2, after1_3, after1_4, after1_5, after1_6]
  have hN : t.val < 167 := lt_of_lt_of_eq t.isLt (show cfg1.N = 167 from N_1)
  by_cases h0 : t.val % 167 = 0
  · skip
    rw [zAt_A V c _ h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run1_A c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) ((hcond1 t).mpr h0) (X1_0 V c t) (iblk1 V c 1 t) (iblk1 V c 2 t) (iblk1 V c 3 t) (iblk1 V c 4 t) (iblk1 V c 5 t)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · skip
    rw [zAt_B V c t h0]
    simp only [before1_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run1_B c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (fun h => h0 ((hcond1 t).mp h)) (X1_0 V c t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dats1 (F := F) V c) (defs₀ (F := F)) Variants.none () Set.univ := fun t => by
  rw [bigSep_W1, bigSep_W1, defs₀_row1]
  exact triple_restated (sound_body1 V c t) rfl .rfl fun _ => .rfl

end Cert.Kernel.Hand

end
-- ==== Proof.Bits.Run2A.lean ====
module

public import proofs.«01_k».proof.Proof.Bits.Payloads

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- What the body leaves in the first point: its inputs as they were, its outputs at the named values. -/
theorem run2_A (c : Dev nD) (i : grid2.Coords) (arg1 : Memref sig .tc .vmem S80x768 .f32) (harg1 : arg1.IsWhole) (arg2 : Memref sig .tc .vmem S64x768 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x1 .i32) (harg8 : arg8.IsWhole) (arg9 : Memref sig .tc .vmem S64x768 .bf16) (harg9 : arg9.IsWhole) (arg10 : Memref sig .tc .vmem S16x768 .bf16) (harg10 : arg10.IsWhole) (arg11 : Memref sig .tc .vmem S64x128 .f32) (harg11 : arg11.IsWhole) (arg12 : Memref sig .tc .vmem S64x128 .f32) (harg12 : arg12.IsWhole) (hc0 : cond2 i)
    (x0 : Vec F S80x768 .f32) (x1 : Vec F S64x768 .f32) (x2 : Vec F S80x128 .f32) (x3 : Vec F S80x128 .f32) (x4 : Vec F S64x128 .f32) (x5 : Vec F S64x128 .f32) (x6 : Vec F S64x128 .f32) (x7 : Vec F S64x1 .i32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (resid2 x0 x1 x2 x3 x4 x5 x6) ∗ owns (c : Thread nD τ) arg10 fullShare (bonus2 x0 x2 x3) ∗ owns (c : Thread nD τ) arg11 fullShare (ptx2 (BitVec.ofNat 32 (i 0).val) x0 x2 x3 x7 k2_pay4) ∗ owns (c : Thread nD τ) arg12 fullShare (pdx2 (BitVec.ofNat 32 (i 0).val) x1 x4 x5 x7 k2_pay5)) -∗ K ⟨⟩))
      ⊢ wp frame (wpE (defs₀ (F := F)) Variants.none c none) E (cc2_outs i arg1 harg1 arg2 harg2 arg3 harg3 arg4 harg4 arg5 harg5 arg6 harg6 arg7 harg7 arg8 harg8 arg9 harg9 arg10 harg10 arg11 harg11 arg12 harg12) K := by
  simp only [cc2_outs_eq_skeleton]; unfold cc2_outs_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H9]
  · iexists _; isplitr; swap; · iexact H9
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H10]
  · iexists _; isplitr; swap; · iexact H10
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  iexists _; isplitr; swap; · iexact H11
  ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl

end Cert.Kernel.Hand

end
-- ==== Proof.Bits.Run2B.lean ====
module

public import proofs.«01_k».proof.Proof.Bits.Payloads

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- What the body leaves in a later point: its inputs as they were, its outputs at the named values. -/
theorem run2_B (c : Dev nD) (i : grid2.Coords) (arg1 : Memref sig .tc .vmem S80x768 .f32) (harg1 : arg1.IsWhole) (arg2 : Memref sig .tc .vmem S64x768 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x1 .i32) (harg8 : arg8.IsWhole) (arg9 : Memref sig .tc .vmem S64x768 .bf16) (harg9 : arg9.IsWhole) (arg10 : Memref sig .tc .vmem S16x768 .bf16) (harg10 : arg10.IsWhole) (arg11 : Memref sig .tc .vmem S64x128 .f32) (harg11 : arg11.IsWhole) (arg12 : Memref sig .tc .vmem S64x128 .f32) (harg12 : arg12.IsWhole) (hc0 : ¬cond2 i)
    (x0 : Vec F S80x768 .f32) (x1 : Vec F S64x768 .f32) (x2 : Vec F S80x128 .f32) (x3 : Vec F S80x128 .f32) (x4 : Vec F S64x128 .f32) (x5 : Vec F S64x128 .f32) (x6 : Vec F S64x128 .f32) (x7 : Vec F S64x1 .i32) (o10 : Vec F S64x128 .f32) (o11 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare o10 ∗ owns (c : Thread nD τ) arg12 fullShare o11
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (resid2 x0 x1 x2 x3 x4 x5 x6) ∗ owns (c : Thread nD τ) arg10 fullShare (bonus2 x0 x2 x3) ∗ owns (c : Thread nD τ) arg11 fullShare (ptx2 (BitVec.ofNat 32 (i 0).val) x0 x2 x3 x7 o10) ∗ owns (c : Thread nD τ) arg12 fullShare (pdx2 (BitVec.ofNat 32 (i 0).val) x1 x4 x5 x7 o11)) -∗ K ⟨⟩))
      ⊢ wp frame (wpE (defs₀ (F := F)) Variants.none c none) E (cc2_outs i arg1 harg1 arg2 harg2 arg3 harg3 arg4 harg4 arg5 harg5 arg6 harg6 arg7 harg7 arg8 harg8 arg9 harg9 arg10 harg10 arg11 harg11 arg12 harg12) K := by
  simp only [cc2_outs_eq_skeleton]; unfold cc2_outs_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11
  sl_exec (disch := first | sl_exact hc0)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H9]
  · iexists _; isplitr; swap; · iexact H9
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  isplitl [H10]
  · iexists _; isplitr; swap; · iexact H10
    ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl
  iexists _; isplitr; swap; · iexact H11
  ipureintro; sl_unfold_run_names; refine (View.read_writes_full _ _ _ _ _).trans ?_; simp only [readCov_l128, readAt_l128, readAt_l1, read_col64, read_col80_64, read_col80, read_word, read_word_lit, readAt_S80x2304, readAt_S1152x768, readAt_S18x768, readAt_S64x896, readAt_S896x768, readAt_S1x768, readAt_S80x768, readAt_S64x768, readAt_S80x128, readAt_S16x768, readCov_S64x128_0, readCov_S64x128_1, readCov_S64x128_2, readCov_S80x128_0, readCov_S80x128_1, readCov_S80x128_2, readCov_S64x896_0, readCov_S64x896_1, readCov_S64x896_2, read_col64_lit, read_col80_64_lit, read_col80_lit, View.readCov_full, View.readAt_writes_full, View.readAt_full, Memref.IsWhole.read_unread]; try rfl

end Cert.Kernel.Hand

end
-- ==== Proof.Bits.Reg2.lean ====
module

public import proofs.«01_k».proof.Proof.Bits.Run2A
public import proofs.«01_k».proof.Proof.Bits.Run2B
public import proofs.«01_k».proof.Proof.Bits.Valuations

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! Region 2 entered at the buffers' contents `V`. -/
variable (V : Dev nD → Valuation τ sig (Elt F))

/-- Window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (VB V c (Pipeline.arrRef spec2 w))

theorem before2_0_of {c : Dev nD} (dat : Dat τ (Elt F) Unit ℕ (UR sig nD τ) ℕ cfg2 c) (hA : dat.A 0 = VB V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = VB V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = VB V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = VB V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = VB V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = VB V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = VB V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = VB V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The first point. -/
abbrev first2 : Fin cfg2.N := ⟨0, lt_of_lt_of_eq (by decide : 0 < 167) (show cfg2.N = 167 from N_2).symm⟩

/-- What the body leaves at point `t`: a tile of the residual distribution. -/
def residTile (c : Dev nD) (t : Fin cfg2.N) : Vec F S64x768 .bf16 := resid2 (iblk2 V c 0 t) (iblk2 V c 1 t) (iblk2 V c 2 t) (iblk2 V c 3 t) (iblk2 V c 4 t) (iblk2 V c 5 t) (iblk2 V c 6 t)
/-- What the body leaves at point `t`: a tile of the bonus distribution. -/
def bonusTile (c : Dev nD) (t : Fin cfg2.N) : Vec F S16x768 .bf16 := bonus2 (iblk2 V c 0 t) (iblk2 V c 2 t) (iblk2 V c 3 t)
/-- What output window 10 holds after the point of position `n`. -/
def ptxAt (c : Dev nD) : (n : ℕ) → n < cfg2.N → Vec F S64x128 .f32
  | 0, hn => ptx2 (BitVec.ofNat 32 (grid2.coords ⟨0, hn⟩ 0).val) (iblk2 V c 0 ⟨0, hn⟩) (iblk2 V c 2 ⟨0, hn⟩) (iblk2 V c 3 ⟨0, hn⟩) (iblk2 V c 7 ⟨0, hn⟩) k2_pay4
  | n + 1, hn => ptx2 (BitVec.ofNat 32 (grid2.coords ⟨n + 1, hn⟩ 0).val) (iblk2 V c 0 ⟨n + 1, hn⟩) (iblk2 V c 2 ⟨n + 1, hn⟩) (iblk2 V c 3 ⟨n + 1, hn⟩) (iblk2 V c 7 ⟨n + 1, hn⟩) (ptxAt c n (Nat.lt_of_succ_lt hn))
theorem ptxAt_A (c : Dev nD) (t : Fin cfg2.N) (h0 : t.val % 167 = 0) : ptxAt V c t.val t.isLt = ptx2 (BitVec.ofNat 32 (grid2.coords t 0).val) (iblk2 V c 0 t) (iblk2 V c 2 t) (iblk2 V c 3 t) (iblk2 V c 7 t) k2_pay4 := by
  have hN : t.val < 167 := lt_of_lt_of_eq t.isLt (show cfg2.N = 167 from N_2)
  obtain ⟨n, hn⟩ := t
  cases n with
  | zero => exact rfl
  | succ n => exact absurd h0 (by dsimp only at hN ⊢; omega)
theorem ptxAt_B (c : Dev nD) (t : Fin cfg2.N) (h0 : ¬t.val % 167 = 0) :
    ptxAt V c t.val t.isLt = ptx2 (BitVec.ofNat 32 (grid2.coords t 0).val) (iblk2 V c 0 t) (iblk2 V c 2 t) (iblk2 V c 3 t) (iblk2 V c 7 t) (ptxAt V c (t.val - 1) (Nat.lt_of_le_of_lt (Nat.sub_le _ _) t.isLt)) := by
  obtain ⟨n, hn⟩ := t
  cases n with
  | zero => exact absurd (Nat.zero_mod _) h0
  | succ n => exact rfl
/-- What output window 11 holds after the point of position `n`. -/
def pdxAt (c : Dev nD) : (n : ℕ) → n < cfg2.N → Vec F S64x128 .f32
  | 0, hn => pdx2 (BitVec.ofNat 32 (grid2.coords ⟨0, hn⟩ 0).val) (iblk2 V c 1 ⟨0, hn⟩) (iblk2 V c 4 ⟨0, hn⟩) (iblk2 V c 5 ⟨0, hn⟩) (iblk2 V c 7 ⟨0, hn⟩) k2_pay5
  | n + 1, hn => pdx2 (BitVec.ofNat 32 (grid2.coords ⟨n + 1, hn⟩ 0).val) (iblk2 V c 1 ⟨n + 1, hn⟩) (iblk2 V c 4 ⟨n + 1, hn⟩) (iblk2 V c 5 ⟨n + 1, hn⟩) (iblk2 V c 7 ⟨n + 1, hn⟩) (pdxAt c n (Nat.lt_of_succ_lt hn))
theorem pdxAt_A (c : Dev nD) (t : Fin cfg2.N) (h0 : t.val % 167 = 0) : pdxAt V c t.val t.isLt = pdx2 (BitVec.ofNat 32 (grid2.coords t 0).val) (iblk2 V c 1 t) (iblk2 V c 4 t) (iblk2 V c 5 t) (iblk2 V c 7 t) k2_pay5 := by
  have hN : t.val < 167 := lt_of_lt_of_eq t.isLt (show cfg2.N = 167 from N_2)
  obtain ⟨n, hn⟩ := t
  cases n with
  | zero => exact rfl
  | succ n => exact absurd h0 (by dsimp only at hN ⊢; omega)
theorem pdxAt_B (c : Dev nD) (t : Fin cfg2.N) (h0 : ¬t.val % 167 = 0) :
    pdxAt V c t.val t.isLt = pdx2 (BitVec.ofNat 32 (grid2.coords t 0).val) (iblk2 V c 1 t) (iblk2 V c 4 t) (iblk2 V c 5 t) (iblk2 V c 7 t) (pdxAt V c (t.val - 1) (Nat.lt_of_le_of_lt (Nat.sub_le _ _) t.isLt)) := by
  obtain ⟨n, hn⟩ := t
  cases n with
  | zero => exact absurd (Nat.zero_mod _) h0
  | succ n => exact rfl

/-- The region's proof data: the arrays as the region finds them, what the body leaves in each window's buffer, nothing owed. -/
def dats2 (c : Dev nD) : Dat τ (Elt F) Unit ℕ (UR sig nD τ) ℕ cfg2 c where
  A w := VB V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => residTile V c t
    | ⟨9, _⟩ => bonusTile V c t
    | ⟨10, _⟩ => ptxAt V c t.val t.isLt
    | ⟨11, _⟩ => pdxAt V c t.val t.isLt
  Φ _ := Pipeline.ΦA spec2 c
  q _ := fullShare
  owed _ := 0
theorem A_eq2 (c : Dev nD) (w : Fin cfg2.W) : (dats2 V c).A w = VB V c (Pipeline.arrRef spec2 w) := by dsimp only [dats2]
theorem after2_0 (c : Dev nD) (t : Fin cfg2.N) : (dats2 V c).after 0 t = iblk2 V c 0 t := by dsimp only [dats2]
theorem after2_1 (c : Dev nD) (t : Fin cfg2.N) : (dats2 V c).after 1 t = iblk2 V c 1 t := by dsimp only [dats2]
theorem after2_2 (c : Dev nD) (t : Fin cfg2.N) : (dats2 V c).after 2 t = iblk2 V c 2 t := by dsimp only [dats2]
theorem after2_3 (c : Dev nD) (t : Fin cfg2.N) : (dats2 V c).after 3 t = iblk2 V c 3 t := by dsimp only [dats2]
theorem after2_4 (c : Dev nD) (t : Fin cfg2.N) : (dats2 V c).after 4 t = iblk2 V c 4 t := by dsimp only [dats2]
theorem after2_5 (c : Dev nD) (t : Fin cfg2.N) : (dats2 V c).after 5 t = iblk2 V c 5 t := by dsimp only [dats2]
theorem after2_6 (c : Dev nD) (t : Fin cfg2.N) : (dats2 V c).after 6 t = iblk2 V c 6 t := by dsimp only [dats2]
theorem after2_7 (c : Dev nD) (t : Fin cfg2.N) : (dats2 V c).after 7 t = iblk2 V c 7 t := by dsimp only [dats2]
theorem after2_8 (c : Dev nD) (t : Fin cfg2.N) : (dats2 V c).after 8 t = residTile V c t := by dsimp only [dats2]
theorem after2_9 (c : Dev nD) (t : Fin cfg2.N) : (dats2 V c).after 9 t = bonusTile V c t := by dsimp only [dats2]
theorem after2_10 (c : Dev nD) (t : Fin cfg2.N) : (dats2 V c).after 10 t = ptxAt V c t.val t.isLt := by dsimp only [dats2]
theorem after2_11 (c : Dev nD) (t : Fin cfg2.N) : (dats2 V c).after 11 t = pdxAt V c t.val t.isLt := by dsimp only [dats2]
theorem before2_0 (c : Dev nD) (t : Fin cfg2.N) (d) : (dats2 V c).before 0 t d = iblk2 V c 0 t :=
  before2_0_of V (dats2 V c) (A_eq2 V c 0) (after2_0 V c) t d
theorem before2_1 (c : Dev nD) (t : Fin cfg2.N) (d) : (dats2 V c).before 1 t d = iblk2 V c 1 t :=
  before2_1_of V (dats2 V c) (A_eq2 V c 1) (after2_1 V c) t d
theorem before2_2 (c : Dev nD) (t : Fin cfg2.N) (d) : (dats2 V c).before 2 t d = iblk2 V c 2 t :=
  before2_2_of V (dats2 V c) (A_eq2 V c 2) (after2_2 V c) t d
theorem before2_3 (c : Dev nD) (t : Fin cfg2.N) (d) : (dats2 V c).before 3 t d = iblk2 V c 3 t :=
  before2_3_of V (dats2 V c) (A_eq2 V c 3) (after2_3 V c) t d
theorem before2_4 (c : Dev nD) (t : Fin cfg2.N) (d) : (dats2 V c).before 4 t d = iblk2 V c 4 t :=
  before2_4_of V (dats2 V c) (A_eq2 V c 4) (after2_4 V c) t d
theorem before2_5 (c : Dev nD) (t : Fin cfg2.N) (d) : (dats2 V c).before 5 t d = iblk2 V c 5 t :=
  before2_5_of V (dats2 V c) (A_eq2 V c 5) (after2_5 V c) t d
theorem before2_6 (c : Dev nD) (t : Fin cfg2.N) (d) : (dats2 V c).before 6 t d = iblk2 V c 6 t :=
  before2_6_of V (dats2 V c) (A_eq2 V c 6) (after2_6 V c) t d
theorem before2_7 (c : Dev nD) (t : Fin cfg2.N) (d) : (dats2 V c).before 7 t d = iblk2 V c 7 t :=
  before2_7_of V (dats2 V c) (A_eq2 V c 7) (after2_7 V c) t d
theorem before2_10_B (c : Dev nD) (t : Fin cfg2.N) (h0 : ¬t.val % 167 = 0) (d) : (dats2 V c).before 10 t d = ptxAt V c (t.val - 1) (Nat.lt_of_le_of_lt (Nat.sub_le _ _) t.isLt) := by
  have hN : t.val < 167 := lt_of_lt_of_eq t.isLt (show cfg2.N = 167 from N_2)
  rw [Dat.before_out_kept _ 10 rfl t (by omega) (Bool.eq_false_iff.mpr fun h => by have := (flush2_10 _).mp h; dsimp only at this; omega)
    (fun _ => rfl) (fun _ _ => rfl)]
  dsimp only [dats2]
theorem before2_11_B (c : Dev nD) (t : Fin cfg2.N) (h0 : ¬t.val % 167 = 0) (d) : (dats2 V c).before 11 t d = pdxAt V c (t.val - 1) (Nat.lt_of_le_of_lt (Nat.sub_le _ _) t.isLt) := by
  have hN : t.val < 167 := lt_of_lt_of_eq t.isLt (show cfg2.N = 167 from N_2)
  rw [Dat.before_out_kept _ 11 rfl t (by omega) (Bool.eq_false_iff.mpr fun h => by have := (flush2_11 _).mp h; dsimp only at this; omega)
    (fun _ => rfl) (fun _ _ => rfl)]
  dsimp only [dats2]

/-- What the body is called with at point `t`, -/
def bodyPre2 (c : Dev nD) (t : Fin cfg2.N) : sProp 𝕄 :=
  iprop((dats2 V c).Φ t.castSucc ∗ (dats2 V c).owesAt () t.castSucc
    ∗ (∃ d, owns (c : Thread nD τ) (win2_0.stage (cfg2.slots t 0)) fullShare ((dats2 V c).before 0 t d))
    ∗ (∃ d, owns (c : Thread nD τ) (win2_1.stage (cfg2.slots t 1)) fullShare ((dats2 V c).before 1 t d))
    ∗ (∃ d, owns (c : Thread nD τ) (win2_2.stage (cfg2.slots t 2)) fullShare ((dats2 V c).before 2 t d))
    ∗ (∃ d, owns (c : Thread nD τ) (win2_3.stage (cfg2.slots t 3)) fullShare ((dats2 V c).before 3 t d))
    ∗ (∃ d, owns (c : Thread nD τ) (win2_4.stage (cfg2.slots t 4)) fullShare ((dats2 V c).before 4 t d))
    ∗ (∃ d, owns (c : Thread nD τ) (win2_5.stage (cfg2.slots t 5)) fullShare ((dats2 V c).before 5 t d))
    ∗ (∃ d, owns (c : Thread nD τ) (win2_6.stage (cfg2.slots t 6)) fullShare ((dats2 V c).before 6 t d))
    ∗ (∃ d, owns (c : Thread nD τ) (win2_7.stage (cfg2.slots t 7)) fullShare ((dats2 V c).before 7 t d))
    ∗ (∃ d, owns (c : Thread nD τ) (win2_8.stage (cfg2.slots t 8)) fullShare ((dats2 V c).before 8 t d))
    ∗ (∃ d, owns (c : Thread nD τ) (win2_9.stage (cfg2.slots t 9)) fullShare ((dats2 V c).before 9 t d))
    ∗ (∃ d, owns (c : Thread nD τ) (win2_10.stage (cfg2.slots t 10)) fullShare ((dats2 V c).before 10 t d))
    ∗ (∃ d, owns (c : Thread nD τ) (win2_11.stage (cfg2.slots t 11)) fullShare ((dats2 V c).before 11 t d)))
/-- and what it returns. -/
def bodyPost2 (c : Dev nD) (t : Fin cfg2.N) : sProp 𝕄 :=
  iprop((dats2 V c).Φ t.succ ∗ (dats2 V c).owesAt () t.succ
    ∗ owns (c : Thread nD τ) (win2_0.stage (cfg2.slots t 0)) fullShare ((dats2 V c).after 0 t)
    ∗ owns (c : Thread nD τ) (win2_1.stage (cfg2.slots t 1)) fullShare ((dats2 V c).after 1 t)
    ∗ owns (c : Thread nD τ) (win2_2.stage (cfg2.slots t 2)) fullShare ((dats2 V c).after 2 t)
    ∗ owns (c : Thread nD τ) (win2_3.stage (cfg2.slots t 3)) fullShare ((dats2 V c).after 3 t)
    ∗ owns (c : Thread nD τ) (win2_4.stage (cfg2.slots t 4)) fullShare ((dats2 V c).after 4 t)
    ∗ owns (c : Thread nD τ) (win2_5.stage (cfg2.slots t 5)) fullShare ((dats2 V c).after 5 t)
    ∗ owns (c : Thread nD τ) (win2_6.stage (cfg2.slots t 6)) fullShare ((dats2 V c).after 6 t)
    ∗ owns (c : Thread nD τ) (win2_7.stage (cfg2.slots t 7)) fullShare ((dats2 V c).after 7 t)
    ∗ owns (c : Thread nD τ) (win2_8.stage (cfg2.slots t 8)) fullShare ((dats2 V c).after 8 t)
    ∗ owns (c : Thread nD τ) (win2_9.stage (cfg2.slots t 9)) fullShare ((dats2 V c).after 9 t)
    ∗ owns (c : Thread nD τ) (win2_10.stage (cfg2.slots t 10)) fullShare ((dats2 V c).after 10 t)
    ∗ owns (c : Thread nD τ) (win2_11.stage (cfg2.slots t 11)) fullShare ((dats2 V c).after 11 t))

set_option maxHeartbeats 1600000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dats2 V c).Φ t.succ = (dats2 V c).Φ t.castSucc from rfl,
    show (dats2 V c).owesAt () t.succ = (dats2 V c).owesAt () t.castSucc from rfl,
    after2_0, after2_1, after2_2, after2_3, after2_4, after2_5, after2_6, after2_7, after2_8, after2_9, after2_10, after2_11]
  have hN : t.val < 167 := lt_of_lt_of_eq t.isLt (show cfg2.N = 167 from N_2)
  by_cases h0 : t.val % 167 = 0
  · skip
    rw [ptxAt_A V c _ h0]
    rw [pdxAt_A V c _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) ((hcond2 t).mpr h0) (iblk2 V c 0 t) (iblk2 V c 1 t) (iblk2 V c 2 t) (iblk2 V c 3 t) (iblk2 V c 4 t) (iblk2 V c 5 t) (iblk2 V c 6 t) (iblk2 V c 7 t)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · skip
    rw [ptxAt_B V c t h0]
    rw [pdxAt_B V c t h0]
    simp only [before2_10_B V c t h0, before2_11_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (fun h => h0 ((hcond2 t).mp h)) (iblk2 V c 0 t) (iblk2 V c 1 t) (iblk2 V c 2 t) (iblk2 V c 3 t) (iblk2 V c 4 t) (iblk2 V c 5 t) (iblk2 V c 6 t) (iblk2 V c 7 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row2 (t : Fin cfg2.N) :
    defs₀ (F := F) .tc cfg2.body (cfg2.bodyArgs t (cfg2.slots t)) = bodyAt2 t := by
  unfold defs₀; rw [Defs.onTc_tc]

/-- The body obligation, at every point. -/
theorem body_obligation2 (c : Dev nD) : BodyObligation (dats2 (F := F) V c) (defs₀ (F := F)) Variants.none () Set.univ := fun t => by
  rw [bigSep_W2, bigSep_W2, defs₀_row2]
  exact triple_restated (sound_body2 V c t) rfl .rfl fun _ => .rfl

end Cert.Kernel.Hand

end
-- ==== Proof.Bits.Segs.lean ====
module

public import proofs.«01_k».proof.Proof.Bits.Obl0
public import proofs.«01_k».proof.Proof.Bits.Reg1
public import proofs.«01_k».proof.Proof.Bits.Reg2
public import proofs.«01_k».proof.Proof.Gen.Kernel.Regions
public import Idealize.ShloMosaic.Lib.Pipeline.RegionArraysS
public import Idealize.ShloMosaic.Lib.Pipeline.FrameTail

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! The buffers between the program's steps: at launch, after the first host stretch, after the heads' region, after the mass's
region, after the second host stretch, after the outputs' region, after the last host stretch. -/
def U0 (c : Dev nD) : Valuation τ sig (Elt F) := fun b => m (c, b)
def U1 (c : Dev nD) : Valuation τ sig (Elt F) := StableHlo.after hostOps0 (U0 m c)
def U2 (c : Dev nD) : Valuation τ sig (Elt F) := Pipeline.afterRegion (dats0 (U1 m) c) (U1 m c)
def U3 (c : Dev nD) : Valuation τ sig (Elt F) := Pipeline.afterRegion (dats1 (U2 m) c) (U2 m c)
def U4 (c : Dev nD) : Valuation τ sig (Elt F) := StableHlo.after hostOps2 (U3 m c)
def U5 (c : Dev nD) : Valuation τ sig (Elt F) := Pipeline.afterRegion (dats2 (U4 m) c) (U4 m c)
def U6 (c : Dev nD) : Valuation τ sig (Elt F) := StableHlo.after hostOps3 (U5 m c)

/-- The three regions' proof data. -/
def pdats : (p : Fin 3) → (c : Dev nD) → Dat τ (Elt F) Unit ℕ (UR sig nD τ) ℕ (cfgs p) c
  | 0 => dats0 (U1 m)
  | 1 => dats1 (U2 m)
  | 2 => dats2 (U4 m)

/-! What each step leaves unchanged. -/
theorem U1_of (c : Dev nD) (r : Ref sig .tc) (h : r ∉ hostOps0_W) : U1 m c r = U0 m c r :=
  StableHlo.after_of_writes_sub hostOps0 _ hostOps0_writes h
theorem U4_of (c : Dev nD) (r : Ref sig .tc) (h : r ∉ hostOps2_W) : U4 m c r = U3 m c r :=
  StableHlo.after_of_writes_sub hostOps2 _ hostOps2_writes h
theorem U6_of (c : Dev nD) (r : Ref sig .tc) (h : r ∉ hostOps3_W) : U6 m c r = U5 m c r :=
  StableHlo.after_of_writes_sub hostOps3 _ hostOps3_writes h

theorem inj0 : Function.Injective (Pipeline.arrRef spec0) := launch0.win.arr_inj
theorem U2_of (c : Dev nD) (r : Ref sig .tc) (h : r ∉ ([main_v5_0, main_v5_1, main_v5_2, main_v5_3, main_v5_4, main_v5_5, main_v5_6, main_v5_7] : List (Ref sig .tc))) : U2 m c r = U1 m c r :=
  Pipeline.afterRegion_keeps (dats0 (U1 m) c) (U1 m c) inj0 (fun w => A_eq0 (U1 m) c w) r fun w e => by
    subst e
    revert h
    revert w
    decide
theorem U2_arr (c : Dev nD) (w : Fin cfg0.W) : U2 m c (Pipeline.arrRef spec0 w) = (dats0 (U1 m) c).arrAt w cfg0.N :=
  Pipeline.afterRegion_arr (dats0 (U1 m) c) (U1 m c) inj0 w

theorem inj1 : Function.Injective (Pipeline.arrRef spec1) := launch1.win.arr_inj
theorem U3_of (c : Dev nD) (r : Ref sig .tc) (h : r ∉ ([main_v6] : List (Ref sig .tc))) : U3 m c r = U2 m c r :=
  Pipeline.afterRegion_keeps (dats1 (U2 m) c) (U2 m c) inj1 (fun w => A_eq1 (U2 m) c w) r fun w e => by
    subst e
    revert h
    revert w
    decide
theorem U3_arr (c : Dev nD) (w : Fin cfg1.W) : U3 m c (Pipeline.arrRef spec1 w) = (dats1 (U2 m) c).arrAt w cfg1.N :=
  Pipeline.afterRegion_arr (dats1 (U2 m) c) (U2 m c) inj1 w

theorem inj2 : Function.Injective (Pipeline.arrRef spec2) := launch2.win.arr_inj
theorem U5_of (c : Dev nD) (r : Ref sig .tc) (h : r ∉ ([main_v9_0, main_v9_1, main_v9_2, main_v9_3] : List (Ref sig .tc))) : U5 m c r = U4 m c r :=
  Pipeline.afterRegion_keeps (dats2 (U4 m) c) (U4 m c) inj2 (fun w => A_eq2 (U4 m) c w) r fun w e => by
    subst e
    revert h
    revert w
    decide
theorem U5_arr (c : Dev nD) (w : Fin cfg2.W) : U5 m c (Pipeline.arrRef spec2 w) = (dats2 (U4 m) c).arrAt w cfg2.N :=
  Pipeline.afterRegion_arr (dats2 (U4 m) c) (U4 m c) inj2 w

theorem U6_main_arg0 (c : Dev nD) : U6 m c main_arg0 = m ((c : Thread nD τ).loc main_arg0) :=
  (U6_of m c main_arg0 (by decide)).trans <| (U5_of m c main_arg0 (by decide)).trans <| (U4_of m c main_arg0 (by decide)).trans <| (U3_of m c main_arg0 (by decide)).trans <| (U2_of m c main_arg0 (by decide)).trans <| (U1_of m c main_arg0 (by decide)).trans rfl
theorem U6_main_arg1 (c : Dev nD) : U6 m c main_arg1 = m ((c : Thread nD τ).loc main_arg1) :=
  (U6_of m c main_arg1 (by decide)).trans <| (U5_of m c main_arg1 (by decide)).trans <| (U4_of m c main_arg1 (by decide)).trans <| (U3_of m c main_arg1 (by decide)).trans <| (U2_of m c main_arg1 (by decide)).trans <| (U1_of m c main_arg1 (by decide)).trans rfl
theorem U6_main_arg2 (c : Dev nD) : U6 m c main_arg2 = m ((c : Thread nD τ).loc main_arg2) :=
  (U6_of m c main_arg2 (by decide)).trans <| (U5_of m c main_arg2 (by decide)).trans <| (U4_of m c main_arg2 (by decide)).trans <| (U3_of m c main_arg2 (by decide)).trans <| (U2_of m c main_arg2 (by decide)).trans <| (U1_of m c main_arg2 (by decide)).trans rfl
theorem U6_main_arg3 (c : Dev nD) : U6 m c main_arg3 = m ((c : Thread nD τ).loc main_arg3) :=
  (U6_of m c main_arg3 (by decide)).trans <| (U5_of m c main_arg3 (by decide)).trans <| (U4_of m c main_arg3 (by decide)).trans <| (U3_of m c main_arg3 (by decide)).trans <| (U2_of m c main_arg3 (by decide)).trans <| (U1_of m c main_arg3 (by decide)).trans rfl
theorem U6_main_arg4 (c : Dev nD) : U6 m c main_arg4 = m ((c : Thread nD τ).loc main_arg4) :=
  (U6_of m c main_arg4 (by decide)).trans <| (U5_of m c main_arg4 (by decide)).trans <| (U4_of m c main_arg4 (by decide)).trans <| (U3_of m c main_arg4 (by decide)).trans <| (U2_of m c main_arg4 (by decide)).trans <| (U1_of m c main_arg4 (by decide)).trans rfl
theorem U6_main_arg5 (c : Dev nD) : U6 m c main_arg5 = m ((c : Thread nD τ).loc main_arg5) :=
  (U6_of m c main_arg5 (by decide)).trans <| (U5_of m c main_arg5 (by decide)).trans <| (U4_of m c main_arg5 (by decide)).trans <| (U3_of m c main_arg5 (by decide)).trans <| (U2_of m c main_arg5 (by decide)).trans <| (U1_of m c main_arg5 (by decide)).trans rfl
theorem U6_main_arg6 (c : Dev nD) : U6 m c main_arg6 = m ((c : Thread nD τ).loc main_arg6) :=
  (U6_of m c main_arg6 (by decide)).trans <| (U5_of m c main_arg6 (by decide)).trans <| (U4_of m c main_arg6 (by decide)).trans <| (U3_of m c main_arg6 (by decide)).trans <| (U2_of m c main_arg6 (by decide)).trans <| (U1_of m c main_arg6 (by decide)).trans rfl
theorem U6_main_arg7 (c : Dev nD) : U6 m c main_arg7 = m ((c : Thread nD τ).loc main_arg7) :=
  (U6_of m c main_arg7 (by decide)).trans <| (U5_of m c main_arg7 (by decide)).trans <| (U4_of m c main_arg7 (by decide)).trans <| (U3_of m c main_arg7 (by decide)).trans <| (U2_of m c main_arg7 (by decide)).trans <| (U1_of m c main_arg7 (by decide)).trans rfl
theorem U6_main_arg8 (c : Dev nD) : U6 m c main_arg8 = m ((c : Thread nD τ).loc main_arg8) :=
  (U6_of m c main_arg8 (by decide)).trans <| (U5_of m c main_arg8 (by decide)).trans <| (U4_of m c main_arg8 (by decide)).trans <| (U3_of m c main_arg8 (by decide)).trans <| (U2_of m c main_arg8 (by decide)).trans <| (U1_of m c main_arg8 (by decide)).trans rfl

/-! The program's steps as the segments of a run. -/

/-- The level of the cells' only tag. -/
def lvL : GSem nD τ sig → Finset Unit := fun g => if g.1.2 = .tc then {()} else ∅
def lvV : GSem nD τ sig → Unit → ℕ := fun _ _ => 0

theorem lvCut (p : Fin 3) : Pipeline.LevelCut (pcfgs (F := F)) adm () lvL lvV p (fun _ => 0) (fun _ => 0) where
  hι _ _ _ := by unfold lvL; rw [if_pos rfl]; exact Finset.mem_singleton_self _
  hιb _ _ _ := le_refl _
  hD _ _ _ h := absurd h (lt_irrefl 0)

/-- What rides along beside the buffers: nothing owed, and the generator's register. -/
def rest (c : Dev nD) : sProp 𝕄 := iprop((∃ Wd, owes (c : Thread nD τ) (0 : CellTallies nD τ sig Unit) Wd) ∗ (∃ r, prngReg c r) ∗ emp)

def hseg0 : HostSeg (Ix := Unit) (Name := ℕ) (U := UR sig nD τ) (Lvl := ℕ) (pcfgs (F := F)) defs₀ Variants.none lvL lvV :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) rest

def hseg3 : HostSeg (Ix := Unit) (Name := ℕ) (U := UR sig nD τ) (Lvl := ℕ) (pcfgs (F := F)) defs₀ Variants.none lvL lvV :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U3 m) rest

def hseg5 : HostSeg (Ix := Unit) (Name := ℕ) (U := UR sig nD τ) (Lvl := ℕ) (pcfgs (F := F)) defs₀ Variants.none lvL lvV :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U5 m) rest

set_option maxHeartbeats 1600000 in
/-- Region 0. -/
def rseg0 : RegionSeg (pcfgs (F := F)) adm (pdats m) () defs₀ Variants.none lvL lvV 0 :=
  RegionSeg.ofHeldIn (pcfgs (F := F)) adm (pdats m) () defs₀ Variants.none lvL lvV 0 (fun _ => 0) (Pipeline.ucRefs τ sig)
    (fun c => iprop(∃ r, prngReg c r)) (fun c => iprop(∃ r, prngReg c r)) launch0.toP rfl
    (fun c => (body_obligation0 (U1 m) c).loose) (fun _ _ => rfl) (fun _ => rfl)
    (fun c => (dats0 (U1 m) c).share_full fun _ => rfl) (fun c => BI.Entails.refl _) (fun c => BI.Entails.refl _) (fun _ => 0)
    (lvCut 0) (fun _ => iprop(emp)) (U1 m) (fun c w => A_eq0 (U1 m) c w)
set_option maxHeartbeats 1600000 in
theorem rseg0_pre (c : Dev nD) : iprop(StableHlo.held (c : Thread nD τ) (Pipeline.ucRefs τ sig) (U1 m c) ∗ rest c) ⊢ (rseg0 m).pre c :=
  by unfold rseg0 rest; refine BI.Entails.trans ?_ (RegionSeg.ofHeldIn_pre (p := 0) (Pipeline.arrRefs_sub_ucRefs _ launch0.win.arr_unscoped) c); exact BI.Entails.refl _
set_option maxHeartbeats 1600000 in
theorem rseg0_post (c : Dev nD) : (rseg0 m).post c ⊢ iprop(StableHlo.held (c : Thread nD τ) (Pipeline.ucRefs τ sig) (U2 m c) ∗ rest c) :=
  by unfold rseg0 rest; exact RegionSeg.ofHeldIn_post (p := 0) (Pipeline.arrRefs_sub_ucRefs _ launch0.win.arr_unscoped) c

set_option maxHeartbeats 1600000 in
/-- Region 1. -/
def rseg1 : RegionSeg (pcfgs (F := F)) adm (pdats m) () defs₀ Variants.none lvL lvV 1 :=
  RegionSeg.ofHeldIn (pcfgs (F := F)) adm (pdats m) () defs₀ Variants.none lvL lvV 1 (fun _ => 0) (Pipeline.ucRefs τ sig)
    (fun c => iprop(∃ r, prngReg c r)) (fun c => iprop(∃ r, prngReg c r)) launch1.toP rfl
    (fun c => (body_obligation1 (U2 m) c).loose) (fun _ _ => rfl) (fun _ => rfl)
    (fun c => (dats1 (U2 m) c).share_full fun _ => rfl) (fun c => BI.Entails.refl _) (fun c => BI.Entails.refl _) (fun _ => 0)
    (lvCut 1) (fun _ => iprop(emp)) (U2 m) (fun c w => A_eq1 (U2 m) c w)
set_option maxHeartbeats 1600000 in
theorem rseg1_pre (c : Dev nD) : iprop(StableHlo.held (c : Thread nD τ) (Pipeline.ucRefs τ sig) (U2 m c) ∗ rest c) ⊢ (rseg1 m).pre c :=
  by unfold rseg1 rest; refine BI.Entails.trans ?_ (RegionSeg.ofHeldIn_pre (p := 1) (Pipeline.arrRefs_sub_ucRefs _ launch1.win.arr_unscoped) c); exact BI.Entails.refl _
set_option maxHeartbeats 1600000 in
theorem rseg1_post (c : Dev nD) : (rseg1 m).post c ⊢ iprop(StableHlo.held (c : Thread nD τ) (Pipeline.ucRefs τ sig) (U3 m c) ∗ rest c) :=
  by unfold rseg1 rest; exact RegionSeg.ofHeldIn_post (p := 1) (Pipeline.arrRefs_sub_ucRefs _ launch1.win.arr_unscoped) c

set_option maxHeartbeats 1600000 in
/-- Region 2. -/
def rseg2 : RegionSeg (pcfgs (F := F)) adm (pdats m) () defs₀ Variants.none lvL lvV 2 :=
  RegionSeg.ofHeldIn (pcfgs (F := F)) adm (pdats m) () defs₀ Variants.none lvL lvV 2 (fun _ => 0) (Pipeline.ucRefs τ sig)
    (fun c => iprop(∃ r, prngReg c r)) (fun c => iprop(∃ r, prngReg c r)) launch2.toP rfl
    (fun c => (body_obligation2 (U4 m) c).loose) (fun _ _ => rfl) (fun _ => rfl)
    (fun c => (dats2 (U4 m) c).share_full fun _ => rfl) (fun c => BI.Entails.refl _) (fun c => BI.Entails.refl _) (fun _ => 0)
    (lvCut 2) (fun _ => iprop(emp)) (U4 m) (fun c w => A_eq2 (U4 m) c w)
set_option maxHeartbeats 1600000 in
theorem rseg2_pre (c : Dev nD) : iprop(StableHlo.held (c : Thread nD τ) (Pipeline.ucRefs τ sig) (U4 m c) ∗ rest c) ⊢ (rseg2 m).pre c :=
  by unfold rseg2 rest; refine BI.Entails.trans ?_ (RegionSeg.ofHeldIn_pre (p := 2) (Pipeline.arrRefs_sub_ucRefs _ launch2.win.arr_unscoped) c); exact BI.Entails.refl _
set_option maxHeartbeats 1600000 in
theorem rseg2_post (c : Dev nD) : (rseg2 m).post c ⊢ iprop(StableHlo.held (c : Thread nD τ) (Pipeline.ucRefs τ sig) (U5 m c) ∗ rest c) :=
  by unfold rseg2 rest; exact RegionSeg.ofHeldIn_post (p := 2) (Pipeline.arrRefs_sub_ucRefs _ launch2.win.arr_unscoped) c

end Cert.Kernel.Hand

end
-- ==== Proof.Bits.Whole.lean ====
module

public import proofs.«01_k».proof.Proof.Bits.Segs
public import proofs.«01_k».proof.Proof.Bits.Reg1
public import proofs.«01_k».proof.Proof.Bits.Reg2
public import proofs.«01_k».proof.Proof.Gen.Kernel.Regions
public import Idealize.ShloMosaic.Lib.Pipeline.RegionArraysS
public import Idealize.ShloMosaic.Lib.Pipeline.FrameTail

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-- The program's steps. -/
abbrev wsegs : List (Seg (pcfgs (F := F)) adm (pdats m) () defs₀ Variants.none lvL lvV) :=
  [.host (hseg0 m), .region (rseg0 m), .region (rseg1 m), .host (hseg3 m), .region (rseg2 m), .host (hseg5 m)]

-- the run's implicit arguments are found by unifying its conclusion with this one, which takes unfolding plain definitions in a metavariable's type
set_option backward.isDefEq.respectTransparency.types false in
set_option maxHeartbeats 1600000 in
/-- From memory `m` every run of the program ends, with every buffer of a TensorCore at `U6` and every semaphore counter at zero. -/
theorem run_whole (ρ : Dev nD → PrngReg) : θ_run defs (onTc (τ := τ) (main (F := F))) ⟨m, fun _ => 0, ρ⟩ (fun r =>
    (∀ c : Dev nD, ∀ b ∈ Pipeline.ucRefs τ sig, r.2.mem ((c.tc : Thread nD τ).1, b) = U6 m c b) ∧ r.2.sem = fun _ => 0) := by
  refine Pipeline.θ_run_regions_kit_dev_sems (pcfgs (F := F)) adm (pdats m) () cellOf_inj emb₁ defs₀ Variants.none lvL lvV m ρ main
    (fun _ => wsegs m)
    (fun c Q => by
      rewrite [main_chain c, Seg.run_eq_chain,
        show (wsegs m).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [wsegs, Seg.pipes_host, Seg.pipes_region, Seg.pipes_nil]; decide) (fun _ => 0)
    (fun g hg => by unfold lvL; rw [if_neg hg]) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ rest c))
    (Tₙ := fun c => StableHlo.held (c : Thread nD τ) (Pipeline.ucRefs τ sig) (U6 m c))
    (hch := fun c => ⟨.rfl, rseg0_pre m c, (rseg0_post m c).trans (rseg1_pre m c), rseg1_post m c, rseg2_pre m c, rseg2_post m c,
      sep_mono .rfl (by unfold rest; iintro ⟨HO, -, -⟩; iexact HO)⟩)
    (hinit := ?_) (QY := fun c s => ∀ b ∈ Pipeline.ucRefs τ sig, s.mem ((c.tc : Thread nD τ).1, b) = U6 m c b)
    (hfin := fun c s' => ?_) (hQ := fun _ h hz => ⟨h, funext fun g => hz g (.inr (regions_no_unscoped g.2))⟩)
  · refine Pipeline.initEach lvL lvV fun c => ?_
    rw [show unscopedBufs c (fun b => m ((c.tc : Thread nD τ).loc b)) = StableHlo.held (c.tc : Thread nD τ) (Pipeline.ucRefs τ sig) (U0 m c)
        from Pipeline.unscopedBufs_held (Ix := Unit) (Name := ℕ) (U := UR sig nD τ) (Lvl := ℕ) c (U0 m c)]
    unfold rest
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (U6 m c) s') $$ [Hh HSI]
    · isplitl [Hh] <;> iassumption
    imodintro; iexact Hr

/-- A buffer of the program at the end of a run that `run_whole` describes. -/
theorem read_whole {c : Dev nD} {s : (ℓ : Loc nD τ sig) → Buf (Elt F) ℓ}
    (h : ∀ b ∈ Pipeline.ucRefs τ sig, s ((c.tc : Thread nD τ).1, b) = U6 m c b) (r : Ref sig .tc) (hr : r.isScoped = false) :
    s ((c.tc : Thread nD τ).loc r) = U6 m c r :=
  h (Proc.devRef .tc r) (Finset.mem_filter.mpr ⟨StableHlo.devRef_mem_tcRefs r, by simpa using hr⟩)

/-- The frame: every argument ends as launched and every semaphore counter is at zero. -/
theorem frame_whole (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(read_whole m (h.1 c) main_arg0 rfl).trans (U6_main_arg0 m c), (read_whole m (h.1 c) main_arg1 rfl).trans (U6_main_arg1 m c), (read_whole m (h.1 c) main_arg2 rfl).trans (U6_main_arg2 m c), (read_whole m (h.1 c) main_arg3 rfl).trans (U6_main_arg3 m c), (read_whole m (h.1 c) main_arg4 rfl).trans (U6_main_arg4 m c), (read_whole m (h.1 c) main_arg5 rfl).trans (U6_main_arg5 m c), (read_whole m (h.1 c) main_arg6 rfl).trans (U6_main_arg6 m c), (read_whole m (h.1 c) main_arg7 rfl).trans (U6_main_arg7 m c), (read_whole m (h.1 c) main_arg8 rfl).trans (U6_main_arg8 m c)⟩, h.2⟩) (run_whole m ρ)

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Equal
public import proofs.«01_k».proof.Proof.Whole
public import proofs.«01_k».proof.Proof.Bits.Whole
public import Idealize.ShloMosaic.Adequacy
public import Idealize.ShloMosaic.Init

@[expose] public section

noncomputable section

namespace Cert.Proof

open Idealize.ShloMosaic Idealize.ShloMosaic.TcCoe Idealize.SL.Sem

theorem algebraic : Cert.algebraic_KernelIdeal_ReferenceIdeal (hKernelIdeal := Cert.KernelIdeal.Gen.facts) (hReferenceIdeal := Cert.ReferenceIdeal.Gen.facts) := by
  intro m g m' g' _ hsame
  have same : ∀ c, Cert.Equal.Same m m' c := fun c => by
    obtain ⟨h0, h1, h2, h3, h4, h5, h6, h7, h8⟩ := hsame c
    exact ⟨fun i j k => congrFun h0 (ix3 i j k), fun i j => congrFun h1 (ix2 i j), fun i j => congrFun h2 (ix2 i j), fun i j k => congrFun h3 (ix3 i j k), fun i j => congrFun h4 (ix2 i j),
      fun i => congrFun h5 (ix1 i), fun i j => congrFun h6 (ix2 i j), fun i j => congrFun h7 (ix2 i j), fun i => congrFun h8 (ix1 i)⟩
  refine ⟨fun c => Cert.KernelIdeal.Hand.U6 m c Cert.KernelIdeal.main_v22, fun c => Cert.KernelIdeal.Hand.U6 m c Cert.KernelIdeal.main_v27, fun c => Cert.KernelIdeal.Hand.U6 m c Cert.KernelIdeal.main_v20,
    fun c => Cert.KernelIdeal.Hand.U6 m c Cert.KernelIdeal.main_v28, fun c => Cert.KernelIdeal.Hand.U6 m c Cert.KernelIdeal.main_v9_1, fun c => Cert.KernelIdeal.Hand.U6 m c Cert.KernelIdeal.main_v30,
    fun c => Cert.KernelIdeal.Hand.U6 m c Cert.KernelIdeal.main_v34, ?_, ?_⟩
  · refine (θ_run _ _ _).mono (fun r h c => ?_) (Cert.KernelIdeal.Hand.run_whole (F := Ideal) m g)
    have H := h.1 c
    exact ⟨Cert.KernelIdeal.Hand.read_whole m H Cert.KernelIdeal.main_v22 rfl, Cert.KernelIdeal.Hand.read_whole m H Cert.KernelIdeal.main_v27 rfl, Cert.KernelIdeal.Hand.read_whole m H Cert.KernelIdeal.main_v20 rfl, Cert.KernelIdeal.Hand.read_whole m H Cert.KernelIdeal.main_v28 rfl,
      Cert.KernelIdeal.Hand.read_whole m H Cert.KernelIdeal.main_v9_1 rfl, Cert.KernelIdeal.Hand.read_whole m H Cert.KernelIdeal.main_v30 rfl, Cert.KernelIdeal.Hand.read_whole m H Cert.KernelIdeal.main_v34 rfl,
      (Cert.KernelIdeal.Hand.read_whole m H Cert.KernelIdeal.main_arg0 rfl).trans (Cert.KernelIdeal.Hand.U6_main_arg0 m c), (Cert.KernelIdeal.Hand.read_whole m H Cert.KernelIdeal.main_arg1 rfl).trans (Cert.KernelIdeal.Hand.U6_main_arg1 m c),
      (Cert.KernelIdeal.Hand.read_whole m H Cert.KernelIdeal.main_arg2 rfl).trans (Cert.KernelIdeal.Hand.U6_main_arg2 m c), (Cert.KernelIdeal.Hand.read_whole m H Cert.KernelIdeal.main_arg3 rfl).trans (Cert.KernelIdeal.Hand.U6_main_arg3 m c),
      (Cert.KernelIdeal.Hand.read_whole m H Cert.KernelIdeal.main_arg4 rfl).trans (Cert.KernelIdeal.Hand.U6_main_arg4 m c), (Cert.KernelIdeal.Hand.read_whole m H Cert.KernelIdeal.main_arg5 rfl).trans (Cert.KernelIdeal.Hand.U6_main_arg5 m c),
      (Cert.KernelIdeal.Hand.read_whole m H Cert.KernelIdeal.main_arg6 rfl).trans (Cert.KernelIdeal.Hand.U6_main_arg6 m c), (Cert.KernelIdeal.Hand.read_whole m H Cert.KernelIdeal.main_arg7 rfl).trans (Cert.KernelIdeal.Hand.U6_main_arg7 m c),
      (Cert.KernelIdeal.Hand.read_whole m H Cert.KernelIdeal.main_arg8 rfl).trans (Cert.KernelIdeal.Hand.U6_main_arg8 m c)⟩
  · refine (θ_run _ _ _).mono (fun r h c => ?_) (Cert.ReferenceIdeal.Hand.run_ref m' g')
    obtain ⟨h0, h1, h2, h3, h4, h5, h6, hargs⟩ := h c
    have s := same c
    exact ⟨h0.trans (Cert.Equal.eq0 s), h1.trans (Cert.Equal.eq1 s), h2.trans (Cert.Equal.eq2 s), h3.trans (Cert.Equal.eq3 s), h4.trans (Cert.Equal.eq4 s), h5.trans (Cert.Equal.eq5 s), h6.trans (Cert.Equal.eq6 s), hargs⟩

theorem claim : Cert.Claim := ⟨Cert.Kernel.Gen.facts, Cert.KernelIdeal.Gen.facts, Cert.ReferenceIdeal.Gen.facts,
  fun m g _ => Cert.Kernel.Hand.frame_whole m g,
  fun m g _ => Cert.KernelIdeal.Hand.frame_whole m g,
  fun m g _ => Cert.ReferenceIdeal.Gen.frame m g,
  trivial, algebraic⟩

end Cert.Proof

end
